-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_active [hKernel2Ideal : Cert.Kernel2Ideal.Facts] [hReference2Ideal : Cert.Reference2Ideal.Facts] [hPre_tables : Cert.Pre_tables.Facts] [hOn_active : Cert.On_active.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![455680, 1024]⟩ : Shape).Idx, (Cert.On_active.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![455680, 1024]⟩ : Shape).Idx, (Cert.On_active.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v36) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v47_3)) (v1 : (c : Dev Cert.Kernel4Ideal.nD) → Buf (Elt Ideal) ((c.tc : Thread Cert.Kernel4Ideal.nD Cert.Kernel4Ideal.τ).loc Cert.Kernel4Ideal.main_v47_4)) (v2 : (c : Dev Cert.Kernel4Ideal.nD) → Buf (Elt Ideal) ((c.tc : Thread Cert.Kernel4Ideal.nD Cert.Kernel4Ideal.τ).loc Cert.Kernel4Ideal.main_v47_5)) (v3 : (c : Dev Cert.Kernel4Ideal.nD) → Buf (Elt Ideal) ((c.tc : Thread Cert.Kernel4Ideal.nD Cert.Kernel4Ideal.τ).loc Cert.Kernel4Ideal.main_v47_9)) (v4 : (c : Dev Cert.Kernel4Ideal.nD) → Buf (Elt Ideal) ((c.tc : Thread Cert.Kernel4Ideal.nD Cert.Kernel4Ideal.τ).loc Cert.Kernel4Ideal.main_v47_10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_3) = v0 c
          ∧ r.2.mem ((c.tc : Thread Cert.Kernel4Ideal.nD Cert.Kernel4Ideal.τ).loc Cert.Kernel4Ideal.main_v47_4) = v1 c
          ∧ r.2.mem ((c.tc : Thread Cert.Kernel4Ideal.nD Cert.Kernel4Ideal.τ).loc Cert.Kernel4Ideal.main_v47_5) = v2 c
          ∧ r.2.mem ((c.tc : Thread Cert.Kernel4Ideal.nD Cert.Kernel4Ideal.τ).loc Cert.Kernel4Ideal.main_v47_9) = v3 c
          ∧ r.2.mem ((c.tc : Thread Cert.Kernel4Ideal.nD Cert.Kernel4Ideal.τ).loc Cert.Kernel4Ideal.main_v47_10) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_v62) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_v66) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables : Cert.Pre_tables.Facts) (hOn_active : Cert.On_active.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_active (hKernel2Ideal := hKernel2Ideal) (hReference2Ideal := hReference2Ideal) (hPre_tables := hPre_tables) (hOn_active := hOn_active)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_active.lean ====
abbrev S439 : Shape := ⟨1, ![439]⟩
abbrev S1 : Shape := ⟨1, ![1]⟩
abbrev S455680x1024 : Shape := ⟨2, ![455680, 1024]⟩
abbrev S64x1024x256 : Shape := ⟨3, ![64, 1024, 256]⟩
abbrev S64x256x1024 : Shape := ⟨3, ![64, 256, 1024]⟩
abbrev S455680 : Shape := ⟨1, ![455680]⟩
abbrev S_ : Shape := ⟨0, ![]⟩
abbrev S455680x1 : Shape := ⟨2, ![455680, 1]⟩

class Facts : Prop where
  shapeCasts_S1_S_ : S1.ShapeCasts S_
  bcast_S_S455680 : S_.BroadcastsInDim S455680 (![] : Fin 0 → Fin S455680.rank)
  bcast_S455680_S455680x1_0 : S455680.BroadcastsInDim S455680x1 (![0] : Fin 1 → Fin S455680x1.rank)
  bcast_S455680x1_S455680x1024_0_1 : S455680x1.BroadcastsInDim S455680x1024 (![0, 1] : Fin 2 → Fin S455680x1024.rank)

variable [Facts]

def fn {F : FTy → Type} [FloatOps F] (main_arg0 : IVec S439 32) (main_arg1 : IVec S1 32) (main_arg2 : IVec S439 32) (main_arg3 : FVec F S455680x1024 .bf16) (main_arg4 : FVec F S64x1024x256 .bf16) (main_arg5 : FVec F S64x1024x256 .bf16) (main_arg6 : FVec F S64x256x1024 .bf16) : IVec S455680x1024 1 :=
  let main_v0 : IVec S455680 32 := iotaInDim S455680 32 0
  let main_v1 : IVec S_ 32 := shapeCast S_ main_arg1 shapeCasts_S1_S_
  let main_c : IVec S_ 32 := constantI S_ 32 1024#32
  let main_v2 : IVec S_ 32 := muli main_c main_v1
  let main_v3 : IVec S455680 32 := broadcastInDim S455680 ![] bcast_S_S455680 main_v2
  let main_v4 : IVec S455680 1 := cmpi .slt main_v0 main_v3
  let main_v5 : IVec S455680x1 1 := broadcastInDim S455680x1 ![0] bcast_S455680_S455680x1_0 main_v4
  let main_v6 : IVec S455680x1024 1 := broadcastInDim S455680x1024 ![0, 1] bcast_S455680x1_S455680x1024_0_1 main_v5
  main_v6
-- ==== Pre_finite.lean ====
abbrev S2x16384x512 : Shape := ⟨3, ![2, 16384, 512]⟩
abbrev S2x32x512x512 : Shape := ⟨4, ![2, 32, 512, 512]⟩
abbrev S8x513 : Shape := ⟨2, ![8, 513]⟩
abbrev S_ : Shape := ⟨0, ![]⟩

class Facts : Prop where
  bitsLt_bf16_f32 : FTy.bits .bf16 < FTy.bits .f32
  bcast_S_S2x16384x512 : S_.BroadcastsInDim S2x16384x512 (![] : Fin 0 → Fin S2x16384x512.rank)
  reducesTo_S2x16384x512_S_d0_1_2 : S2x16384x512.ReducesTo [0, 1, 2] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S2x16384x512 .bf16) (main_arg1 : FVec F S2x16384x512 .bf16) (main_arg2 : FVec F S2x32x512x512 .bf16) (main_arg3 : FVec F S8x513 .f32) : IVec S_ 1 :=
  let main_v0 : FVec F S2x16384x512 .f32 := (extf .f32 · bitsLt_bf16_f32) main_arg0
  let main_v1 : FVec F S2x16384x512 .f32 := Host.absf main_v0
  let main_cst : FVec F S_ .f32 := constant S_ .f32 0x7F800000#32
  let main_v2 : FVec F S2x16384x512 .f32 := broadcastInDim S2x16384x512 ![] bcast_S_S2x16384x512 main_cst
  let main_v3 : IVec S2x16384x512 1 := cmpf .olt main_v1 main_v2
  let main_c : IVec S_ 1 := constantI S_ 1 1#1
  let main_v4 : IVec S_ 1 := (fun x v => Host.reduce IntOp.andi x v reducesTo_S2x16384x512_S_d0_1_2 h_S_) main_v3 main_c
  let main_v5 : FVec F S2x16384x512 .f32 := (extf .f32 · bitsLt_bf16_f32) main_arg1
  let main_v6 : FVec F S2x16384x512 .f32 := Host.absf main_v5
  let main_cst_0 : FVec F S_ .f32 := constant S_ .f32 0x7F800000#32
  let main_v7 : FVec F S2x16384x512 .f32 := broadcastInDim S2x16384x512 ![] bcast_S_S2x16384x512 main_cst_0
  let main_v8 : IVec S2x16384x512 1 := cmpf .olt main_v6 main_v7
  let main_c_1 : IVec S_ 1 := constantI S_ 1 1#1
  let main_v9 : IVec S_ 1 := (fun x v => Host.reduce IntOp.andi x v reducesTo_S2x16384x512_S_d0_1_2 h_S_) main_v8 main_c_1
  let main_v10 : IVec S_ 1 := andi main_v4 main_v9
  let main_v11 : FVec F S8x513 .f32 := Host.absf main_arg3
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v10 main_v14
  main_v15
-- ==== Pre_tables.lean ====
abbrev S439 : Shape := ⟨1, ![439]⟩
abbrev S1 : Shape := ⟨1, ![1]⟩
abbrev S455680x1024 : Shape := ⟨2, ![455680, 1024]⟩
abbrev S64x1024x256 : Shape := ⟨3, ![64, 1024, 256]⟩
abbrev S64x256x1024 : Shape := ⟨3, ![64, 256, 1024]⟩
abbrev S_ : Shape := ⟨0, ![]⟩

class Facts : Prop where
  bcast_S_S439 : S_.BroadcastsInDim S439 (![] : Fin 0 → Fin S439.rank)
  reducesTo_S439_S_d0 : S439.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S439 32) (main_arg1 : IVec S1 32) (main_arg2 : IVec S439 32) (main_arg3 : FVec F S455680x1024 .bf16) (main_arg4 : FVec F S64x1024x256 .bf16) (main_arg5 : FVec F S64x1024x256 .bf16) (main_arg6 : FVec F S64x256x1024 .bf16) : IVec S_ 1 :=
  let main_c : IVec S_ 32 := constantI S_ 32 0#32
  let main_v0 : IVec S439 32 := broadcastInDim S439 ![] bcast_S_S439 main_c
  let main_v1 : IVec S439 1 := cmpi .sge main_arg0 main_v0
  let main_c_0 : IVec S_ 32 := constantI S_ 32 64#32
  let main_v2 : IVec S439 32 := broadcastInDim S439 ![] bcast_S_S439 main_c_0
  let main_v3 : IVec S439 1 := cmpi .slt main_arg0 main_v2
  let main_v4 : IVec S439 1 := andi main_v1 main_v3
  let main_c_1 : IVec S_ 1 := constantI S_ 1 1#1
  let main_v5 : IVec S_ 1 := (fun x v => Host.reduce IntOp.andi x v reducesTo_S439_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 439#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S2x16384x512 : Shape := ⟨3, ![2, 16384, 512]⟩
abbrev S2x32x512x512 : Shape := ⟨4, ![2, 32, 512, 512]⟩
abbrev S8x513 : Shape := ⟨2, ![8, 513]⟩
abbrev S_ : Shape := ⟨0, ![]⟩
abbrev S1024 : Shape := ⟨1, ![1024]⟩
abbrev S1024x1 : Shape := ⟨2, ![1024, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S8x768x256 : Shape := ⟨3, ![8, 768, 256]⟩
abbrev S4x768x256 : Shape := ⟨3, ![4, 768, 256]⟩
abbrev S4x768x512 : Shape := ⟨3, ![4, 768, 512]⟩
abbrev S1x1024x128 : Shape := ⟨3, ![1, 1024, 128]⟩
abbrev S1x512x128 : Shape := ⟨3, ![1, 512, 128]⟩
abbrev S1x1x128x512 : Shape := ⟨4, ![1, 1, 128, 512]⟩
abbrev S1x768x512 : Shape := ⟨3, ![1, 768, 512]⟩
abbrev S512x128 : Shape := ⟨2, ![512, 128]⟩
abbrev S1536x128 : Shape := ⟨2, ![1536, 128]⟩
abbrev S128x512 : Shape := ⟨2, ![128, 512]⟩
abbrev S128x1536 : Shape := ⟨2, ![128, 1536]⟩
abbrev S256x128 : Shape := ⟨2, ![256, 128]⟩
abbrev S16x768 : Shape := ⟨2, ![16, 768]⟩
abbrev S768x512 : Shape := ⟨2, ![768, 512]⟩
abbrev S1x256x128 : Shape := ⟨3, ![1, 256, 128]⟩
abbrev S768x128 : Shape := ⟨2, ![768, 128]⟩
abbrev S512 : Shape := ⟨1, ![512]⟩
abbrev S1x512 : Shape := ⟨2, ![1, 512]⟩
abbrev S128x768 : Shape := ⟨2, ![128, 768]⟩
abbrev S64x768 : Shape := ⟨2, ![64, 768]⟩
abbrev S80x768 : Shape := ⟨2, ![80, 768]⟩
abbrev S768x256 : Shape := ⟨2, ![768, 256]⟩
abbrev S80x256 : Shape := ⟨2, ![80, 256]⟩
abbrev S64x256 : Shape := ⟨2, ![64, 256]⟩
abbrev S1x256 : Shape := ⟨2, ![1, 256]⟩
abbrev S128x256 : Shape := ⟨2, ![128, 256]⟩

abbrev nBuf : Space → Nat
  | .hbm => 152
  | .vmem => 18
  | .smem => 0
  | _ => 0

abbrev hbmTy0_0 (i : Nat) : BufTy := match i % 128 with
  | 0 => ⟨S2x16384x512, .bf16⟩
  | 1 => ⟨S2x16384x512, .bf16⟩
  | 2 => ⟨S2x32x512x512, .bf16⟩
  | 3 => ⟨S8x513, .f32⟩
  | 4 => ⟨S2x16384x512, .f32⟩
  | 5 => ⟨S_, .f32⟩
  | 6 => ⟨S_, .f32⟩
  | 7 => ⟨S_, .f32⟩
  | 8 => ⟨S_, .f32⟩
  | 9 => ⟨S2x16384x512, .f32⟩
  | 10 => ⟨S2x16384x512, .f32⟩
  | 11 => ⟨S2x16384x512, .bf16⟩
  | 12 => ⟨S1024, .i32⟩
  | 13 => ⟨S_, .i32⟩
  | 14 => ⟨S1024, .i32⟩
  | 15 => ⟨S1024, .i1⟩
  | 16 => ⟨S_, .i32⟩
  | 17 => ⟨S1024, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S8x1024, .f32⟩
  | 43 => ⟨S_, .f32⟩
  | 44 => ⟨S_, .f32⟩
  | 45 => ⟨S_, .f32⟩
  | 46 => ⟨S_, .f32⟩
  | 47 => ⟨S8x1024, .f32⟩
  | 48 => ⟨S8x1024, .f32⟩
  | 49 => ⟨S1x8x1x1024, .f32⟩
  | 50 => ⟨S1x8x256x1024, .f32⟩
  | 51 => ⟨S8x262144, .f32⟩
  | 52 => ⟨S8x261888, .f32⟩
  | 53 => ⟨S8x256x1023, .f32⟩
  | 54 => ⟨S8x256x768, .f32⟩
  | 55 => ⟨S256, .i32⟩
  | 56 => ⟨S256x1, .i32⟩
  | 57 => ⟨S768, .i32⟩
  | 58 => ⟨S1x768, .i32⟩
  | 59 => ⟨S_, .i32⟩
  | 60 => ⟨S_, .i32⟩
  | 61 => ⟨S1x768, .i32⟩
  | 62 => ⟨S1x768, .i32⟩
  | 63 => ⟨S1x768, .i32⟩
  | 64 => ⟨S_, .i32⟩
  | 65 => ⟨S1x768, .i32⟩
  | 66 => ⟨S1x768, .i1⟩
  | 67 => ⟨S1x768, .i32⟩
  | 68 => ⟨S1x768, .i32⟩
  | 69 => ⟨S_, .i32⟩
  | 70 => ⟨S1x768, .i32⟩
  | 71 => ⟨S1x768, .i1⟩
  | 72 => ⟨S1x768, .i1⟩
  | 73 => ⟨S_, .i32⟩
  | 74 => ⟨S1x768, .i32⟩
  | 75 => ⟨S1x768, .i32⟩
  | 76 => ⟨S1x768, .i32⟩
  | 77 => ⟨S_, .i32⟩
  | 78 => ⟨S_, .i32⟩
  | 79 => ⟨S256x1, .i32⟩
  | 80 => ⟨S256x1, .i32⟩
  | 81 => ⟨S256x1, .i32⟩
  | 82 => ⟨S_, .i32⟩
  | 83 => ⟨S256x1, .i32⟩
  | 84 => ⟨S256x1, .i1⟩
  | 85 => ⟨S256x1, .i32⟩
  | 86 => ⟨S256x1, .i32⟩
  | 87 => ⟨S_, .i32⟩
  | 88 => ⟨S256x1, .i32⟩
  | 89 => ⟨S256x1, .i1⟩
  | 90 => ⟨S256x1, .i1⟩
  | 91 => ⟨S_, .i32⟩
  | 92 => ⟨S256x1, .i32⟩
  | 93 => ⟨S256x1, .i32⟩
  | 94 => ⟨S256x1, .i32⟩
  | 95 => ⟨S256x768, .i32⟩
  | 96 => ⟨S256x768, .i32⟩
  | 97 => ⟨S256x768, .i1⟩
  | 98 => ⟨S_, .i32⟩
  | 99 => ⟨S_, .i32⟩
  | 100 => ⟨S1x768, .i32⟩
  | 101 => ⟨S1x768, .i32⟩
  | 102 => ⟨S1x768, .i32⟩
  | 103 => ⟨S_, .i32⟩
  | 104 => ⟨S1x768, .i32⟩
  | 105 => ⟨S1x768, .i1⟩
  | 106 => ⟨S1x768, .i32⟩
  | 107 => ⟨S1x768, .i32⟩
  | 108 => ⟨S_, .i32⟩
  | 109 => ⟨S1x768, .i32⟩
  | 110 => ⟨S1x768, .i1⟩
  | 111 => ⟨S1x768, .i1⟩
  | 112 => ⟨S_, .i32⟩
  | 113 => ⟨S1x768, .i32⟩
  | 114 => ⟨S1x768, .i32⟩
  | 115 => ⟨S1x768, .i32⟩
  | 116 => ⟨S_, .i32⟩
  | 117 => ⟨S_, .i32⟩
  | 118 => ⟨S256x1, .i32⟩
  | 119 => ⟨S256x1, .i32⟩
  | 120 => ⟨S256x1, .i32⟩
  | 121 => ⟨S_, .i32⟩
  | 122 => ⟨S256x1, .i32⟩
  | 123 => ⟨S256x1, .i1⟩
  | 124 => ⟨S256x1, .i32⟩
  | 125 => ⟨S256x1, .i32⟩
  | 126 => ⟨S_, .i32⟩
  | 127 => ⟨S256x1, .i32⟩
  | _ => ⟨S2x16384x512, .bf16⟩

abbrev hbmTy0_1 (i : Nat) : BufTy := match i % 128 with
  | 0 => ⟨S256x1, .i1⟩
  | 1 => ⟨S256x1, .i1⟩
  | 2 => ⟨S_, .i32⟩
  | 3 => ⟨S256x1, .i32⟩
  | 4 => ⟨S256x1, .i32⟩
  | 5 => ⟨S256x1, .i32⟩
  | 6 => ⟨S_, .i32⟩
  | 7 => ⟨S256x1, .i32⟩
  | 8 => ⟨S256x1, .i32⟩
  | 9 => ⟨S256x768, .i32⟩
  | 10 => ⟨S256x768, .i32⟩
  | 11 => ⟨S256x768, .i1⟩
  | 12 => ⟨S256x768, .i1⟩
  | 13 => ⟨S1x256x768, .i1⟩
  | 14 => ⟨S_, .f32⟩
  | 15 => ⟨S_, .f32⟩
  | 16 => ⟨S8x256x768, .i1⟩
  | 17 => ⟨S8x256x768, .f32⟩
  | 18 => ⟨S8x256x768, .f32⟩
  | 19 => ⟨S8x768x256, .f32⟩
  | 20 => ⟨S4x768x256, .f32⟩
  | 21 => ⟨S4x768x256, .f32⟩
  | 22 => ⟨S4x768x512, .f32⟩
  | 23 => ⟨S2x16384x512, .bf16⟩
  | _ => ⟨S2x16384x512, .bf16⟩

abbrev hbmTy (i : Nat) : BufTy := match i / 128 with
  | 0 => hbmTy0_0 i
  | 1 => hbmTy0_1 i
  | _ => ⟨S2x16384x512, .bf16⟩

abbrev bufTy : (tb : Table) → Fin (tcTables nBuf tb) → BufTy
  | .hbm, ⟨i, _⟩ => hbmTy i
  | .local _ .vmem, ⟨0, _⟩ => ⟨S1x1024x128, .bf16⟩
  | .local _ .vmem, ⟨1, _⟩ => ⟨S1x1024x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x1x128x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x1x128x512, .bf16⟩
  | .local _ .vmem, ⟨13, _⟩ => ⟨S1x1x128x512, .bf16⟩
  | .local _ .vmem, ⟨14, _⟩ => ⟨S1x768x512, .f32⟩
  | .local _ .vmem, ⟨15, _⟩ => ⟨S1x768x512, .f32⟩
  | .local _ .vmem, ⟨16, _⟩ => ⟨S1x1024x128, .bf16⟩
  | .local _ .vmem, ⟨17, _⟩ => ⟨S1x1024x128, .bf16⟩
  | _, _ => ⟨S2x16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_c_6 : Ref sig .tc := ⟨.hbm, 34, rfl⟩
abbrev main_v17 : Ref sig .tc := ⟨.hbm, 35, rfl⟩
abbrev main_v18 : Ref sig .tc := ⟨.hbm, 36, rfl⟩
abbrev main_c_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_10 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v38 : Ref sig .tc := ⟨.hbm, 76, rfl⟩
abbrev main_c_11 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_c_12 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_v5 : Ref sig .tc := ⟨.hbm, 104, rfl⟩
abbrev main_call4_v6 : Ref sig .tc := ⟨.hbm, 105, rfl⟩
abbrev main_call4_v7 : Ref sig .tc := ⟨.hbm, 106, rfl⟩
abbrev main_call4_v8 : Ref sig .tc := ⟨.hbm, 107, rfl⟩
abbrev main_call4_c : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_0 : Ref sig .tc := ⟨.hbm, 112, rfl⟩
abbrev main_call4_v12 : Ref sig .tc := ⟨.hbm, 113, rfl⟩
abbrev main_call4_v13 : Ref sig .tc := ⟨.hbm, 114, rfl⟩
abbrev main_v43 : Ref sig .tc := ⟨.hbm, 115, rfl⟩
abbrev main_c_13 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_v6 : Ref sig .tc := ⟨.hbm, 123, rfl⟩
abbrev main_call5_v7 : Ref sig .tc := ⟨.hbm, 124, rfl⟩
abbrev main_call5_v8 : Ref sig .tc := ⟨.hbm, 125, rfl⟩
abbrev main_call5_c : Ref sig .tc := ⟨.hbm, 126, rfl⟩
abbrev main_call5_v9 : Ref sig .tc := ⟨.hbm, 127, rfl⟩
abbrev main_call5_v10 : Ref sig .tc := ⟨.hbm, 128, rfl⟩
abbrev main_call5_v11 : Ref sig .tc := ⟨.hbm, 129, rfl⟩
abbrev main_call5_c_0 : Ref sig .tc := ⟨.hbm, 130, rfl⟩
abbrev main_call5_v12 : Ref sig .tc := ⟨.hbm, 131, rfl⟩
abbrev main_call5_v13 : Ref sig .tc := ⟨.hbm, 132, rfl⟩
abbrev main_v44 : Ref sig .tc := ⟨.hbm, 133, rfl⟩
abbrev main_c_14 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_v51 : Ref sig .tc := ⟨.hbm, 141, rfl⟩
abbrev main_cst_15 : Ref sig .tc := ⟨.hbm, 142, rfl⟩
abbrev main_call6_v0 : Ref sig .tc := ⟨.hbm, 143, rfl⟩
abbrev main_call6_v1 : Ref sig .tc := ⟨.hbm, 144, rfl⟩
abbrev main_call6_v2 : Ref sig .tc := ⟨.hbm, 145, rfl⟩
abbrev main_v52 : Ref sig .tc := ⟨.hbm, 146, rfl⟩
abbrev main_v53 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  ![arg0.toNat, v2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c_m1_i32 : BitVec 32 := 4294967295#32
  let v1 : BitVec 32 := Scalar.addi v0 c_m1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, arg1.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16384x512 : Shape := ⟨3, ![2, 16384, 512]⟩
abbrev S2x32x512x512 : Shape := ⟨4, ![2, 32, 512, 512]⟩
abbrev S8x513 : Shape := ⟨2, ![8, 513]⟩
abbrev S2x16384x8x64 : Shape := ⟨4, ![2, 16384, 8, 64]⟩
abbrev S_ : Shape := ⟨0, ![]⟩
abbrev S2x16896x8x64 : Shape := ⟨4, ![2, 16896, 8, 64]⟩
abbrev S2x256x64x8x64 : Shape := ⟨5, ![2, 256, 64, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256 : Shape := ⟨1, ![256]⟩
abbrev S256x1 : Shape := ⟨2, ![256, 1]⟩
abbrev S256x576 : Shape := ⟨2, ![256, 576]⟩
abbrev S256x576x1 : Shape := ⟨3, ![256, 576, 1]⟩
abbrev S2x256x576x8x64 : Shape := ⟨5, ![2, 256, 576, 8, 64]⟩
abbrev S2x256x8x64x576 : Shape := ⟨5, ![2, 256, 8, 64, 576]⟩
abbrev S1x1x8x64x576 : Shape := ⟨5, ![1, 1, 8, 64, 576]⟩
abbrev S1x256x1x1x576 : Shape := ⟨5, ![1, 256, 1, 1, 576]⟩
abbrev S2x256x8x64 : Shape := ⟨4, ![2, 256, 8, 64]⟩
abbrev S2x256x8x64x1 : Shape := ⟨5, ![2, 256, 8, 64, 1]⟩
abbrev S2x256x8x64x64 : Shape := ⟨5, ![2, 256, 8, 64, 64]⟩

abbrev nBuf : Space → Nat
  | .hbm => 111
  | .vmem => 0
  | .smem => 0
  | _ => 0

abbrev bufTy : (tb : Table) → Fin (tcTables nBuf tb) → BufTy
  | .hbm, ⟨0, _⟩ => ⟨S2x16384x512, .bf16⟩
  | .hbm, ⟨1, _⟩ => ⟨S2x16384x512, .bf16⟩
  | .hbm, ⟨2, _⟩ => ⟨S2x32x512x512, .bf16⟩
  | .hbm, ⟨3, _⟩ => ⟨S8x513, .f32⟩
  | .hbm, ⟨4, _⟩ => ⟨S2x32x512x512, .bf16⟩
  | .hbm, ⟨5, _⟩ => ⟨S2x16384x512, .bf16⟩
  | .hbm, ⟨6, _⟩ => ⟨S2x16384x512, .f32⟩
  | .hbm, ⟨7, _⟩ => ⟨S2x16384x8x64, .f32⟩
  | .hbm, ⟨8, _⟩ => ⟨S2x16384x512, .f32⟩
  | .hbm, ⟨9, _⟩ => ⟨S2x16384x8x64, .f32⟩
  | .hbm, ⟨10, _⟩ => ⟨S2x16384x512, .f32⟩
  | .hbm, ⟨11, _⟩ => ⟨S2x16384x8x64, .f32⟩
  | .hbm, ⟨12, _⟩ => ⟨S_, .i32⟩
  | .hbm, ⟨13, _⟩ => ⟨S_, .f32⟩
  | .hbm, ⟨14, _⟩ => ⟨S2x16896x8x64, .f32⟩
  | .hbm, ⟨15, _⟩ => ⟨S_, .i32⟩
  | .hbm, ⟨16, _⟩ => ⟨S_, .f32⟩
  | .hbm, ⟨17, _⟩ => ⟨S2x16896x8x64, .f32⟩
  | .hbm, ⟨18, _⟩ => ⟨S2x256x64x8x64, .f32⟩
  | .hbm, ⟨19, _⟩ => ⟨S64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S576, .i32⟩
  | .hbm, ⟨25, _⟩ => ⟨S1x576, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x576, .i32⟩
  | .hbm, ⟨33, _⟩ => ⟨S64x576, .i32⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S_, .i32⟩
  | .hbm, ⟨38, _⟩ => ⟨S64x576, .i32⟩
  | .hbm, ⟨39, _⟩ => ⟨S64x576, .i32⟩
  | .hbm, ⟨40, _⟩ => ⟨S_, .i32⟩
  | .hbm, ⟨41, _⟩ => ⟨S64x576, .i32⟩
  | .hbm, ⟨42, _⟩ => ⟨S64x576, .i1⟩
  | .hbm, ⟨43, _⟩ => ⟨S_, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S64x576x1, .i32⟩
  | .hbm, ⟨48, _⟩ => ⟨S8x64x576, .f32⟩
  | .hbm, ⟨49, _⟩ => ⟨S256, .i32⟩
  | .hbm, ⟨50, _⟩ => ⟨S256x1, .i32⟩
  | .hbm, ⟨51, _⟩ => ⟨S_, .i32⟩
  | .hbm, ⟨52, _⟩ => ⟨S256x1, .i32⟩
  | .hbm, ⟨53, _⟩ => ⟨S256x1, .i32⟩
  | .hbm, ⟨54, _⟩ => ⟨S576, .i32⟩
  | .hbm, ⟨55, _⟩ => ⟨S1x576, .i32⟩
  | .hbm, ⟨56, _⟩ => ⟨S256x576, .i32⟩
  | .hbm, ⟨57, _⟩ => ⟨S256x576, .i32⟩
  | .hbm, ⟨58, _⟩ => ⟨S256x576, .i32⟩
  | .hbm, ⟨59, _⟩ => ⟨S_, .i32⟩
  | .hbm, ⟨60, _⟩ => ⟨S256x576, .i32⟩
  | .hbm, ⟨61, _⟩ => ⟨S256x576, .i1⟩
  | .hbm, ⟨62, _⟩ => ⟨S_, .i32⟩
  | .hbm, ⟨63, _⟩ => ⟨S256x576, .i32⟩
  | .hbm, ⟨64, _⟩ => ⟨S256x576, .i32⟩
  | .hbm, ⟨65, _⟩ => ⟨S256x576, .i32⟩
  | .hbm, ⟨66, _⟩ => ⟨S256x576x1, .i32⟩
  | .hbm, ⟨67, _⟩ => ⟨S2x256x576x8x64, .f32⟩
  | .hbm, ⟨68, _⟩ => ⟨S_, .i32⟩
  | .hbm, ⟨69, _⟩ => ⟨S256x576, .i32⟩
  | .hbm, ⟨70, _⟩ => ⟨S256x576, .i1⟩
  | .hbm, ⟨71, _⟩ => ⟨S_, .i32⟩
  | .hbm, ⟨72, _⟩ => ⟨S256x576, .i32⟩
  | .hbm, ⟨73, _⟩ => ⟨S256x576, .i32⟩
  | .hbm, ⟨74, _⟩ => ⟨S256x576, .i32⟩
  | .hbm, ⟨75, _⟩ => ⟨S256x576x1, .i32⟩
  | .hbm, ⟨76, _⟩ => ⟨S2x256x576x8x64, .f32⟩
  | .hbm, ⟨77, _⟩ => ⟨S2x256x8x64x576, .f32⟩
  | .hbm, ⟨78, _⟩ => ⟨S_, .f32⟩
  | .hbm, ⟨79, _⟩ => ⟨S2x256x8x64x576, .f32⟩
  | .hbm, ⟨80, _⟩ => ⟨S2x256x8x64x576, .f32⟩
  | .hbm, ⟨81, _⟩ => ⟨S1x1x8x64x576, .f32⟩
  | .hbm, ⟨82, _⟩ => ⟨S2x256x8x64x576, .f32⟩
  | .hbm, ⟨83, _⟩ => ⟨S2x256x8x64x576, .f32⟩
  | .hbm, ⟨84, _⟩ => ⟨S_, .i32⟩
  | .hbm, ⟨85, _⟩ => ⟨S256x576, .i32⟩
  | .hbm, ⟨86, _⟩ => ⟨S256x576, .i1⟩
  | .hbm, ⟨87, _⟩ => ⟨S1x256x1x1x576, .i1⟩
  | .hbm, ⟨88, _⟩ => ⟨S_, .f32⟩
  | .hbm, ⟨89, _⟩ => ⟨S_, .f32⟩
  | .hbm, ⟨90, _⟩ => ⟨S2x256x8x64x576, .i1⟩
  | .hbm, ⟨91, _⟩ => ⟨S2x256x8x64x576, .f32⟩
  | .hbm, ⟨92, _⟩ => ⟨S2x256x8x64x576, .f32⟩
  | .hbm, ⟨93, _⟩ => ⟨S_, .f32⟩
  | .hbm, ⟨94, _⟩ => ⟨S2x256x8x64, .f32⟩
  | .hbm, ⟨95, _⟩ => ⟨S_, .f32⟩
  | .hbm, ⟨96, _⟩ => ⟨S2x256x8x64, .f32⟩
  | .hbm, ⟨97, _⟩ => ⟨S2x256x8x64, .f32⟩
  | .hbm, ⟨98, _⟩ => ⟨S2x256x8x64x1, .f32⟩
  | .hbm, ⟨99, _⟩ => ⟨S2x256x8x64x576, .f32⟩
  | .hbm, ⟨100, _⟩ => ⟨S2x256x8x64x576, .f32⟩
  | .hbm, ⟨101, _⟩ => ⟨S2x256x8x64x576, .f32⟩
  | .hbm, ⟨102, _⟩ => ⟨S_, .f32⟩
  | .hbm, ⟨103, _⟩ => ⟨S2x256x8x64, .f32⟩
  | .hbm, ⟨104, _⟩ => ⟨S2x256x8x64x1, .f32⟩
  | .hbm, ⟨105, _⟩ => ⟨S2x256x8x64x576, .f32⟩
  | .hbm, ⟨106, _⟩ => ⟨S2x256x8x64x576, .f32⟩
  | .hbm, ⟨107, _⟩ => ⟨S2x256x8x64x64, .f32⟩
  | .hbm, ⟨108, _⟩ => ⟨S2x256x64x8x64, .f32⟩
  | .hbm, ⟨109, _⟩ => ⟨S2x16384x512, .f32⟩
  | .hbm, ⟨110, _⟩ => ⟨S2x16384x512, .bf16⟩
  | _, _ => ⟨S2x16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_c_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_16 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Kernel2.lean ====
abbrev S439 : Shape := ⟨1, ![439]⟩
abbrev S1 : Shape := ⟨1, ![1]⟩
abbrev S455680x1024 : Shape := ⟨2, ![455680, 1024]⟩
abbrev S64x1024x256 : Shape := ⟨3, ![64, 1024, 256]⟩
abbrev S64x256x1024 : Shape := ⟨3, ![64, 256, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 5
  | .vmem => 10
  | .smem => 3
  | _ => 0

abbrev bufTy : (tb : Table) → Fin (tcTables nBuf tb) → BufTy
  | .hbm, ⟨0, _⟩ => ⟨S455680x1024, .bf16⟩
  | .hbm, ⟨1, _⟩ => ⟨S64x1024x256, .bf16⟩
  | .hbm, ⟨2, _⟩ => ⟨S64x1024x256, .bf16⟩
  | .hbm, ⟨3, _⟩ => ⟨S64x256x1024, .bf16⟩
  | .hbm, ⟨4, _⟩ => ⟨S455680x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1024x1024, .bf16⟩
  | .local _ .smem, ⟨0, _⟩ => ⟨S439, .i32⟩
  | .local _ .smem, ⟨1, _⟩ => ⟨S1, .i32⟩
  | .local _ .smem, ⟨2, _⟩ => ⟨S439, .i32⟩
  | _, _ => ⟨S455680x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![439], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S439.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S439) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S439.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S439) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S439.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S439) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S439 : Shape := ⟨1, ![439]⟩
abbrev S1 : Shape := ⟨1, ![1]⟩
abbrev S455680x1024 : Shape := ⟨2, ![455680, 1024]⟩
abbrev S64x1024x256 : Shape := ⟨3, ![64, 1024, 256]⟩
abbrev S64x256x1024 : Shape := ⟨3, ![64, 256, 1024]⟩
abbrev S1024 : Shape := ⟨1, ![1024]⟩
abbrev S1x1024 : Shape := ⟨2, ![1, 1024]⟩
abbrev S439x1024 : Shape := ⟨2, ![439, 1024]⟩
abbrev S449536 : Shape := ⟨1, ![449536]⟩
abbrev S439x1 : Shape := ⟨2, ![439, 1]⟩
abbrev S449536x1 : Shape := ⟨2, ![449536, 1]⟩
abbrev S64 : Shape := ⟨1, ![64]⟩
abbrev S1x64 : Shape := ⟨2, ![1, 64]⟩
abbrev S449536x64 : Shape := ⟨2, ![449536, 64]⟩
abbrev S_ : Shape := ⟨0, ![]⟩
abbrev S449536x1024 : Shape := ⟨2, ![449536, 1024]⟩
abbrev S449536x64x256 : Shape := ⟨3, ![449536, 64, 256]⟩
abbrev S449536x64x1 : Shape := ⟨3, ![449536, 64, 1]⟩

abbrev nBuf : Space → Nat
  | .hbm => 58
  | .vmem => 0
  | .smem => 0
  | _ => 0

abbrev bufTy : (tb : Table) → Fin (tcTables nBuf tb) → BufTy
  | .hbm, ⟨0, _⟩ => ⟨S439, .i32⟩
  | .hbm, ⟨1, _⟩ => ⟨S1, .i32⟩
  | .hbm, ⟨2, _⟩ => ⟨S439, .i32⟩
  | .hbm, ⟨3, _⟩ => ⟨S455680x1024, .bf16⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S1024, .i32⟩
  | .hbm, ⟨8, _⟩ => ⟨S1x1024, .i32⟩
  | .hbm, ⟨9, _⟩ => ⟨S439x1024, .i32⟩
  | .hbm, ⟨10, _⟩ => ⟨S449536, .i32⟩
  | .hbm, ⟨11, _⟩ => ⟨S439x1, .i32⟩
  | .hbm, ⟨12, _⟩ => ⟨S439x1024, .i32⟩
  | .hbm, ⟨13, _⟩ => ⟨S449536, .i32⟩
  | .hbm, ⟨14, _⟩ => ⟨S449536x1, .i32⟩
  | .hbm, ⟨15, _⟩ => ⟨S64, .i32⟩
  | .hbm, ⟨16, _⟩ => ⟨S1x64, .i32⟩
  | .hbm, ⟨17, _⟩ => ⟨S449536x64, .i32⟩
  | .hbm, ⟨18, _⟩ => ⟨S449536x64, .i32⟩
  | .hbm, ⟨19, _⟩ => ⟨S449536x64, .i1⟩
  | .hbm, ⟨20, _⟩ => ⟨S439x1, .i32⟩
  | .hbm, ⟨21, _⟩ => ⟨S439x1024, .i32⟩
  | .hbm, ⟨22, _⟩ => ⟨S449536, .i32⟩
  | .hbm, ⟨23, _⟩ => ⟨S449536, .i1⟩
  | .hbm, ⟨24, _⟩ => ⟨S449536x1, .i1⟩
  | .hbm, ⟨25, _⟩ => ⟨S449536x64, .i1⟩
  | .hbm, ⟨26, _⟩ => ⟨S449536x64, .i1⟩
  | .hbm, ⟨27, _⟩ => ⟨S_, .f32⟩
  | .hbm, ⟨28, _⟩ => ⟨S_, .f32⟩
  | .hbm, ⟨29, _⟩ => ⟨S449536x64, .f32⟩
  | .hbm, ⟨30, _⟩ => ⟨S449536x64, .f32⟩
  | .hbm, ⟨31, _⟩ => ⟨S449536x64, .f32⟩
  | .hbm, ⟨32, _⟩ => ⟨S449536x1024, .bf16⟩
  | .hbm, ⟨33, _⟩ => ⟨S449536x1024, .f32⟩
  | .hbm, ⟨34, _⟩ => ⟨S64x1024x256, .f32⟩
  | .hbm, ⟨35, _⟩ => ⟨S64x1024x256, .f32⟩
  | .hbm, ⟨36, _⟩ => ⟨S64x256x1024, .f32⟩
  | .hbm, ⟨37, _⟩ => ⟨S449536x64x256, .f32⟩
  | .hbm, ⟨38, _⟩ => ⟨S449536x64x256, .f32⟩
  | .hbm, ⟨39, _⟩ => ⟨S449536x64x256, .f32⟩
  | .hbm, ⟨40, _⟩ => ⟨S449536x64x256, .f32⟩
  | .hbm, ⟨41, _⟩ => ⟨S_, .f32⟩
  | .hbm, ⟨42, _⟩ => ⟨S449536x64x256, .f32⟩
  | .hbm, ⟨43, _⟩ => ⟨S449536x64x256, .f32⟩
  | .hbm, ⟨44, _⟩ => ⟨S_, .f32⟩
  | .hbm, ⟨45, _⟩ => ⟨S449536x64x256, .f32⟩
  | .hbm, ⟨46, _⟩ => ⟨S449536x64x256, .f32⟩
  | .hbm, ⟨47, _⟩ => ⟨S449536x64x256, .f32⟩
  | .hbm, ⟨48, _⟩ => ⟨S449536x64x256, .f32⟩
  | .hbm, ⟨49, _⟩ => ⟨S449536x64x1, .f32⟩
  | .hbm, ⟨50, _⟩ => ⟨S449536x64x1, .f32⟩
  | .hbm, ⟨51, _⟩ => ⟨S449536x64x256, .f32⟩
  | .hbm, ⟨52, _⟩ => ⟨S449536x64x256, .f32⟩
  | .hbm, ⟨53, _⟩ => ⟨S449536x1024, .f32⟩
  | .hbm, ⟨54, _⟩ => ⟨S_, .i32⟩
  | .hbm, ⟨55, _⟩ => ⟨S_, .f32⟩
  | .hbm, ⟨56, _⟩ => ⟨S455680x1024, .f32⟩
  | .hbm, ⟨57, _⟩ => ⟨S455680x1024, .bf16⟩
  | _, _ => ⟨S439, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_call2_v0 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel3.lean ====
abbrev S1024x1024 : Shape := ⟨2, ![1024, 1024]⟩
abbrev S1024x128 : Shape := ⟨2, ![1024, 128]⟩
abbrev S16x64x1024 : Shape := ⟨3, ![16, 64, 1024]⟩
abbrev S16x1x1024 : Shape := ⟨3, ![16, 1, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1x1024x256 : Shape := ⟨3, ![1, 1024, 256]⟩
abbrev S1x256x1024 : Shape := ⟨3, ![1, 256, 1024]⟩
abbrev S1024 : Shape := ⟨1, ![1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S1024x1024, .bf16⟩
  | .hbm, ⟨1, _⟩ => ⟨S1024x128, .f32⟩
  | .hbm, ⟨2, _⟩ => ⟨S16x64x1024, .f32⟩
  | .hbm, ⟨3, _⟩ => ⟨S16x1x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S16x64x1024, .f32⟩
  | .local _ .vmem, ⟨0, _⟩ => ⟨S1024x1024, .bf16⟩
  | .local _ .vmem, ⟨1, _⟩ => ⟨S1024x128, .f32⟩
  | .local _ .vmem, ⟨2, _⟩ => ⟨S16x64x1024, .f32⟩
  | .local _ .vmem, ⟨3, _⟩ => ⟨S16x1x1024, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S16x64x1024, .f32⟩
  | .local _ .vmem, ⟨14, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨3, ![1, 1, 64], ![false, false, false]⟩

def k0_cond2 (i : grid0.Coords) : BitVec 1 :=
  let arg2 : BitVec 32 := BitVec.ofNat 32 (i 2).val
  let c63_i32 : BitVec 32 := 63#32
  let v32 : BitVec 1 := Scalar.cmpi .eq arg2 c63_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S16x64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S16x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S16x64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true, false]
-- ==== Reference3Ideal.lean ====
abbrev S1024x1024 : Shape := ⟨2, ![1024, 1024]⟩
abbrev S1024x128 : Shape := ⟨2, ![1024, 128]⟩
abbrev S16x64x1024 : Shape := ⟨3, ![16, 64, 1024]⟩
abbrev S16x1x1024 : Shape := ⟨3, ![16, 1, 1024]⟩
abbrev S64x1024x256 : Shape := ⟨3, ![64, 1024, 256]⟩
abbrev S64x256x1024 : Shape := ⟨3, ![64, 256, 1024]⟩
abbrev S1024x256 : Shape := ⟨2, ![1024, 256]⟩
abbrev S256x1024 : Shape := ⟨2, ![256, 1024]⟩
abbrev S1024x64 : Shape := ⟨2, ![1024, 64]⟩
abbrev S1024x64x256 : Shape := ⟨3, ![1024, 64, 256]⟩
abbrev S_ : Shape := ⟨0, ![]⟩
abbrev S1024x64x1 : Shape := ⟨3, ![1024, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x128, .f32⟩
  | .hbm, ⟨2, _⟩ => ⟨S16x64x1024, .f32⟩
  | .hbm, ⟨3, _⟩ => ⟨S16x1x1024, .f32⟩
  | .hbm, ⟨4, _⟩ => ⟨S64x1024x256, .bf16⟩
  | .hbm, ⟨5, _⟩ => ⟨S64x1024x256, .bf16⟩
  | .hbm, ⟨6, _⟩ => ⟨S64x256x1024, .bf16⟩
  | .hbm, ⟨7, _⟩ => ⟨S1024x256, .bf16⟩
  | .hbm, ⟨8, _⟩ => ⟨S1024x256, .bf16⟩
  | .hbm, ⟨9, _⟩ => ⟨S256x1024, .bf16⟩
  | .hbm, ⟨10, _⟩ => ⟨S1024x1024, .f32⟩
  | .hbm, ⟨11, _⟩ => ⟨S64x1024x256, .f32⟩
  | .hbm, ⟨12, _⟩ => ⟨S64x1024x256, .f32⟩
  | .hbm, ⟨13, _⟩ => ⟨S64x256x1024, .f32⟩
  | .hbm, ⟨14, _⟩ => ⟨S1024x256, .f32⟩
  | .hbm, ⟨15, _⟩ => ⟨S1024x256, .f32⟩
  | .hbm, ⟨16, _⟩ => ⟨S256x1024, .f32⟩
  | .hbm, ⟨17, _⟩ => ⟨S1024x64, .f32⟩
  | .hbm, ⟨18, _⟩ => ⟨S1024x64x256, .f32⟩
  | .hbm, ⟨19, _⟩ => ⟨S1024x64x256, .f32⟩
  | .hbm, ⟨20, _⟩ => ⟨S1024x64x256, .f32⟩
  | .hbm, ⟨21, _⟩ => ⟨S1024x64x256, .f32⟩
  | .hbm, ⟨22, _⟩ => ⟨S_, .f32⟩
  | .hbm, ⟨23, _⟩ => ⟨S1024x64x256, .f32⟩
  | .hbm, ⟨24, _⟩ => ⟨S1024x64x256, .f32⟩
  | .hbm, ⟨25, _⟩ => ⟨S_, .f32⟩
  | .hbm, ⟨26, _⟩ => ⟨S1024x64x256, .f32⟩
  | .hbm, ⟨27, _⟩ => ⟨S1024x64x256, .f32⟩
  | .hbm, ⟨28, _⟩ => ⟨S1024x64x256, .f32⟩
  | .hbm, ⟨29, _⟩ => ⟨S1024x64x256, .f32⟩
  | .hbm, ⟨30, _⟩ => ⟨S1024x64x1, .f32⟩
  | .hbm, ⟨31, _⟩ => ⟨S1024x64x256, .f32⟩
  | .hbm, ⟨32, _⟩ => ⟨S1024x64x256, .f32⟩
  | .hbm, ⟨33, _⟩ => ⟨S1024x1024, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S1024x256, .f32⟩
  | .hbm, ⟨46, _⟩ => ⟨S1024x1024, .f32⟩
  | .hbm, ⟨47, _⟩ => ⟨S1024x1024, .f32⟩
  | .hbm, ⟨48, _⟩ => ⟨S16x64x1024, .f32⟩
  | .hbm, ⟨49, _⟩ => ⟨S16x64x1024, .f32⟩
  | .hbm, ⟨50, _⟩ => ⟨S16x64x1024, .f32⟩
  | .hbm, ⟨51, _⟩ => ⟨S16x64x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x1x1024 : Shape := ⟨3, ![2, 1, 1024]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x3200 : Shape := ⟨2, ![1024, 3200]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S120 : Shape := ⟨1, ![120]⟩
abbrev S128 : Shape := ⟨1, ![128]⟩
abbrev S1x128 : Shape := ⟨2, ![1, 128]⟩
abbrev S1x1024 : Shape := ⟨2, ![1, 1024]⟩
abbrev S32768x512 : Shape := ⟨2, ![32768, 512]⟩
abbrev S2x32x512x512 : Shape := ⟨4, ![2, 32, 512, 512]⟩
abbrev S32768x8x64 : Shape := ⟨3, ![32768, 8, 64]⟩
abbrev S32768x128 : Shape := ⟨2, ![32768, 128]⟩
abbrev S2x512x512 : Shape := ⟨3, ![2, 512, 512]⟩
abbrev S1x512x1024 : Shape := ⟨3, ![1, 512, 1024]⟩
abbrev S1x1x1024 : Shape := ⟨3, ![1, 1, 1024]⟩
abbrev S1x1x512x512 : Shape := ⟨4, ![1, 1, 512, 512]⟩
abbrev S512x8x64 : Shape := ⟨3, ![512, 8, 64]⟩
abbrev S512x128 : Shape := ⟨2, ![512, 128]⟩
abbrev S1x512x512 : Shape := ⟨3, ![1, 512, 512]⟩
abbrev S1x512x1 : Shape := ⟨3, ![1, 512, 1]⟩
abbrev S512x1024 : Shape := ⟨2, ![512, 1024]⟩
abbrev S512x64 : Shape := ⟨2, ![512, 64]⟩
abbrev S512x1x64 : Shape := ⟨3, ![512, 1, 64]⟩
abbrev S1024x128 : Shape := ⟨2, ![1024, 128]⟩

abbrev nBuf : Space → Nat
  | .hbm => 95
  | .vmem => 36
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x8, .f32⟩
  | .hbm, ⟨17, _⟩ => ⟨S_, .f32⟩
  | .hbm, ⟨18, _⟩ => ⟨S1024x120, .f32⟩
  | .hbm, ⟨19, _⟩ => ⟨S1024x3200, .f32⟩
  | .hbm, ⟨20, _⟩ => ⟨S1024x3200, .bf16⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S512x1, .i32⟩
  | .hbm, ⟨41, _⟩ => ⟨S1x512, .i32⟩
  | .hbm, ⟨42, _⟩ => ⟨S512x512, .i32⟩
  | .hbm, ⟨43, _⟩ => ⟨S512x512, .i32⟩
  | .hbm, ⟨44, _⟩ => ⟨S512x512, .i1⟩
  | .hbm, ⟨45, _⟩ => ⟨S_, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .f32⟩
  | .hbm, ⟨50, _⟩ => ⟨S512x512, .bf16⟩
  | .hbm, ⟨51, _⟩ => ⟨S1x64, .f32⟩
  | .hbm, ⟨52, _⟩ => ⟨S8x64, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S1x512, .f32⟩
  | .hbm, ⟨58, _⟩ => ⟨S1x64, .f32⟩
  | .hbm, ⟨59, _⟩ => ⟨S8x64, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S1x512, .f32⟩
  | .hbm, ⟨65, _⟩ => ⟨S1x64, .f32⟩
  | .hbm, ⟨66, _⟩ => ⟨S8x64, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S1x512, .f32⟩
  | .hbm, ⟨72, _⟩ => ⟨S1x64, .f32⟩
  | .hbm, ⟨73, _⟩ => ⟨S8x64, .f32⟩
  | .hbm, ⟨74, _⟩ => ⟨S512, .f32⟩
  | .hbm, ⟨75, _⟩ => ⟨S_, .f32⟩
  | .hbm, ⟨76, _⟩ => ⟨S512, .f32⟩
  | .hbm, ⟨77, _⟩ => ⟨S512, .f32⟩
  | .hbm, ⟨78, _⟩ => ⟨S1x512, .f32⟩
  | .hbm, ⟨79, _⟩ => ⟨S_, .f32⟩
  | .hbm, ⟨80, _⟩ => ⟨S120, .f32⟩
  | .hbm, ⟨81, _⟩ => ⟨S128, .f32⟩
  | .hbm, ⟨82, _⟩ => ⟨S1x128, .f32⟩
  | .hbm, ⟨83, _⟩ => ⟨S1x1024, .f32⟩
  | .hbm, ⟨84, _⟩ => ⟨S32768x512, .bf16⟩
  | .hbm, ⟨85, _⟩ => ⟨S32768x512, .bf16⟩
  | .hbm, ⟨86, _⟩ => ⟨S2x32x512x512, .bf16⟩
  | .hbm, ⟨87, _⟩ => ⟨S32768x8x64, .f32⟩
  | .hbm, ⟨88, _⟩ => ⟨S32768x8x64, .f32⟩
  | .hbm, ⟨89, _⟩ => ⟨S32768x128, .f32⟩
  | .hbm, ⟨90, _⟩ => ⟨S32768x512, .bf16⟩
  | .hbm, ⟨91, _⟩ => ⟨S32768x512, .bf16⟩
  | .hbm, ⟨92, _⟩ => ⟨S2x32x512x512, .bf16⟩
  | .hbm, ⟨93, _⟩ => ⟨S2x512x512, .f32⟩
  | .hbm, ⟨94, _⟩ => ⟨S2x512x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3200, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x128, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x1x512x512, .bf16⟩
  | .local _ .vmem, ⟨19, _⟩ => ⟨S1x1x512x512, .bf16⟩
  | .local _ .vmem, ⟨20, _⟩ => ⟨S512x8x64, .f32⟩
  | .local _ .vmem, ⟨21, _⟩ => ⟨S512x8x64, .f32⟩
  | .local _ .vmem, ⟨22, _⟩ => ⟨S512x8x64, .f32⟩
  | .local _ .vmem, ⟨23, _⟩ => ⟨S512x8x64, .f32⟩
  | .local _ .vmem, ⟨24, _⟩ => ⟨S512x128, .f32⟩
  | .local _ .vmem, ⟨25, _⟩ => ⟨S512x128, .f32⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S1x1x512x512, .bf16⟩
  | .local _ .vmem, ⟨31, _⟩ => ⟨S1x1x512x512, .bf16⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_0 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_2 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_4 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_6 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47_0 : Ref sig .tc := ⟨.hbm, 84, rfl⟩
abbrev main_v47_1 : Ref sig .tc := ⟨.hbm, 85, rfl⟩
abbrev main_v47_2 : Ref sig .tc := ⟨.hbm, 86, rfl⟩
abbrev main_v47_3 : Ref sig .tc := ⟨.hbm, 87, rfl⟩
abbrev main_v47_4 : Ref sig .tc := ⟨.hbm, 88, rfl⟩
abbrev main_v47_5 : Ref sig .tc := ⟨.hbm, 89, rfl⟩
abbrev main_v47_6 : Ref sig .tc := ⟨.hbm, 90, rfl⟩
abbrev main_v47_7 : Ref sig .tc := ⟨.hbm, 91, rfl⟩
abbrev main_v47_8 : Ref sig .tc := ⟨.hbm, 92, rfl⟩
abbrev main_v47_9 : Ref sig .tc := ⟨.hbm, 93, rfl⟩
abbrev main_v47_10 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c31_i32 : BitVec 32 := 31#32
  let v196 : BitVec 1 := Scalar.cmpi .eq arg1 c31_i32
  let v197 : BitVec 32 := Scalar.extui v196
  let c0_i32 : BitVec 32 := 0#32
  let v198 : BitVec 1 := Scalar.cmpi .ne v197 c0_i32
  v198

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x8x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x8x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== Reference4Ideal.lean ====
abbrev S2x16384x1024 : Shape := ⟨3, ![2, 16384, 1024]⟩
abbrev S2x1x1024 : Shape := ⟨3, ![2, 1, 1024]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3080 : Shape := ⟨3, ![2, 16384, 3080]⟩
abbrev S2x16384x512 : Shape := ⟨3, ![2, 16384, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S1x1x8 : Shape := ⟨3, ![1, 1, 8]⟩
abbrev S2x16384x128 : Shape := ⟨3, ![2, 16384, 128]⟩
abbrev S32768x8x64 : Shape := ⟨3, ![32768, 8, 64]⟩
abbrev S32768x128 : Shape := ⟨2, ![32768, 128]⟩
abbrev S2x512x8x64 : Shape := ⟨4, ![2, 512, 8, 64]⟩
abbrev S2x512x512 : Shape := ⟨3, ![2, 512, 512]⟩

abbrev nBuf : Space → Nat
  | .hbm => 104
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x3080, .f32⟩
  | .hbm, ⟨34, _⟩ => ⟨S2x16384x512, .f32⟩
  | .hbm, ⟨35, _⟩ => ⟨S2x16384x8x64, .f32⟩
  | .hbm, ⟨36, _⟩ => ⟨S2x16384x8x64, .f32⟩
  | .hbm, ⟨37, _⟩ => ⟨S_, .f32⟩
  | .hbm, ⟨38, _⟩ => ⟨S2x16384x8, .f32⟩
  | .hbm, ⟨39, _⟩ => ⟨S2x16384x8x1, .f32⟩
  | .hbm, ⟨40, _⟩ => ⟨S_, .f32⟩
  | .hbm, ⟨41, _⟩ => ⟨S2x16384x8x1, .f32⟩
  | .hbm, ⟨42, _⟩ => ⟨S2x16384x8x1, .f32⟩
  | .hbm, ⟨43, _⟩ => ⟨S_, .f32⟩
  | .hbm, ⟨44, _⟩ => ⟨S2x16384x8x1, .f32⟩
  | .hbm, ⟨45, _⟩ => ⟨S2x16384x8x1, .f32⟩
  | .hbm, ⟨46, _⟩ => ⟨S2x16384x8x1, .f32⟩
  | .hbm, ⟨47, _⟩ => ⟨S2x16384x8x64, .f32⟩
  | .hbm, ⟨48, _⟩ => ⟨S2x16384x8x64, .f32⟩
  | .hbm, ⟨49, _⟩ => ⟨S1x1x1x64, .f32⟩
  | .hbm, ⟨50, _⟩ => ⟨S2x16384x8x64, .f32⟩
  | .hbm, ⟨51, _⟩ => ⟨S2x16384x8x64, .f32⟩
  | .hbm, ⟨52, _⟩ => ⟨S2x16384x512, .f32⟩
  | .hbm, ⟨53, _⟩ => ⟨S2x16384x8x64, .f32⟩
  | .hbm, ⟨54, _⟩ => ⟨S2x16384x8, .f32⟩
  | .hbm, ⟨55, _⟩ => ⟨S1x1x8, .f32⟩
  | .hbm, ⟨56, _⟩ => ⟨S2x16384x8, .f32⟩
  | .hbm, ⟨57, _⟩ => ⟨S2x16384x8, .f32⟩
  | .hbm, ⟨58, _⟩ => ⟨S_, .i32⟩
  | .hbm, ⟨59, _⟩ => ⟨S_, .f32⟩
  | .hbm, ⟨60, _⟩ => ⟨S2x16384x128, .f32⟩
  | .hbm, ⟨61, _⟩ => ⟨S2x16384x128, .f32⟩
  | .hbm, ⟨62, _⟩ => ⟨S_, .f32⟩
  | .hbm, ⟨63, _⟩ => ⟨S2x16384x128, .f32⟩
  | .hbm, ⟨64, _⟩ => ⟨S2x16384x128, .f32⟩
  | .hbm, ⟨65, _⟩ => ⟨S2x16384x128, .f32⟩
  | .hbm, ⟨66, _⟩ => ⟨S2x16384x128, .f32⟩
  | .hbm, ⟨67, _⟩ => ⟨S2x16384x128, .i1⟩
  | .hbm, ⟨68, _⟩ => ⟨S2x16384x128, .f32⟩
  | .hbm, ⟨69, _⟩ => ⟨S2x16384x128, .f32⟩
  | .hbm, ⟨70, _⟩ => ⟨S2x16384x128, .f32⟩
  | .hbm, ⟨71, _⟩ => ⟨S2x16384x128, .f32⟩
  | .hbm, ⟨72, _⟩ => ⟨S2x16384x128, .f32⟩
  | .hbm, ⟨73, _⟩ => ⟨S2x16384x128, .f32⟩
  | .hbm, ⟨74, _⟩ => ⟨S2x16384x128, .f32⟩
  | .hbm, ⟨75, _⟩ => ⟨S2x16384x128, .f32⟩
  | .hbm, ⟨76, _⟩ => ⟨S2x16384x128, .f32⟩
  | .hbm, ⟨77, _⟩ => ⟨S2x16384x512, .f32⟩
  | .hbm, ⟨78, _⟩ => ⟨S2x16384x8x64, .f32⟩
  | .hbm, ⟨79, _⟩ => ⟨S2x16384x8x64, .f32⟩
  | .hbm, ⟨80, _⟩ => ⟨S_, .f32⟩
  | .hbm, ⟨81, _⟩ => ⟨S2x16384x8, .f32⟩
  | .hbm, ⟨82, _⟩ => ⟨S2x16384x8x1, .f32⟩
  | .hbm, ⟨83, _⟩ => ⟨S_, .f32⟩
  | .hbm, ⟨84, _⟩ => ⟨S2x16384x8x1, .f32⟩
  | .hbm, ⟨85, _⟩ => ⟨S2x16384x8x1, .f32⟩
  | .hbm, ⟨86, _⟩ => ⟨S_, .f32⟩
  | .hbm, ⟨87, _⟩ => ⟨S2x16384x8x1, .f32⟩
  | .hbm, ⟨88, _⟩ => ⟨S2x16384x8x1, .f32⟩
  | .hbm, ⟨89, _⟩ => ⟨S2x16384x8x1, .f32⟩
  | .hbm, ⟨90, _⟩ => ⟨S2x16384x8x64, .f32⟩
  | .hbm, ⟨91, _⟩ => ⟨S2x16384x8x64, .f32⟩
  | .hbm, ⟨92, _⟩ => ⟨S1x1x1x64, .f32⟩
  | .hbm, ⟨93, _⟩ => ⟨S2x16384x8x64, .f32⟩
  | .hbm, ⟨94, _⟩ => ⟨S2x16384x8x64, .f32⟩
  | .hbm, ⟨95, _⟩ => ⟨S2x16384x512, .f32⟩
  | .hbm, ⟨96, _⟩ => ⟨S2x16384x8x64, .f32⟩
  | .hbm, ⟨97, _⟩ => ⟨S32768x8x64, .f32⟩
  | .hbm, ⟨98, _⟩ => ⟨S32768x8x64, .f32⟩
  | .hbm, ⟨99, _⟩ => ⟨S32768x128, .f32⟩
  | .hbm, ⟨100, _⟩ => ⟨S2x512x8x64, .f32⟩
  | .hbm, ⟨101, _⟩ => ⟨S2x512x512, .f32⟩
  | .hbm, ⟨102, _⟩ => ⟨S2x512x8x64, .f32⟩
  | .hbm, ⟨103, _⟩ => ⟨S2x512x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_call0_v0 : Ref sig .tc := ⟨.hbm, 59, rfl⟩
abbrev main_v41 : Ref sig .tc := ⟨.hbm, 60, rfl⟩
abbrev main_call1_v0 : Ref sig .tc := ⟨.hbm, 61, rfl⟩
abbrev main_call1_call0_cst : Ref sig .tc := ⟨.hbm, 62, rfl⟩
abbrev main_call1_call0_v0 : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_v7 : Ref sig .tc := ⟨.hbm, 70, rfl⟩
abbrev main_call1_call0_v8 : Ref sig .tc := ⟨.hbm, 71, rfl⟩
abbrev main_call1_call0_v9 : Ref sig .tc := ⟨.hbm, 72, rfl⟩
abbrev main_call1_call0_v10 : Ref sig .tc := ⟨.hbm, 73, rfl⟩
abbrev main_call1_call0_v11 : Ref sig .tc := ⟨.hbm, 74, rfl⟩
abbrev main_call1_v1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_6 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_v49 : Ref sig .tc := ⟨.hbm, 85, rfl⟩
abbrev main_cst_8 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]
-- ==== Proof.Softmax.lean ====
/-  The softmax-weighted sum over the extended reals, written two ways. -/
module

public import Idealize.ShloMosaic.PureOps.Ideal
public import Mathlib.Data.EReal.Operations
public import Mathlib.Data.EReal.Inv
public import Mathlib.Analysis.SpecialFunctions.Pow.Real

@[expose] public section

noncomputable section

namespace Cert.Band

open Idealize.ShloMosaic

variable {ι κ : Type} [Fintype ι] [Fintype κ]

/-- The weighted sum over base-two weights, divided by the weights' sum at the end. -/
def softTwo (s v : ι → EReal) : EReal :=
  Ideal.div (∑ x, v x * Ideal.exp2 (s x - Finset.univ.fold max ⊥ s))
    (∑ x, Ideal.exp2 (s x - Finset.univ.fold max ⊥ s))

/-- The weighted sum over the softmax's weights, each divided before it is used. -/
def softExp (s v : κ → EReal) : EReal :=
  ∑ x, v x * Ideal.div (Ideal.exp (s x - Finset.univ.fold max ⊥ s))
    (∑ y, Ideal.exp (s y - Finset.univ.fold max ⊥ s))

/-- The base-two exponential of a difference scaled by 1 / log 2 is the exponential of the difference. -/
theorem exp2_scaled (a : EReal) (ha : a ≠ ⊤) (b : ℝ) :
    Ideal.exp2 (((Real.log 2)⁻¹ : ℝ) * a - ((Real.log 2)⁻¹ : ℝ) * (b : EReal)) = Ideal.exp (a - b) := by
  have hl : (0 : ℝ) < Real.log 2 := Real.log_pos (by norm_num)
  have hc : (0 : ℝ) < (Real.log 2)⁻¹ := inv_pos.mpr hl
  induction a with
  | bot =>
    rw [EReal.coe_mul_bot_of_pos hc, EReal.bot_sub, EReal.bot_sub]
    rfl
  | top => exact absurd rfl ha
  | coe a =>
    rw [← EReal.coe_mul, ← EReal.coe_mul, ← EReal.coe_sub, ← EReal.coe_sub]
    show ((Real.rpow 2 _ : ℝ) : EReal) = ((Real.exp _ : ℝ) : EReal)
    congr 1
    rw [Real.rpow_eq_pow, Real.rpow_def_of_pos (by norm_num)]
    congr 1
    field_simp

/-- The greatest value of a family is attained. -/
theorem fold_max_eq (s : κ → EReal) (j : κ) (hj : ∀ x, s x ≤ s j) : Finset.univ.fold max ⊥ s = s j := by
  apply le_antisymm
  · rw [Finset.fold_max_le]
    exact ⟨bot_le, fun x _ => hj x⟩
  · rw [Finset.le_fold_max]
    exact Or.inr ⟨j, Finset.mem_univ _, le_rfl⟩

/-- A finite sum of real numbers is the sum of them as extended reals. -/
theorem sum_real {α : Type} (f : α → ℝ) (t : Finset α) : ((∑ x ∈ t, f x : ℝ) : EReal) = ∑ x ∈ t, (f x : EReal) := by
  classical
  induction t using Finset.induction_on with
  | empty => simp
  | insert a t ha ih => rw [Finset.sum_insert ha, Finset.sum_insert ha, EReal.coe_add, ih]

/-- A finite sum times a real number that is not negative distributes, whatever the summands. -/
theorem sum_mul_real (f : κ → EReal) (r : ℝ) (hr : 0 ≤ r) (t : Finset κ) :
    (∑ x ∈ t, f x) * (r : EReal) = ∑ x ∈ t, f x * (r : EReal) := by
  classical
  induction t using Finset.induction_on with
  | empty => simp
  | insert a t ha ih =>
    rw [Finset.sum_insert ha, Finset.sum_insert ha, mul_comm,
      EReal.left_distrib_of_nonneg_of_ne_top (by exact_mod_cast hr) (EReal.coe_ne_top r), mul_comm, ← ih,
      mul_comm (r : EReal) (∑ x ∈ t, f x)]

/-- The exponential of an extended real that is not +∞ is a real number that is not negative. -/
theorem exp_real (a : EReal) (ha : a ≠ ⊤) : ∃ r : ℝ, 0 ≤ r ∧ Ideal.exp a = r := by
  induction a with
  | bot => exact ⟨0, le_rfl, rfl⟩
  | top => exact absurd rfl ha
  | coe a => exact ⟨Real.exp a, (Real.exp_pos a).le, rfl⟩

/-- The values count only where the score is not −∞. -/
theorem softTwo_congr (s s' v v' : ι → EReal) (hs : ∀ x, s x = s' x) (hv : ∀ x, s' x ≠ ⊥ → v x = v' x) :
    softTwo s v = softTwo s' v' := by
  obtain rfl : s = s' := funext hs
  unfold softTwo
  congr 1
  refine Finset.sum_congr rfl fun x _ => ?_
  by_cases hx : s x = ⊥
  · have h0 : Ideal.exp2 (s x - Finset.univ.fold max ⊥ s) = 0 := by rw [hx, EReal.bot_sub]; rfl
    rw [h0, mul_zero, mul_zero]
  · rw [hv x hx]

/-- The two ways agree: base-two scores scaled by 1 / log 2 over a larger family that is −∞ outside, against the
    exponential's scores, one of which at least is a real number. The values may be any extended reals. -/
theorem softTwo_eq (s v : ι → EReal) (s' v' : κ → EReal) (f : κ → ι) (hf : Function.Injective f)
    (hs : ∀ j, s (f j) = ((Real.log 2)⁻¹ : ℝ) * s' j) (hoff : ∀ x, x ∉ Set.range f → s x = ⊥)
    (hv : ∀ j, s' j ≠ ⊥ → v (f j) = v' j) (hfin : ∀ j, s' j ≠ ⊤) (hne : ∃ j, s' j ≠ ⊥) :
    softTwo s v = softExp s' v' := by
  have hl : (0 : ℝ) < Real.log 2 := Real.log_pos (by norm_num)
  have hc : (0 : ℝ) < (Real.log 2)⁻¹ := inv_pos.mpr hl
  obtain ⟨j1, hj1⟩ := hne
  haveI : Nonempty κ := ⟨j1⟩
  obtain ⟨j0, hj0⟩ := Finite.exists_max s'
  have hM' : Finset.univ.fold max ⊥ s' = s' j0 := fold_max_eq s' j0 hj0
  have hM : Finset.univ.fold max ⊥ s = s (f j0) := by
    apply fold_max_eq s (f j0)
    intro x
    by_cases hx : x ∈ Set.range f
    · obtain ⟨j, rfl⟩ := hx
      rw [hs, hs]
      exact mul_le_mul_of_nonneg_left (hj0 j) (by exact_mod_cast hc.le)
    · rw [hoff x hx]
      exact bot_le
  obtain ⟨b, hb⟩ : ∃ b : ℝ, s' j0 = b := by
    have h1 : s' j0 ≠ ⊥ := fun h => hj1 (le_bot_iff.mp (h ▸ hj0 j1))
    have h2 := hfin j0
    lift s' j0 to ℝ using ⟨h2, h1⟩ with b
    exact ⟨b, rfl⟩
  have hexp : ∀ j, Ideal.exp2 (s (f j) - s (f j0)) = Ideal.exp (s' j - s' j0) := by
    intro j
    rw [hs, hs, hb]
    exact exp2_scaled _ (hfin j) b
  have hzero : ∀ x, x ∉ Set.range f → Ideal.exp2 (s x - s (f j0)) = 0 := by
    intro x hx
    rw [hoff x hx, EReal.bot_sub]
    rfl
  have hreal : ∀ j, ∃ r : ℝ, 0 ≤ r ∧ Ideal.exp (s' j - s' j0) = r := by
    intro j
    apply exp_real
    rw [hb]
    have := hfin j
    generalize s' j = a at this
    induction a with
    | bot => simp
    | top => exact absurd rfl this
    | coe a => rw [← EReal.coe_sub]; exact EReal.coe_ne_top _
  choose e he0 he using hreal
  have hL : (∑ j, Ideal.exp (s' j - s' j0)) = ((∑ j, e j : ℝ) : EReal) := by
    rw [sum_real]
    exact Finset.sum_congr rfl fun j _ => he j
  have hpos : 0 < ∑ j, e j := by
    have h1 : e j0 = 1 := by
      have := he j0
      rw [hb, ← EReal.coe_sub, sub_self] at this
      have h2 : ((1 : ℝ) : EReal) = (e j0 : EReal) := by
        rw [← this]; show ((1 : ℝ) : EReal) = ((Real.exp 0 : ℝ) : EReal); rw [Real.exp_zero]
      exact (EReal.coe_injective h2).symm
    exact lt_of_lt_of_le (by rw [h1]; exact one_pos) (Finset.single_le_sum (fun j _ => he0 j) (Finset.mem_univ j0))
  have hne0 : ((∑ j, e j : ℝ) : EReal) ≠ 0 := by
    exact_mod_cast hpos.ne'
  have hden : (∑ x, Ideal.exp2 (s x - s (f j0))) = ((∑ j, e j : ℝ) : EReal) := by
    rw [← hL]
    exact (Fintype.sum_of_injective f hf _ _ hzero fun j => (hexp j).symm).symm
  have hnum : (∑ x, v x * Ideal.exp2 (s x - s (f j0))) = ∑ j, v' j * (e j : EReal) := by
    refine (Fintype.sum_of_injective f hf _ _ (fun x hx => ?_) fun j => ?_).symm
    · rw [hzero x hx, mul_zero]
    · by_cases hj : s' j = ⊥
      · have h0 : Ideal.exp (s' j - s' j0) = 0 := by rw [hj, EReal.bot_sub]; rfl
        rw [hexp, ← he, h0, mul_zero, mul_zero]
      · rw [hv j hj, hexp, he]
  unfold softTwo softExp
  rw [hM, hM', hden, hnum, hL]
  unfold Ideal.div
  rw [if_neg hne0, ← EReal.coe_inv, sum_mul_real _ _ (inv_nonneg.mpr hpos.le)]
  refine Finset.sum_congr rfl fun j _ => ?_
  rw [if_neg hne0, he, mul_assoc]

end Cert.Band

end
-- ==== Proof.Tile.lean ====
/-  One tile of the band attention: 256 queries of a head pair against a window of 768 keys. -/
module

public import proofs.«01_k».proof.Proof.Gen.KernelIdeal.Frame
public import Idealize.ShloMosaic.Lib.Pointwise
public import Idealize.ShloMosaic.Lib.IdealHost
public import proofs.«01_k».proof.Proof.Softmax

@[expose] public section

set_option maxRecDepth 16384

noncomputable section

namespace Cert.Band

open Cert.KernelIdeal Cert.KernelIdeal.Gen Idealize.ShloMosaic

/-- The scores of a tile, keys down and queries across: the even head's 256 queries, then the odd head's. A key
    whose row is below `thr` is masked. -/
def tileScores (thr : BitVec 32) (kk : FVec Ideal S768x128 .bf16) (bb : FVec Ideal S768x512 .f32)
    (qq : Vec Ideal S1x256x128 .bf16) : FVec Ideal S768x512 .f32 :=
  select (cmpi .sge (iota .tc S768x512 32 [0] iota_S768x512_d0_w32) (broadcast S768x512 thr))
    (addf (matmul dot_S768x128_S512x128_S768x512_1_1_0_0_n_n none kk
      (concatenate S512x128 0
        [⟨S256x128, select (cmpi .slt (iota .tc S256x128 32 [1] iota_S256x128_d1_w32) (broadcast S256x128 64#32))
            (shapeCast S256x128 qq shapeCasts_S1x256x128_S256x128) (broadcast S256x128 (Scalar.ofBits .bf16 0x0000#16))⟩,
         ⟨S256x128, select (cmpi .sge (iota .tc S256x128 32 [1] iota_S256x128_d1_w32) (broadcast S256x128 64#32))
            (shapeCast S256x128 qq shapeCasts_S1x256x128_S256x128) (broadcast S256x128 (Scalar.ofBits .bf16 0x0000#16))⟩]
        concatenates_S256x128_S256x128_S512x128_d0)
      (constant S768x512 .f32 0x00000000#32)) bb)
    (broadcast S768x512 (Named.named κ "mask" 0xF149F2CA#32))

/-- The weights of a tile: two to the power of a score less its column's greatest score. -/
def tileWeights (sc : FVec Ideal S768x512 .f32) : FVec Ideal S768x512 .bf16 :=
  truncf .bf16 (exp2 (subf sc (broadcastTo S768x512
    (shapeCast S1x512 (multiReduction .maximumf [0] S512 sc 0xFF800000#32 reduces_S768x512_S512 (.inl rfl) rfl)
      shapeCasts_S512_S1x512) broadcasts_S1x512_S768x512))) bitsLt_bf16_f32

/-- The rows of sums of a tile: the values weighted (64 rows), over the weights' own sum (16 equal rows). -/
def tileSums (vh : FVec Ideal S64x768 .bf16) (ph : FVec Ideal S768x256 .bf16) : FVec Ideal S80x256 .f32 :=
  matmul dot_S80x768_S768x256_S80x256_1_0_0_1_n_n none
    (concatenate S80x768 0 [⟨S64x768, vh⟩, ⟨S16x768, broadcast S16x768 (Scalar.ofBits .bf16 0x3F80#16)⟩]
      concatenates_S64x768_S16x768_S80x768_d0) ph (constant S80x256 .f32 0x00000000#32)

/-- One head's normalised output of a tile, values down and queries across. -/
def tileHead (sm : FVec Ideal S80x256 .f32) : FVec Ideal S64x256 .f32 :=
  divf (extractStridedSlice S64x256 ![0, 0] sm slices_S80x256_o0_0_S64x256)
    (broadcastTo S64x256 (extractStridedSlice S1x256 ![64, 0] sm slices_S80x256_o64_0_S1x256)
      broadcasts_S1x256_S64x256)

/-- The output of a tile: both heads side by side, a row per query. -/
def tileOut (thr : BitVec 32) (kk : FVec Ideal S768x128 .bf16) (vv : FVec Ideal S128x768 .bf16)
    (bb : FVec Ideal S768x512 .f32) (qq : Vec Ideal S1x256x128 .bf16) : FVec Ideal S1x256x128 .bf16 :=
  shapeCast S1x256x128 (truncf .bf16 (transpose S256x128 [1, 0]
    (concatenate S128x256 0
      [⟨S64x256, tileHead (tileSums (extractStridedSlice S64x768 ![0, 0] vv slices_S128x768_o0_0_S64x768)
          (extractStridedSlice S768x256 ![0, 0] (tileWeights (tileScores thr kk bb qq)) slices_S768x512_o0_0_S768x256))⟩,
       ⟨S64x256, tileHead (tileSums (extractStridedSlice S64x768 ![64, 0] vv slices_S128x768_o64_0_S64x768)
          (extractStridedSlice S768x256 ![0, 256] (tileWeights (tileScores thr kk bb qq)) slices_S768x512_o0_256_S768x256))⟩]
      concatenates_S64x256_S64x256_S128x256_d0) transposes_S128x256_p1_0_S256x128) bitsLt_bf16_f32)
    shapeCasts_S256x128_S1x256x128

/-- A selection by "this row is not below the threshold", as a condition on the integers. -/
theorem select_sge {α : Type} (x : ℕ) (hx : x < 2 ^ 31) (thr : BitVec 32) (a b : α) :
    Scalar.select (IntOp.cmpi .sge (BitVec.ofNat 32 x) thr) a b = if thr.toInt ≤ (x : ℤ) then a else b := by
  have h : (BitVec.ofNat 32 x).toInt = (x : ℤ) := by
    have hn : (BitVec.ofNat 32 x).toNat = x := by rw [BitVec.toNat_ofNat]; omega
    rw [BitVec.toInt_eq_toNat_of_lt (by rw [hn]; omega), hn]
  unfold Scalar.select IntOp.cmpi
  simp only [BitVec.sle, h]
  by_cases hc : thr.toInt ≤ (x : ℤ) <;> simp [hc]

/-- A selection by "this lane is below the threshold", as a condition on the integers. -/
theorem select_slt {α : Type} (x : ℕ) (hx : x < 2 ^ 31) (thr : BitVec 32) (a b : α) :
    Scalar.select (IntOp.cmpi .slt (BitVec.ofNat 32 x) thr) a b = if (x : ℤ) < thr.toInt then a else b := by
  have h : (BitVec.ofNat 32 x).toInt = (x : ℤ) := by
    have hn : (BitVec.ofNat 32 x).toNat = x := by rw [BitVec.toNat_ofNat]; omega
    rw [BitVec.toInt_eq_toNat_of_lt (by rw [hn]; omega), hn]
  unfold Scalar.select IntOp.cmpi
  simp only [BitVec.slt, h]
  by_cases hc : (x : ℤ) < thr.toInt <;> simp [hc]

/-- The score of window key `x` and the tile's query `r`, in the even head (`p = 0`) or the odd (`p = 1`): the head's 64
    products and the bias, or −∞ where the key's row is below the threshold. -/
def tileScore (thr : ℤ) (kk : FVec Ideal S768x128 .bf16) (bb : FVec Ideal S768x512 .f32)
    (qq : Vec Ideal S1x256x128 .bf16) (p : Fin 2) (r : Fin 256) (x : Fin 768) : EReal :=
  if thr ≤ (x.val : ℤ) then
    (∑ d : Fin 64, kk (ix2 x ⟨64 * p.val + d.val, by omega⟩) * qq (ix3 0 r ⟨64 * p.val + d.val, by omega⟩))
      + bb (ix2 x ⟨256 * p.val + r.val, by omega⟩)
  else ⊥

/-- The tile's scores are `tileScore`: the other head's lanes are zero in the query. -/
theorem tileScores_apply (thr : BitVec 32) (kk : FVec Ideal S768x128 .bf16) (bb : FVec Ideal S768x512 .f32)
    (qq : Vec Ideal S1x256x128 .bf16) (x : Fin 768) (p : Fin 2) (r : Fin 256) (l : Fin 512)
    (hl : l.val = 256 * p.val + r.val) :
    tileScores thr kk bb qq (ix2 x l) = tileScore thr.toInt kk bb qq p r x := by
  obtain ⟨l, hl'⟩ := l
  simp only at hl
  subst hl
  unfold tileScores
  pointwise
  rw [select_sge _ (by omega)]
  unfold tileScore
  refine if_congr Iff.rfl ?_ rfl
  congr 1
  rw [Fin.sum_univ_two_halves 64 64 rfl]
  have h64 : (64#32 : BitVec 32).toInt = 64 := rfl
  have hp : p = 0 ∨ p = 1 := by omega
  rcases hp with rfl | rfl
  · have hr : 256 * ((0 : Fin 2) : ℕ) + r.val < 256 := by simp
    refine (congrArg₂ (· + ·) (Finset.sum_congr rfl fun d _ => ?_) (Finset.sum_eq_zero fun d _ => ?_)).trans (add_zero _)
    · rw [dif_pos hr, select_slt _ (by omega), h64, if_pos (by exact_mod_cast d.isLt)]
      simp
    · rw [dif_pos hr, select_slt _ (by simp; omega), h64, if_neg (by push_cast; omega), mul_zero]
  · have hr : ¬ 256 * ((1 : Fin 2) : ℕ) + r.val < 256 := by simp
    refine (congrArg₂ (· + ·) (Finset.sum_eq_zero fun d _ => ?_) (Finset.sum_congr rfl fun d _ => ?_)).trans (zero_add _)
    · rw [dif_neg hr, select_sge _ (by simp; omega), h64, if_neg (by have := d.isLt; simp), mul_zero]
    · rw [dif_neg hr, select_sge _ (by omega), h64, if_pos (by push_cast; omega)]
      simp

/-- The weights at a key and a query. -/
theorem tileWeights_apply (sc : FVec Ideal S768x512 .f32) (x : Fin 768) (l : Fin 512) :
    tileWeights sc (ix2 x l)
      = Ideal.exp2 (sc (ix2 x l) - Finset.univ.fold max ⊥ fun y : Fin 768 => sc (ix2 y l)) := by
  unfold tileWeights
  pointwise
  rfl

/-- The sums at a row and a query. -/
theorem tileSums_apply (vh : FVec Ideal S64x768 .bf16) (ph : FVec Ideal S768x256 .bf16) (x : Fin 80) (l : Fin 256) :
    tileSums vh ph (ix2 x l) = ∑ y : Fin 768, (if h : x.val < 64 then vh (ix2 ⟨x.val, h⟩ y) else 1) * ph (ix2 y l) := by
  unfold tileSums
  pointwise

/-- One head's output at a value lane and a query: the weighted sum over the weights' sum. -/
theorem tileHead_apply (vh : FVec Ideal S64x768 .bf16) (ph : FVec Ideal S768x256 .bf16) (x : Fin 64) (l : Fin 256) :
    tileHead (tileSums vh ph) (ix2 x l)
      = Ideal.div (∑ y : Fin 768, vh (ix2 x y) * ph (ix2 y l)) (∑ y : Fin 768, ph (ix2 y l)) := by
  unfold tileHead
  pointwise
  rw [tileSums_apply, tileSums_apply]
  simp

/-- The tile's output at query `r` and lane `64 p + d`: the weighted sum, over head `p`'s scores, of the values of
    that lane. -/
theorem tileOut_apply (thr : BitVec 32) (kk : FVec Ideal S768x128 .bf16) (vv : FVec Ideal S128x768 .bf16)
    (bb : FVec Ideal S768x512 .f32) (qq : Vec Ideal S1x256x128 .bf16) (r : Fin 256) (l : Fin 128) (p : Fin 2)
    (d : Fin 64) (hl : l.val = 64 * p.val + d.val) :
    tileOut thr kk vv bb qq (ix3 0 r l)
      = softTwo (tileScore thr.toInt kk bb qq p r) (fun x : Fin 768 => vv (ix2 l x)) := by
  obtain ⟨l, hl'⟩ := l
  simp only at hl
  subst hl
  unfold tileOut
  pointwise
  simp only [tileHead_apply]
  have hp : p = 0 ∨ p = 1 := by omega
  have hw : ∀ (l' : Fin 512), l'.val = 256 * p.val + r.val → ∀ y : Fin 768,
      tileWeights (tileScores thr kk bb qq) (ix2 y l')
        = Ideal.exp2 (tileScore thr.toInt kk bb qq p r y
            - Finset.univ.fold max ⊥ (tileScore thr.toInt kk bb qq p r)) := by
    intro l' h y
    rw [tileWeights_apply]
    simp only [tileScores_apply thr kk bb qq _ p r l' h]
  unfold softTwo
  rcases hp with rfl | rfl
  · rw [dif_pos (by simp)]
    have hs : ∀ y : Fin 768, extractStridedSlice S768x256 ![0, 0] (tileWeights (tileScores thr kk bb qq))
        slices_S768x512_o0_0_S768x256 (ix2 y r) = tileWeights (tileScores thr kk bb qq) (ix2 y ⟨r.val, by omega⟩) := by
      intro y; pointwise
    have hv : ∀ (z : Fin 64) (y : Fin 768), extractStridedSlice S64x768 ![0, 0] vv slices_S128x768_o0_0_S64x768 (ix2 z y)
        = vv (ix2 ⟨z.val, by omega⟩ y) := by
      intro z y; pointwise
    simp only [hs, hv, hw ⟨r.val, by omega⟩ (by simp)]
  · rw [dif_neg (by simp)]
    have hs : ∀ y : Fin 768, extractStridedSlice S768x256 ![0, 256] (tileWeights (tileScores thr kk bb qq))
        slices_S768x512_o0_256_S768x256 (ix2 y r)
          = tileWeights (tileScores thr kk bb qq) (ix2 y ⟨256 + r.val, by omega⟩) := by
      intro y; pointwise
    have hv : ∀ (z : Fin 64) (y : Fin 768), extractStridedSlice S64x768 ![64, 0] vv slices_S128x768_o64_0_S64x768 (ix2 z y)
        = vv (ix2 ⟨64 + z.val, by omega⟩ y) := by
      intro z y; pointwise
    simp only [hs, hv, hw ⟨256 + r.val, by omega⟩ (by simp)]
    simp

end Cert.Band

end
-- ==== Proof.Block.lean ====
/-  One grid point of the band attention: four tiles of 256 queries over one window of 1536 keys. -/
module

public import proofs.«01_k».proof.Proof.Tile
public import Idealize.ShloMosaic.Lib.Pipeline.ValueKit

@[expose] public section

set_option maxRecDepth 16384

noncomputable section

namespace Cert.Band

open Cert.KernelIdeal Cert.KernelIdeal.Gen Idealize.ShloMosaic

/-- The row below which tile `sub` of grid coordinate `g` masks its keys, as the program computes it. -/
def thrWord (g sub : ℕ) : BitVec 32 :=
  Scalar.subi (Scalar.subi 512#32 (Scalar.muli (BitVec.ofNat 32 g) 1024#32)) (BitVec.ofNat 32 (256 * sub))

/-- The masking row as an integer. -/
theorem thrWord_toInt (g sub : ℕ) (hg : g < 16) (hs : sub < 4) :
    (thrWord g sub).toInt = 512 - 1024 * (g : ℤ) - 256 * (sub : ℤ) := by
  have h : ∀ g : Fin 16, ∀ s : Fin 4, (thrWord g.val s.val).toInt = 512 - 1024 * ((g.val : ℕ) : ℤ) - 256 * ((s.val : ℕ) : ℤ) := by
    decide +kernel
  exact h ⟨g, hg⟩ ⟨sub, hs⟩

section
variable (a2 : BitVec 32) (v6 : FVec Ideal S1536x128 .bf16) (v13 : FVec Ideal S128x1536 .bf16)
  (v18 : FVec Ideal S768x512 .f32) (q : Vec Ideal S1x256x128 .bf16)

/-- The first tile's stored rows. -/
theorem pay_zero :
    k0_pay9 a2 v6 v13 (iota .tc S256x128 32 [1] iota_S256x128_d1_w32) (k0_pay4 (F := Ideal))
        (iota .tc S768x512 32 [0] iota_S768x512_d0_w32) v18 (k0_pay6 q) (k0_pay7 q) k0_pay8
      = tileOut (Scalar.subi (Scalar.subi 512#32 (Scalar.muli a2 1024#32)) 0#32)
          (extractStridedSlice S768x128 ![0, 0] v6 slices_S1536x128_o0_0_S768x128)
          (extractStridedSlice S128x768 ![0, 0] v13 slices_S128x1536_o0_0_S128x768) v18 q := rfl

/-- The second tile's stored rows. -/
theorem pay_one :
    k0_pay11 (k0_pay10 a2 v6 v13 (iota .tc S256x128 32 [1] iota_S256x128_d1_w32) (k0_pay4 (F := Ideal))
        (iota .tc S768x512 32 [0] iota_S768x512_d0_w32) v18 q)
      = tileOut (Scalar.subi (Scalar.subi 512#32 (Scalar.muli a2 1024#32)) 256#32)
          (extractStridedSlice S768x128 ![256, 0] v6 slices_S1536x128_o256_0_S768x128)
          (extractStridedSlice S128x768 ![0, 256] v13 slices_S128x1536_o0_256_S128x768) v18 q := rfl

/-- The third tile's stored rows. -/
theorem pay_two :
    k0_pay16 (k0_pay14 a2 v6 v13 (iota .tc S256x128 32 [1] iota_S256x128_d1_w32) (k0_pay4 (F := Ideal))
        (iota .tc S768x512 32 [0] iota_S768x512_d0_w32) v18 q)
        (k0_pay15 a2 v6 v13 (iota .tc S256x128 32 [1] iota_S256x128_d1_w32) (k0_pay4 (F := Ideal))
        (iota .tc S768x512 32 [0] iota_S768x512_d0_w32) v18 q)
      = tileOut (Scalar.subi (Scalar.subi 512#32 (Scalar.muli a2 1024#32)) 512#32)
          (extractStridedSlice S768x128 ![512, 0] v6 slices_S1536x128_o512_0_S768x128)
          (extractStridedSlice S128x768 ![0, 512] v13 slices_S128x1536_o0_512_S128x768) v18 q := rfl

/-- The fourth tile's stored rows. -/
theorem pay_three :
    k0_pay1 (k0_pay4 (F := Ideal)) (k0_pay17 a2 v6 (iota .tc S256x128 32 [1] iota_S256x128_d1_w32)
        (iota .tc S768x512 32 [0] iota_S768x512_d0_w32) v18 q) (k0_pay18 v13)
        (k0_pay19 a2 v6 v13 (iota .tc S256x128 32 [1] iota_S256x128_d1_w32) (k0_pay4 (F := Ideal))
        (iota .tc S768x512 32 [0] iota_S768x512_d0_w32) v18 q)
      = tileOut (Scalar.subi (Scalar.subi 512#32 (Scalar.muli a2 1024#32)) 768#32)
          (extractStridedSlice S768x128 ![768, 0] v6 slices_S1536x128_o768_0_S768x128)
          (extractStridedSlice S128x768 ![0, 768] v13 slices_S128x1536_o0_768_S128x768) v18 q := rfl

end

/-- The window's key rows: three blocks of 512. -/
def keyAt (x1 x2 x3 : Vec Ideal S1x512x128 .bf16) (n : Fin 1536) (l : Fin 128) : EReal :=
  if h : n.val < 512 then x1 (ix3 0 ⟨n.val, h⟩ l)
  else if h' : n.val < 1024 then x2 (ix3 0 ⟨n.val - 512, by omega⟩ l)
  else x3 (ix3 0 ⟨n.val - 1024, by omega⟩ l)

/-- The window's values, a lane per row: three blocks of 512 keys. -/
def valAt (x4 x5 x6 : Vec Ideal S1x1x128x512 .bf16) (l : Fin 128) (n : Fin 1536) : EReal :=
  if h : n.val < 512 then x4 (ix4 0 0 l ⟨n.val, h⟩)
  else if h' : n.val < 1024 then x5 (ix4 0 0 l ⟨n.val - 512, by omega⟩)
  else x6 (ix4 0 0 l ⟨n.val - 1024, by omega⟩)

/-- The joined key blocks at a row. -/
theorem keys_apply (x1 x2 x3 : Vec Ideal S1x512x128 .bf16) (n : Fin 1536) (l : Fin 128) :
    k0_pay2 x1 x2 x3 (ix2 n l) = keyAt x1 x2 x3 n l := by
  unfold k0_pay2 keyAt
  pointwise
  by_cases h : n.val < 512
  · rw [dif_pos h, dif_pos h]
  · rw [dif_neg h, dif_neg h]
    by_cases h' : n.val < 1024
    · rw [dif_pos (by omega), dif_pos h']
    · rw [dif_neg (by omega), dif_neg h']
      congr 2

/-- The joined value blocks at a lane. -/
theorem vals_apply (x4 x5 x6 : Vec Ideal S1x1x128x512 .bf16) (l : Fin 128) (n : Fin 1536) :
    k0_pay3 x4 x5 x6 (ix2 l n) = valAt x4 x5 x6 l n := by
  unfold k0_pay3 valAt
  pointwise
  by_cases h : n.val < 512
  · rw [dif_pos h, dif_pos h]
  · rw [dif_neg h, dif_neg h]
    by_cases h' : n.val < 1024
    · rw [dif_pos (by omega), dif_pos h']
    · rw [dif_neg (by omega), dif_neg h']
      congr 2

/-- The score of window key `x` and query `r` of tile `sub`, head `p` of the pair. -/
def blockScore (g sub : ℕ) (hs : sub < 4) (x0 : Vec Ideal S1x1024x128 .bf16) (x1 x2 x3 : Vec Ideal S1x512x128 .bf16)
    (x7 : Vec Ideal S1x768x512 .f32) (p : Fin 2) (r : Fin 256) (x : Fin 768) : EReal :=
  if 512 - 1024 * (g : ℤ) - 256 * (sub : ℤ) ≤ (x.val : ℤ) then
    (∑ d : Fin 64, keyAt x1 x2 x3 ⟨256 * sub + x.val, by omega⟩ ⟨64 * p.val + d.val, by omega⟩
        * x0 (ix3 0 ⟨256 * sub + r.val, by omega⟩ ⟨64 * p.val + d.val, by omega⟩))
      + x7 (ix3 0 x ⟨256 * p.val + r.val, by omega⟩)
  else ⊥

/-- A tile whose operands are tile `sub`'s cuts of the point's blocks leaves the weighted sums of the point's scores. -/
theorem tile_block (g : ℕ) (hg : g < 16) (sub : ℕ) (hs : sub < 4) (x0 : Vec Ideal S1x1024x128 .bf16)
    (x1 x2 x3 : Vec Ideal S1x512x128 .bf16) (x4 x5 x6 : Vec Ideal S1x1x128x512 .bf16) (x7 : Vec Ideal S1x768x512 .f32)
    (kk : FVec Ideal S768x128 .bf16) (vv : FVec Ideal S128x768 .bf16) (bb : FVec Ideal S768x512 .f32)
    (qq : Vec Ideal S1x256x128 .bf16)
    (hk : ∀ (x : Fin 768) (l : Fin 128), kk (ix2 x l) = keyAt x1 x2 x3 ⟨256 * sub + x.val, by omega⟩ l)
    (hv : ∀ (l : Fin 128) (x : Fin 768), vv (ix2 l x) = valAt x4 x5 x6 l ⟨256 * sub + x.val, by omega⟩)
    (hb : ∀ (x : Fin 768) (l : Fin 512), bb (ix2 x l) = x7 (ix3 0 x l))
    (hq : ∀ (r : Fin 256) (l : Fin 128), qq (ix3 0 r l) = x0 (ix3 0 ⟨256 * sub + r.val, by omega⟩ l))
    (r : Fin 256) (p : Fin 2) (d : Fin 64) (x : S1x256x128.Idx) (h1 : (x 1).val = r.val) (h2 : (x 2).val = 64 * p.val + d.val) :
    tileOut (thrWord g sub) kk vv bb qq x
      = softTwo (blockScore g sub hs x0 x1 x2 x3 x7 p r)
          (fun x => valAt x4 x5 x6 ⟨64 * p.val + d.val, by omega⟩ ⟨256 * sub + x.val, by omega⟩) := by
  have hx : x = ix3 0 r ⟨64 * p.val + d.val, by omega⟩ := by
    funext a
    match a with
    | 0 => exact Fin.ext (by have := (x 0).isLt; simp only [S1x256x128, Shape.size] at this ⊢; simpa using this)
    | 1 => exact Fin.ext h1
    | 2 => exact Fin.ext h2
  rw [hx, tileOut_apply _ _ _ _ _ r _ p d rfl, thrWord_toInt g sub hg hs]
  unfold tileScore blockScore
  simp only [hk, hv, hb, hq]

/-- What the grid point leaves at query row `256 sub + r` and lane `64 p + d`. -/
theorem block_apply (i : grid0.Coords) (x0 : Vec Ideal S1x1024x128 .bf16) (x1 x2 x3 : Vec Ideal S1x512x128 .bf16)
    (x4 x5 x6 : Vec Ideal S1x1x128x512 .bf16) (x7 : Vec Ideal S1x768x512 .f32) (sub : ℕ) (hs : sub < 4) (r : Fin 256)
    (p : Fin 2) (d : Fin 64) :
    out0_8 i x0 x1 x2 x3 x4 x5 x6 x7 (ix3 0 ⟨256 * sub + r.val, by omega⟩ ⟨64 * p.val + d.val, by omega⟩)
      = softTwo (blockScore (i 2).val sub hs x0 x1 x2 x3 x7 p r)
          (fun x => valAt x4 x5 x6 ⟨64 * p.val + d.val, by omega⟩ ⟨256 * sub + x.val, by omega⟩) := by
  have hg : (i 2).val < 16 := (i 2).isLt
  have e1 : ∀ x : Vec Ideal S1x512x128 .bf16, View.ld x r0_0 = x := fun x => View.ld_unit_lit _ x (by decide)
  have e2 : ∀ x : Vec Ideal S1x1x128x512 .bf16, View.ld x r0_1 = x := fun x => View.ld_unit_lit _ x (by decide)
  have e3 : ∀ x : Vec Ideal S1x768x512 .f32, View.ld x r0_2 = x := fun x => View.ld_unit_lit _ x (by decide)
  unfold_out out0_8
  simp only [e1, e2, e3]
  canon_tiles x h
  · have h1' : 256 * sub + r.val = 768 + (x 1).val := h1
    obtain rfl : sub = 3 := by omega
    rw [pay_three]
    refine tile_block (i 2).val hg 3 hs x0 x1 x2 x3 x4 x5 x6 x7 _ _ _ _ ?_ ?_ ?_ ?_ r p d x (by omega) h2.symm
    · intro y l; rw [← keys_apply]; pointwise
    · intro l y; rw [← vals_apply]; pointwise
    · intro y l; unfold k0_pay5; pointwise
    · intro y l
      exact View.ld_unit_apply_of x0 _ _ _ (ix3 0 y l) _ (fun a => by match a with | 0 => rfl | 1 => rfl | 2 => exact (Nat.zero_add _).symm)
  · have h1' : 256 * sub + r.val = 512 + (x 1).val := h1
    obtain rfl : sub = 2 := by omega
    rw [pay_two]
    refine tile_block (i 2).val hg 2 hs x0 x1 x2 x3 x4 x5 x6 x7 _ _ _ _ ?_ ?_ ?_ ?_ r p d x (by omega) h2.symm
    · intro y l; rw [← keys_apply]; pointwise
    · intro l y; rw [← vals_apply]; pointwise
    · intro y l; unfold k0_pay5; pointwise
    · intro y l
      exact View.ld_unit_apply_of x0 _ _ _ (ix3 0 y l) _ (fun a => by match a with | 0 => rfl | 1 => rfl | 2 => exact (Nat.zero_add _).symm)
  · have h1' : 256 * sub + r.val = 256 + (x 1).val := h1
    obtain rfl : sub = 1 := by omega
    rw [pay_one]
    refine tile_block (i 2).val hg 1 hs x0 x1 x2 x3 x4 x5 x6 x7 _ _ _ _ ?_ ?_ ?_ ?_ r p d x (by omega) h2.symm
    · intro y l; rw [← keys_apply]; pointwise
    · intro l y; rw [← vals_apply]; pointwise
    · intro y l; unfold k0_pay5; pointwise
    · intro y l
      exact View.ld_unit_apply_of x0 _ _ _ (ix3 0 y l) _ (fun a => by match a with | 0 => rfl | 1 => rfl | 2 => exact (Nat.zero_add _).symm)
  · have h1' : 256 * sub + r.val = (x 1).val := h1
    obtain rfl : sub = 0 := by omega
    rw [pay_zero]
    refine tile_block (i 2).val hg 0 hs x0 x1 x2 x3 x4 x5 x6 x7 _ _ _ _ ?_ ?_ ?_ ?_ r p d x (by omega) h2.symm
    · intro y l; rw [← keys_apply]; pointwise
    · intro l y; rw [← vals_apply]; pointwise
    · intro y l; unfold k0_pay5; pointwise
    · intro y l
      exact View.ld_unit_apply_of x0 _ _ _ (ix3 0 y l) _ (fun a => by match a with | 0 => rfl | 1 => rfl | 2 => exact (Nat.zero_add _).symm)

end Cert.Band

end
-- ==== Proof.Array.lean ====
/-  The result array of the band attention's launch, from the arrays it stages. -/
module

public import proofs.«01_k».proof.Proof.Block
public import proofs.«01_k».proof.Proof.Gen.KernelIdeal.Value

@[expose] public section

set_option maxRecDepth 16384

noncomputable section

namespace Cert.Band

open Cert.KernelIdeal Cert.KernelIdeal.Gen Idealize.ShloMosaic Idealize.ShloMosaic.TcCoe Idealize.SL.Sem

/-- Where each window's block lies, as a function of the grid point. -/
theorem idx : ∀ t : Fin grid0.N,
    win0_0.index t = ![(grid0.coords t 0).val, (grid0.coords t 2).val, (grid0.coords t 1).val]
    ∧ win0_1.index t = ![(grid0.coords t 0).val, 2 * (grid0.coords t 2).val - 1, (grid0.coords t 1).val]
    ∧ win0_2.index t = ![(grid0.coords t 0).val, 2 * (grid0.coords t 2).val, (grid0.coords t 1).val]
    ∧ win0_3.index t = ![(grid0.coords t 0).val, 2 * (grid0.coords t 2).val + 1, (grid0.coords t 1).val]
    ∧ win0_4.index t = ![(grid0.coords t 0).val, 2 * (grid0.coords t 2).val - 1, (grid0.coords t 1).val, 0]
    ∧ win0_5.index t = ![(grid0.coords t 0).val, 2 * (grid0.coords t 2).val, (grid0.coords t 1).val, 0]
    ∧ win0_6.index t = ![(grid0.coords t 0).val, 2 * (grid0.coords t 2).val + 1, (grid0.coords t 1).val, 0]
    ∧ win0_7.index t = ![(grid0.coords t 1).val, 0, 0]
    ∧ win0_8.index t = ![(grid0.coords t 0).val, (grid0.coords t 2).val, (grid0.coords t 1).val] := by
  decide +kernel

/-- Every point writes its block back. -/
theorem flush8 : ∀ t : Fin grid0.N, win0_8.flush t = true := by decide +kernel

variable (m : (ℓ : Loc nD τ sig) → Buf (Elt Ideal) ℓ) (c : Dev nD)

/-- The score of window key `x` for query `r` of tile `sub` of the block of 1024 queries `g`: head `p` of the pair `pr`. -/
def arrScore (Q K : S2x16384x512.Idx → EReal) (B : S4x768x512.Idx → EReal) (b : Fin 2) (pr : Fin 4) (g : Fin 16)
    (sub : Fin 4) (r : Fin 256) (p : Fin 2) (x : Fin 768) : EReal :=
  if h : 512 ≤ 1024 * g.val + 256 * sub.val + x.val then
    (∑ d : Fin 64, K (ix3 b ⟨1024 * g.val + 256 * sub.val + x.val - 512, by omega⟩ ⟨128 * pr.val + 64 * p.val + d.val, by omega⟩)
        * Q (ix3 b ⟨1024 * g.val + 256 * sub.val + r.val, by omega⟩ ⟨128 * pr.val + 64 * p.val + d.val, by omega⟩))
      + B (ix3 pr x ⟨256 * p.val + r.val, by omega⟩)
  else ⊥

/-- The value at window key `x` and lane `l` of the pair. -/
def arrVal (Vt : S2x32x512x512.Idx → EReal) (b : Fin 2) (pr : Fin 4) (g : Fin 16) (sub : Fin 4) (l : Fin 128) (x : Fin 768) :
    EReal :=
  Vt (ix4 b ⟨(1024 * g.val + 256 * sub.val + x.val - 512) / 512, by omega⟩ ⟨128 * pr.val + l.val, by omega⟩
    ⟨(1024 * g.val + 256 * sub.val + x.val - 512) % 512, by omega⟩)

/-- The query block read from its array. -/
theorem read0 (t : Fin cfg0.N) (n : Fin 1024) (l : Fin 128) (b : Fin 2) (pr : Fin 4) (g : Fin 16)
    (hb : (grid0.coords t 0).val = b.val) (hp : (grid0.coords t 1).val = pr.val) (hg : (grid0.coords t 2).val = g.val) :
    iblk m c 0 t (ix3 0 n l) = V m c main_v5 (ix3 b ⟨1024 * g.val + n.val, by omega⟩ ⟨128 * pr.val + l.val, by omega⟩) := by
  blk_ext [iblk, idx t]

/-- The bias block read from its array. -/
theorem read7 (t : Fin cfg0.N) (n : Fin 768) (l : Fin 512) (pr : Fin 4)
    (hp : (grid0.coords t 1).val = pr.val) :
    iblk m c 7 t (ix3 0 n l) = V m c main_v56 (ix3 pr n l) := by
  blk_ext [iblk, idx t]

/-- The key blocks read from their array. -/
theorem readK (t : Fin cfg0.N) (n : Fin 1536) (l : Fin 128) (b : Fin 2) (pr : Fin 4) (g : Fin 16)
    (hb : (grid0.coords t 0).val = b.val) (hp : (grid0.coords t 1).val = pr.val) (hg : (grid0.coords t 2).val = g.val)
    (hn : 512 ≤ 1024 * g.val + n.val) :
    keyAt (iblk m c 1 t) (iblk m c 2 t) (iblk m c 3 t) n l
      = V m c main_arg1 (ix3 b ⟨1024 * g.val + n.val - 512, by omega⟩ ⟨128 * pr.val + l.val, by omega⟩) := by
  unfold keyAt
  split_ifs with h1 h2
  · blk_ext [iblk, idx t]
  · blk_ext [iblk, idx t]
  · blk_ext [iblk, idx t]

/-- The value blocks read from their array. -/
theorem readV (t : Fin cfg0.N) (n : Fin 1536) (l : Fin 128) (b : Fin 2) (pr : Fin 4) (g : Fin 16)
    (hb : (grid0.coords t 0).val = b.val) (hp : (grid0.coords t 1).val = pr.val) (hg : (grid0.coords t 2).val = g.val)
    (hn : 512 ≤ 1024 * g.val + n.val) :
    valAt (iblk m c 4 t) (iblk m c 5 t) (iblk m c 6 t) l n
      = V m c main_arg2 (ix4 b ⟨(1024 * g.val + n.val - 512) / 512, by omega⟩ ⟨128 * pr.val + l.val, by omega⟩
          ⟨(1024 * g.val + n.val - 512) % 512, by omega⟩) := by
  unfold valAt
  split_ifs with h1 h2
  · blk_ext [iblk, idx t]
  · blk_ext [iblk, idx t]
  · blk_ext [iblk, idx t]

/-- The point's scores are the arrays' scores. -/
theorem score_eq (t : Fin cfg0.N) (b : Fin 2) (pr : Fin 4) (g : Fin 16)
    (hb : (grid0.coords t 0).val = b.val) (hp : (grid0.coords t 1).val = pr.val) (hg : (grid0.coords t 2).val = g.val)
    (sub : Fin 4) (r : Fin 256) (p : Fin 2) (x : Fin 768) :
    blockScore (grid0.coords t 2).val sub.val sub.isLt (iblk m c 0 t) (iblk m c 1 t) (iblk m c 2 t) (iblk m c 3 t)
        (iblk m c 7 t) p r x
      = arrScore (V m c main_v5) (V m c main_arg1) (V m c main_v56) b pr g sub r p x := by
  unfold blockScore arrScore
  rw [hg]
  by_cases hc : 512 ≤ 1024 * g.val + 256 * sub.val + x.val
  · rw [dif_pos hc, if_pos (by omega)]
    refine congrArg₂ (· + ·) (Finset.sum_congr rfl fun e _ => ?_) (read7 m c t x _ pr hp)
    refine congrArg₂ (· * ·) ((readK m c t _ _ b pr g hb hp hg (by simp only; omega)).trans ?_)
      ((read0 m c t _ _ b pr g hb hp hg).trans ?_)
    · simp only [← Nat.add_assoc]
    · simp only [← Nat.add_assoc]
  · rw [dif_neg hc, if_neg (by omega)]

/-- The point's values are the array's values wherever the key is not masked. -/
theorem val_eq (t : Fin cfg0.N) (b : Fin 2) (pr : Fin 4) (g : Fin 16)
    (hb : (grid0.coords t 0).val = b.val) (hp : (grid0.coords t 1).val = pr.val) (hg : (grid0.coords t 2).val = g.val)
    (sub : Fin 4) (r : Fin 256) (p : Fin 2) (d : Fin 64) (x : Fin 768)
    (hx : arrScore (V m c main_v5) (V m c main_arg1) (V m c main_v56) b pr g sub r p x ≠ ⊥) :
    valAt (iblk m c 4 t) (iblk m c 5 t) (iblk m c 6 t) ⟨64 * p.val + d.val, by omega⟩ ⟨256 * sub.val + x.val, by omega⟩
      = arrVal (V m c main_arg2) b pr g sub ⟨64 * p.val + d.val, by omega⟩ x := by
  have hc : 512 ≤ 1024 * g.val + 256 * sub.val + x.val := by
    by_contra hc
    exact hx (dif_neg hc)
  unfold arrVal
  refine (readV m c t _ _ b pr g hb hp hg (by simp only; omega)).trans ?_
  simp only [← Nat.add_assoc]

/-- The result array at a query, a head's lane. -/
theorem array_apply (b : Fin 2) (pr : Fin 4) (g : Fin 16) (sub : Fin 4) (r : Fin 256) (p : Fin 2) (d : Fin 64) :
    (dats m 0 c).arrAt 8 cfg0.N (ix3 b ⟨1024 * g.val + 256 * sub.val + r.val, by omega⟩
        ⟨128 * pr.val + 64 * p.val + d.val, by omega⟩)
      = softTwo (arrScore (V m c main_v5) (V m c main_arg1) (V m c main_v56) b pr g sub r p)
          (arrVal (V m c main_arg2) b pr g sub ⟨64 * p.val + d.val, by omega⟩) := by
  obtain ⟨t, hb, hp, hg⟩ : ∃ t : Fin grid0.N, (grid0.coords t 0).val = b.val ∧ (grid0.coords t 1).val = pr.val
      ∧ (grid0.coords t 2).val = g.val := by
    have h : ∀ (b : Fin 2) (pr : Fin 4) (g : Fin 16), ∃ t : Fin grid0.N, (grid0.coords t 0).val = b.val
        ∧ (grid0.coords t 1).val = pr.val ∧ (grid0.coords t 2).val = g.val := by decide +kernel
    exact h b pr g
  have h := congrFun (Value.blocks8 m c t (flush8 t)) (ix3 0 ⟨256 * sub.val + r.val, by omega⟩ ⟨64 * p.val + d.val, by omega⟩)
  rw [Value.flushed8] at h
  blk_simp at h
  have he : ix3 b ⟨1024 * g.val + 256 * sub.val + r.val, by omega⟩ ⟨128 * pr.val + 64 * p.val + d.val, by omega⟩
      = (win0_8.blk t).view.emb (ix3 0 ⟨256 * sub.val + r.val, by omega⟩ ⟨64 * p.val + d.val, by omega⟩) := by
    blk_ext [idx t]
  refine (congrArg _ he).trans (h.trans ?_)
  refine (block_apply (grid0.coords t) _ _ _ _ _ _ _ _ sub.val sub.isLt r p d).trans ?_
  exact softTwo_congr _ _ _ _ (score_eq m c t b pr g hb hp hg sub r p) (val_eq m c t b pr g hb hp hg sub r p d)

end Cert.Band

end
-- ==== Proof.Host.lean ====
/-  What the host hands to the kernel, read at an index: the scaled queries and the bias tile. -/
module

public import proofs.«01_k».proof.Proof.Array
public import Idealize.ShloMosaic.Lib.StableHlo.ReadAt
public import Idealize.ShloMosaic.Lib.StableHlo.Predicate
public import Idealize.ShloMosaic.Lib.Tactic.WordOmega

@[expose] public section

set_option maxRecDepth 16384

noncomputable section

namespace Cert.Band

open Cert.KernelIdeal Cert.KernelIdeal.Gen Idealize.ShloMosaic Idealize.ShloMosaic.TcCoe Idealize.SL.Sem

/-- The two heads of each pair, side by side. -/
def joinHeads (a b : FVec Ideal S4x768x256 .f32) : FVec Ideal S4x768x512 .f32 :=
  concatenate S4x768x512 2 [⟨S4x768x256, a⟩, ⟨S4x768x256, b⟩] concatenates_S4x768x256_S4x768x256_S4x768x512_d2

/-- The host's last operations, the last of them by the name of its function. -/
theorem hostOps0_14_eq : hostOps0_14 (F := Ideal) =
  [ StableHlo.unary main_v52 main_v53 ((transpose S8x768x256 [0, 2, 1] · transposes_S8x256x768_S8x768x256_0_2_1) : (⟨S8x256x768, .f32⟩ : BufTy).Contents (Elt Ideal) → (⟨S8x768x256, .f32⟩ : BufTy).Contents (Elt Ideal)),
    StableHlo.unary main_v53 main_v54 ((Host.slice S4x768x256 ![0, 0, 0] ![2, 1, 1] · slicesBy_S8x768x256_S4x768x256_0s2_0s1_0s1) : (⟨S8x768x256, .f32⟩ : BufTy).Contents (Elt Ideal) → (⟨S4x768x256, .f32⟩ : BufTy).Contents (Elt Ideal)),
    StableHlo.unary main_v53 main_v55 ((Host.slice S4x768x256 ![1, 0, 0] ![2, 1, 1] · slicesBy_S8x768x256_S4x768x256_1s2_0s1_0s1) : (⟨S8x768x256, .f32⟩ : BufTy).Contents (Elt Ideal) → (⟨S4x768x256, .f32⟩ : BufTy).Contents (Elt Ideal)),
    StableHlo.binary main_v54 main_v55 main_v56 (joinHeads : (⟨S4x768x256, .f32⟩ : BufTy).Contents (Elt Ideal) → (⟨S4x768x256, .f32⟩ : BufTy).Contents (Elt Ideal) → (⟨S4x768x512, .f32⟩ : BufTy).Contents (Elt Ideal)) ] := rfl

/-- Each window key's chunk. -/
def keyChunk : IVec S1x768 32 :=
  select
    (andi
      (cmpi .ne (signi (broadcastInDim S1x768 ![1] bcast_S768_S1x768_1 (iotaInDim S768 32 0))) (broadcastInDim S1x768 ![] bcast_S_S1x768 (signi (id (constantI S_ 32 64#32)))))
      (cmpi .ne (Host.remsi (broadcastInDim S1x768 ![1] bcast_S768_S1x768_1 (iotaInDim S768 32 0)) (broadcastInDim S1x768 ![] bcast_S_S1x768 (id (constantI S_ 32 64#32))))
        (broadcastInDim S1x768 ![] bcast_S_S1x768 (constantI S_ 32 0#32))))
    (subi (Host.divsi (broadcastInDim S1x768 ![1] bcast_S768_S1x768_1 (iotaInDim S768 32 0)) (broadcastInDim S1x768 ![] bcast_S_S1x768 (id (constantI S_ 32 64#32))))
      (broadcastInDim S1x768 ![] bcast_S_S1x768 (constantI S_ 32 1#32)))
    (Host.divsi (broadcastInDim S1x768 ![1] bcast_S768_S1x768_1 (iotaInDim S768 32 0)) (broadcastInDim S1x768 ![] bcast_S_S1x768 (id (constantI S_ 32 64#32))))

/-- Each query's chunk. -/
def rowChunk : IVec S256x1 32 :=
  select
    (andi
      (cmpi .ne (signi (broadcastInDim S256x1 ![0] bcast_S256_S256x1_0 (iotaInDim S256 32 0))) (broadcastInDim S256x1 ![] bcast_S_S256x1 (signi (id (constantI S_ 32 64#32)))))
      (cmpi .ne (Host.remsi (broadcastInDim S256x1 ![0] bcast_S256_S256x1_0 (iotaInDim S256 32 0)) (broadcastInDim S256x1 ![] bcast_S_S256x1 (id (constantI S_ 32 64#32))))
        (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (id (constantI S_ 32 64#32))))
      (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (id (constantI S_ 32 64#32))))

/-- Whether a window key lies in a query's band. -/
def inBand : IVec S256x768 1 :=
  andi
    (cmpi .sge (broadcastInDim S256x768 ![0, 1] bcast_S1x768_S256x768_0_1 keyChunk)
      (broadcastInDim S256x768 ![0, 1] bcast_S256x1_S256x768_0_1 rowChunk))
    (cmpi .sle (broadcastInDim S256x768 ![0, 1] bcast_S1x768_S256x768_0_1 keyChunk)
      (broadcastInDim S256x768 ![0, 1] bcast_S256x1_S256x768_0_1
        (addi rowChunk (broadcastInDim S256x1 ![] bcast_S_S256x1 (constantI S_ 32 8#32)))))

/-- The cyclic distance of each entry of the unrolled bias row. -/
def rowDist : IVec S1024 32 :=
  select (cmpi .slt (iotaInDim S1024 32 0) (broadcastInDim S1024 ![] bcast_S_S1024 (constantI S_ 32 768#32)))
    (iotaInDim S1024 32 0)
    (subi (iotaInDim S1024 32 0) (broadcastInDim S1024 ![] bcast_S_S1024 (constantI S_ 32 1024#32)))

/-- Its table entry, before wrapping. -/
def rowEntry : IVec S1024 32 :=
  addi
    (minsi (broadcastInDim S1024 ![] bcast_S_S1024 (id (constantI S_ 32 256#32)))
      (maxsi (broadcastInDim S1024 ![] bcast_S_S1024 (id (constantI S_ 32 4294967040#32)))
        (subi (broadcastInDim S1024 ![] bcast_S_S1024 (constantI S_ 32 512#32)) rowDist)))
    (broadcastInDim S1024 ![] bcast_S_S1024 (constantI S_ 32 256#32))

/-- The table entries to gather. -/
def rowIdx : IVec S1024x1 32 :=
  broadcastInDim S1024x1 ![0] bcast_S1024_S1024x1_0
    (select (cmpi .slt rowEntry (broadcastInDim S1024 ![] bcast_S_S1024 (constantI S_ 32 0#32)))
      (addi rowEntry (broadcastInDim S1024 ![] bcast_S_S1024 (constantI S_ 32 513#32))) rowEntry)

/-- The unrolled bias row of each head, in the scores' unit. -/
def biasRow (t : FVec Ideal S8x513 .f32) : FVec Ideal S8x1024 .f32 :=
  mulf (Host.gather gather_S8x513_S1024x1_S8x1024_0_1_n_n_1_1_81 t rowIdx)
    (broadcastInDim S8x1024 ![] bcast_S_S8x1024
      (Host.divf (constant S_ .f32 0x3F800000#32) (Host.log (constant S_ .f32 0x40000000#32))))

/-- The bias of each head, query and window key: the unrolled row, turned by one entry per query. -/
def biasVals (t : FVec Ideal S8x513 .f32) : FVec Ideal S8x256x768 .f32 :=
  extractStridedSlice S8x256x768 ![0, 0, 0]
    (shapeCast S8x256x1023
      (extractStridedSlice S8x261888 ![0, 0]
        (shapeCast S8x262144
          (broadcastInDim S1x8x256x1024 ![0, 1, 2, 3] bcast_S1x8x1x1024_S1x8x256x1024_0_1_2_3
            (shapeCast S1x8x1x1024 (biasRow t) shapeCasts_S8x1024_S1x8x1x1024))
          shapeCasts_S1x8x256x1024_S8x262144)
        slices_S8x262144_S8x261888_0_0)
      shapeCasts_S8x261888_S8x256x1023)
    slices_S8x256x1023_S8x256x768_0_0_0

/-- The bias with the band masked. -/
def biasMasked (t : FVec Ideal S8x513 .f32) : FVec Ideal S8x256x768 .f32 :=
  select
    (broadcastInDim S8x256x768 ![0, 1, 2] bcast_S1x256x768_S8x256x768_0_1_2
      (broadcastInDim S1x256x768 ![1, 2] bcast_S256x768_S1x256x768_1_2 inBand))
    (biasVals t)
    (broadcastInDim S8x256x768 ![] bcast_S_S8x256x768 (id (constant S_ .f32 0xFF800000#32)))

/-- The bias tile: the heads of each pair side by side, a row per window key. -/
def biasTile (t : FVec Ideal S8x513 .f32) : FVec Ideal S4x768x512 .f32 :=
  joinHeads
    (Host.slice S4x768x256 ![0, 0, 0] ![2, 1, 1] (transpose S8x768x256 [0, 2, 1] (biasMasked t) transposes_S8x256x768_S8x768x256_0_2_1)
      slicesBy_S8x768x256_S4x768x256_0s2_0s1_0s1)
    (Host.slice S4x768x256 ![1, 0, 0] ![2, 1, 1] (transpose S8x768x256 [0, 2, 1] (biasMasked t) transposes_S8x256x768_S8x768x256_0_2_1)
      slicesBy_S8x768x256_S4x768x256_1s2_0s1_0s1)

/-- The scaled queries. -/
def scaledQ (q : FVec Ideal S2x16384x512 .bf16) : FVec Ideal S2x16384x512 .bf16 :=
  truncf .bf16 (mulf (extf .f32 q bitsLt_bf16_f32) (broadcastInDim S2x16384x512 ![] bcast_S_S2x16384x512
    (Host.divf (constant S_ .f32 0x3E000000#32) (Host.log (constant S_ .f32 0x40000000#32))))) bitsLt_bf16_f32

section Read
variable (m : (ℓ : Loc nD τ sig) → Buf (Elt Ideal) ℓ) (c : Dev nD)

/-- The kernel's queries are the scaled ones. -/
theorem V_main_v5 : V m c main_v5 = scaledQ (m ((c : Thread nD τ).loc main_arg0)) := by
  unfold V
  simp only [hostOps0, hostOps0_1, hostOps0_2, hostOps0_3, hostOps0_4, hostOps0_5, hostOps0_6, hostOps0_7,
    hostOps0_8, hostOps0_9, hostOps0_10, hostOps0_11, hostOps0_12, hostOps0_13, hostOps0_14_eq,
    List.flatten_cons, List.flatten_nil, List.append_nil, List.cons_append, List.nil_append]
  after_reads_simp
  rfl

set_option maxHeartbeats 2000000 in
/-- The kernel's bias is the tile. -/
theorem V_main_v56 : V m c main_v56 = biasTile (m ((c : Thread nD τ).loc main_arg3)) := by
  unfold V
  simp only [hostOps0, hostOps0_1, hostOps0_2, hostOps0_3, hostOps0_4, hostOps0_5, hostOps0_6, hostOps0_7,
    hostOps0_8, hostOps0_9, hostOps0_10, hostOps0_11, hostOps0_12, hostOps0_13, hostOps0_14_eq,
    List.flatten_cons, List.flatten_nil, List.append_nil, List.cons_append, List.nil_append]
  after_reads_simp
  simp -implicitDefEqProofs only [StableHlo.TRef.toBuf, StableHlo.TRef.ofBuf, cast_cast, cast_eq]
  rfl

end Read

/-- The bit pattern of one eighth. -/
theorem ofBits_eighth : Ideal.ofBits .f32 0x3E000000#32 = (((1 : ℝ) / 8 : ℝ) : EReal) := by
  simp [Ideal.ofBits, Ideal.ieee, -EReal.coe_mul]; norm_num

/-- The bit pattern of two. -/
theorem ofBits_two : Ideal.ofBits .f32 0x40000000#32 = ((2 : ℝ) : EReal) := by
  simp [Ideal.ofBits, Ideal.ieee, -EReal.coe_mul]; norm_num

/-- The logarithm of two, as the host computes it. -/
theorem log_two : Ideal.log (Ideal.ofBits .f32 0x40000000#32) = ((Real.log 2 : ℝ) : EReal) := by
  rw [ofBits_two]
  show (if (2 : ℝ) ≤ 0 then (⊥ : EReal) else ((Real.log 2 : ℝ) : EReal)) = _
  rw [if_neg (by norm_num)]

/-- A quotient by the logarithm of two. -/
theorem div_log_two (x : ℝ) :
    Ideal.div (x : EReal) (Ideal.log (Ideal.ofBits .f32 0x40000000#32)) = ((x * (Real.log 2)⁻¹ : ℝ) : EReal) := by
  have h : Real.log 2 ≠ 0 := (Real.log_pos (by norm_num)).ne'
  rw [log_two]
  unfold Ideal.div
  rw [if_neg (by exact_mod_cast h), EReal.coe_mul, EReal.coe_inv]

/-- A scaled query. -/
theorem scaledQ_apply (q : FVec Ideal S2x16384x512 .bf16) (b : Fin 2) (s : Fin 16384) (l : Fin 512) :
    scaledQ q (ix3 b s l) = q (ix3 b s l) * (((1 / 8) * (Real.log 2)⁻¹ : ℝ) : EReal) := by
  unfold scaledQ
  pointwise
  rw [ofBits_eighth, div_log_two]

/-- The quotient by 64 of a small number, as the host's floor division computes it. -/
def wordFloor (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb (64#32 : BitVec 32) = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem wordFloor_eq : ∀ x : Fin 768, wordFloor (BitVec.ofNat 32 x.val) = BitVec.ofNat 32 (x.val / 64) := by
  decide +kernel

/-- A window key's chunk. -/
theorem keyChunk_apply (x : Fin 768) : keyChunk (ix2 0 x) = BitVec.ofNat 32 (x.val / 64) := by
  unfold keyChunk
  pointwise
  exact wordFloor_eq x

/-- A query's chunk. -/
theorem rowChunk_apply (r : Fin 256) : rowChunk (ix2 r 0) = BitVec.ofNat 32 (r.val / 64) := by
  unfold rowChunk
  pointwise
  exact wordFloor_eq ⟨r.val, by omega⟩

/-- The comparisons of chunks, as words. -/
theorem band_word : ∀ (a : Fin 12) (b : Fin 4),
    IntOp.andi (IntOp.cmpi .sge (BitVec.ofNat 32 a.val) (BitVec.ofNat 32 b.val))
      (IntOp.cmpi .sle (BitVec.ofNat 32 a.val) (IntOp.addi (BitVec.ofNat 32 b.val) 8#32))
      = if b.val ≤ a.val ∧ a.val ≤ b.val + 8 then 1#1 else 0#1 := by
  decide +kernel

/-- A window key lies in a query's band when its chunk is one of the nine from the query's on. -/
theorem inBand_apply (r : Fin 256) (x : Fin 768) :
    inBand (ix2 r x) = if r.val / 64 ≤ x.val / 64 ∧ x.val / 64 ≤ r.val / 64 + 8 then 1#1 else 0#1 := by
  unfold inBand
  pointwise
  rw [keyChunk_apply, rowChunk_apply]
  exact band_word ⟨x.val / 64, by omega⟩ ⟨r.val / 64, by omega⟩

/-- The table entry of entry `u` of the unrolled row. -/
def tabPos (u : ℕ) : ℕ := if u < 768 then min 512 (768 - u) else 512

theorem tabPos_lt (u : ℕ) : tabPos u < 513 := by unfold tabPos; split <;> omega

/-- The words of the table entries. -/
theorem entry_word : ∀ u : Fin 1024,
    IntOp.addi (IntOp.minsi 256#32 (IntOp.maxsi 4294967040#32 (IntOp.subi 512#32
      (Scalar.select (IntOp.cmpi .slt (BitVec.ofNat 32 u.val) 768#32) (BitVec.ofNat 32 u.val)
        (IntOp.subi (BitVec.ofNat 32 u.val) 1024#32))))) 256#32
      = BitVec.ofNat 32 (tabPos u.val) := by
  decide +kernel

theorem rowEntry_apply (u : Fin 1024) : rowEntry (ix1 u) = BitVec.ofNat 32 (tabPos u.val) := by
  unfold rowEntry rowDist
  pointwise
  exact entry_word u

theorem rowIdx_apply (u : Fin 1024) : rowIdx (ix2 u 0) = BitVec.ofNat 32 (tabPos u.val) := by
  unfold rowIdx
  pointwise
  rw [rowEntry_apply]
  have h1 := tabPos_lt u.val
  rw [show IntOp.cmpi CmpIPredicate.slt (BitVec.ofNat 32 (tabPos u.val)) 0#32 = 0#1 by word_omega]
  rfl

/-- Gathering entries of the bias table: entry `n` of each head where the index names `n`. -/
theorem gather_row (x : FVec Ideal S8x513 .f32) (idx : IVec S1024x1 32) (h : Fin 8) (u : Fin 1024)
    (n : ℕ) (hn : n < 513) (hi : idx (ix2 u 0) = BitVec.ofNat 32 n) :
    Host.gather gather_S8x513_S1024x1_S8x1024_0_1_n_n_1_1_81 x idx (ix2 h u) = x (ix2 h ⟨n, hn⟩) := by
  unfold Host.gather
  refine congrArg x (funext fun a => Fin.ext ?_)
  match a with
  | ⟨0, _⟩ => show 0 + 0 + h.val = h.val; omega
  | ⟨1, _⟩ =>
    show min (idx (GatherDims.siIdx gather_S8x513_S1024x1_S8x1024_0_1_n_n_1_1_81 (ix2 h u) _)).toInt.toNat 512 + 0 + 0 = n
    rw [show GatherDims.siIdx gather_S8x513_S1024x1_S8x1024_0_1_n_n_1_1_81 (ix2 h u) _ = ix2 u 0 from
      funext fun b => Fin.ext (by match b with | ⟨0, _⟩ => rfl | ⟨1, _⟩ => rfl), hi,
      StableHlo.Predicate.toInt_ofNat_small _ (by omega)]
    omega

/-- An entry of the unrolled row: the table's entry in the scores' unit. -/
theorem biasRow_apply (t : FVec Ideal S8x513 .f32) (h : Fin 8) (u : Fin 1024) :
    biasRow t (ix2 h u) = t (ix2 h ⟨tabPos u.val, tabPos_lt _⟩) * (((Real.log 2)⁻¹ : ℝ) : EReal) := by
  unfold biasRow
  pointwise
  rw [gather_row t rowIdx h u _ (tabPos_lt _) (rowIdx_apply u)]
  refine congrArg (_ * ·) ?_
  rw [← EReal.coe_one, div_log_two, one_mul]

/-- The bias of query `r` and window key `x`: entry `x - r` of the row, taken cyclically. -/
theorem biasVals_apply (t : FVec Ideal S8x513 .f32) (h : Fin 8) (r : Fin 256) (x : Fin 768) :
    biasVals t (ix3 h r x)
      = t (ix2 h ⟨min 512 (768 + r.val - x.val), by omega⟩) * (((Real.log 2)⁻¹ : ℝ) : EReal) := by
  unfold biasVals
  pointwise
  rw [biasRow_apply]
  refine congrArg (fun n => t (ix2 h n) * _) (Fin.ext ?_)
  show tabPos ((r.val * 1023 + x.val) % 1024) = min 512 (768 + r.val - x.val)
  have h1 := r.isLt
  have h2 := x.isLt
  by_cases h : r.val ≤ x.val
  · have e : (r.val * 1023 + x.val) % 1024 = x.val - r.val := by
      rw [show r.val * 1023 + x.val = (x.val - r.val) + 1024 * r.val by omega, Nat.add_mul_mod_self_left,
        Nat.mod_eq_of_lt (by omega)]
    rw [e, tabPos, if_pos (by omega)]
    congr 1
    omega
  · have e : (r.val * 1023 + x.val) % 1024 = 1024 + x.val - r.val := by
      rw [show r.val * 1023 + x.val = (1024 + x.val - r.val) + 1024 * (r.val - 1) by omega, Nat.add_mul_mod_self_left,
        Nat.mod_eq_of_lt (by omega)]
    rw [e, tabPos, if_neg (by omega)]
    exact (min_eq_left (by omega)).symm

/-- The bias within a query's band, minus infinity outside it. -/
theorem biasMasked_apply (t : FVec Ideal S8x513 .f32) (h : Fin 8) (r : Fin 256) (x : Fin 768) :
    biasMasked t (ix3 h r x) = if r.val / 64 ≤ x.val / 64 ∧ x.val / 64 ≤ r.val / 64 + 8 then
      t (ix2 h ⟨min 512 (768 + r.val - x.val), by omega⟩) * (((Real.log 2)⁻¹ : ℝ) : EReal) else ⊥ := by
  unfold biasMasked
  pointwise
  rw [inBand_apply, biasVals_apply]
  by_cases h0 : r.val / 64 ≤ x.val / 64 ∧ x.val / 64 ≤ r.val / 64 + 8
  · rw [if_pos h0, if_pos h0]; rfl
  · rw [if_neg h0, if_neg h0]; rfl

/-- The tile's even heads come first. -/
theorem joinHeads_left (a b : FVec Ideal S4x768x256 .f32) (pr : Fin 4) (x : Fin 768) (r : Fin 256) :
    joinHeads a b (ix3 pr x ⟨r.val, by omega⟩) = a (ix3 pr x r) := by
  unfold joinHeads
  pointwise

/-- Its odd heads follow. -/
theorem joinHeads_right (a b : FVec Ideal S4x768x256 .f32) (pr : Fin 4) (x : Fin 768) (r : Fin 256) :
    joinHeads a b (ix3 pr x ⟨256 + r.val, by omega⟩) = b (ix3 pr x r) := by
  unfold joinHeads
  pointwise

/-- The bias tile at head `p` of pair `pr`, window key `x` and query `r`. -/
theorem biasTile_apply (t : FVec Ideal S8x513 .f32) (pr : Fin 4) (p : Fin 2) (x : Fin 768) (r : Fin 256) :
    biasTile t (ix3 pr x ⟨256 * p.val + r.val, by omega⟩)
      = if r.val / 64 ≤ x.val / 64 ∧ x.val / 64 ≤ r.val / 64 + 8 then
        t (ix2 ⟨2 * pr.val + p.val, by omega⟩ ⟨min 512 (768 + r.val - x.val), by omega⟩) * (((Real.log 2)⁻¹ : ℝ) : EReal)
        else ⊥ := by
  unfold biasTile
  rcases (by omega : p.val = 0 ∨ p.val = 1) with hp | hp
  · have e : (⟨256 * p.val + r.val, by omega⟩ : Fin 512) = ⟨r.val, by omega⟩ := Fin.ext (by simp [hp])
    rw [e, joinHeads_left]
    pointwise
    rw [biasMasked_apply, show (⟨2 * pr.val, by omega⟩ : Fin 8) = ⟨2 * pr.val + p.val, by omega⟩ from Fin.ext (by simp [hp])]
  · have e : (⟨256 * p.val + r.val, by omega⟩ : Fin 512) = ⟨256 + r.val, by omega⟩ := Fin.ext (by simp [hp])
    rw [e, joinHeads_right]
    pointwise
    rw [biasMasked_apply, show (⟨1 + 2 * pr.val, by omega⟩ : Fin 8) = ⟨2 * pr.val + p.val, by omega⟩ from
      Fin.ext (by show 1 + 2 * pr.val = 2 * pr.val + p.val; omega)]

end Cert.Band

end
-- ==== Proof.Reference.lean ====
/-  The plain band attention, read at an index. -/
module

public import proofs.«01_k».proof.Proof.Gen.ReferenceIdeal.Run
public import Idealize.ShloMosaic.Lib.Pointwise
public import Idealize.ShloMosaic.Lib.IdealHost
public import Idealize.ShloMosaic.Lib.KernelVsHost
public import Idealize.ShloMosaic.Lib.StableHlo.Predicate
public import Idealize.ShloMosaic.Lib.Tactic.WordOmega
public import proofs.«01_k».proof.Proof.Softmax

@[expose] public section

set_option maxRecDepth 16384

noncomputable section

namespace Cert.Band.Ref

open Cert.ReferenceIdeal Cert.ReferenceIdeal.Gen Idealize.ShloMosaic Idealize.ShloMosaic.TcCoe Idealize.SL.Sem

/-- The padded row of window key `j` of chunk `ch`, as the program computes it. -/
def refRows : IVec S256x576 32 :=
  addi (broadcastInDim S256x576 ![0, 1] bcast_S256x1_S256x576_0_1 (muli (broadcastInDim S256x1 ![0] bcast_S256_S256x1_0 (iotaInDim S256 32 0)) (broadcastInDim S256x1 ![] bcast_S_S256x1 (constantI S_ 32 64#32)))) (broadcastInDim S256x576 ![0, 1] bcast_S1x576_S256x576_0_1 (broadcastInDim S1x576 ![1] bcast_S576_S1x576_1 (iotaInDim S576 32 0)))

/-- The rows to gather. -/
def refStarts : IVec S256x576x1 32 :=
  broadcastInDim S256x576x1 ![0, 1] bcast_S256x576_S256x576x1_0_1 (select (cmpi .slt refRows (broadcastInDim S256x576 ![] bcast_S_S256x576 (constantI S_ 32 0#32))) (addi refRows (broadcastInDim S256x576 ![] bcast_S_S256x576 (constantI S_ 32 16896#32))) refRows)

/-- The table entry of a query and a window key, as the program computes it. -/
def refClip : IVec S64x576 32 :=
  addi (minsi (broadcastInDim S64x576 ![] bcast_S_S64x576 (id (constantI S_ 32 256#32))) (maxsi (broadcastInDim S64x576 ![] bcast_S_S64x576 (id (constantI S_ 32 4294967040#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 256#32))

/-- The table entries to gather. -/
def refBiasIdx : IVec S64x576x1 32 :=
  broadcastInDim S64x576x1 ![0, 1] bcast_S64x576_S64x576x1_0_1 (select (cmpi .slt refClip (broadcastInDim S64x576 ![] bcast_S_S64x576 (constantI S_ 32 0#32))) (addi refClip (broadcastInDim S64x576 ![] bcast_S_S64x576 (constantI S_ 32 513#32))) refClip)

/-- The bias of each head, query of a chunk and window key. -/
def refBias (rb : FVec Ideal S8x513 .f32) : FVec Ideal S8x64x576 .f32 :=
  Host.gather gather_S8x513_S64x576x1_S8x64x576_0_1_n_n_1_2_81 rb refBiasIdx

/-- The window of 576 rows of each chunk, head by head. -/
def refWindow (k : FVec Ideal S2x16384x512 .bf16) : FVec Ideal S2x256x576x8x64 .f32 :=
  Host.gather gather_S2x16896x8x64_S256x576x1_S2x256x576x8x64_034_1_n_n_1_2_21864 (pad S2x16896x8x64 ![0, 512, 0, 0] ![0, 0, 0, 0] ![0, 0, 0, 0] (shapeCast _ (extf .f32 k bitsLt_bf16_f32) shapeCasts_S2x16384x512_S2x16384x8x64) (sitofp .f32 (constantI S_ 32 0#32)) pads_S2x16384x8x64_S2x16896x8x64_000_51200_000_000 h_S_) refStarts

/-- The values with a row per key. -/
def refV (vt : FVec Ideal S2x32x512x512 .bf16) : FVec Ideal S2x16384x512 .bf16 :=
  shapeCast _ (transpose S2x32x512x512 [0, 1, 3, 2] vt transposes_S2x32x512x512_S2x32x512x512_0_1_3_2) shapeCasts_S2x32x512x512_S2x16384x512

/-- The products of queries and window keys. -/
def refDots (q k : FVec Ideal S2x16384x512 .bf16) : FVec Ideal S2x256x8x64x576 .f32 :=
  Host.dotGeneral dot_S2x256x64x8x64_S2x256x576x8x64_S2x256x8x64x576_4_4_2_2_013_013 none (shapeCast _ (shapeCast _ (extf .f32 q bitsLt_bf16_f32) shapeCasts_S2x16384x512_S2x16384x8x64) shapeCasts_S2x16384x8x64_S2x256x64x8x64) (refWindow k)

/-- The scores, masked where the window reaches before the first key. -/
def refScores (q k : FVec Ideal S2x16384x512 .bf16) (rb : FVec Ideal S8x513 .f32) : FVec Ideal S2x256x8x64x576 .f32 :=
  select (broadcastInDim S2x256x8x64x576 ![0, 1, 2, 3, 4] bcast_S1x256x1x1x576_S2x256x8x64x576_0_1_2_3_4 (broadcastInDim S1x256x1x1x576 ![1, 4] bcast_S256x576_S1x256x1x1x576_1_4 (cmpi .sge refRows (broadcastInDim S256x576 ![] bcast_S_S256x576 (constantI S_ 32 512#32))))) (addf (mulf (refDots q k) (broadcastInDim S2x256x8x64x576 ![] bcast_S_S2x256x8x64x576 (constant S_ .f32 0x3E000000#32))) (broadcastInDim S2x256x8x64x576 ![0, 1, 2, 3, 4] bcast_S1x1x8x64x576_S2x256x8x64x576_0_1_2_3_4 (broadcastInDim S1x1x8x64x576 ![2, 3, 4] bcast_S8x64x576_S1x1x8x64x576_2_3_4 (refBias rb)))) (broadcastInDim S2x256x8x64x576 ![] bcast_S_S2x256x8x64x576 (id (constant S_ .f32 0xFF800000#32)))

/-- The greatest score of each query. -/
def refTop (sc : FVec Ideal S2x256x8x64x576 .f32) : FVec Ideal S2x256x8x64 .f32 :=
  Host.reduce FloatOps.maximumf sc (constant S_ .f32 0xFF800000#32) reducesTo_S2x256x8x64x576_S2x256x8x64_d4 h_S_

/-- The exponentials of the scores less their greatest. -/
def refExp (sc : FVec Ideal S2x256x8x64x576 .f32) : FVec Ideal S2x256x8x64x576 .f32 :=
  Host.exp (subf sc (broadcastInDim S2x256x8x64x576 ![0, 1, 2, 3, 4] bcast_S2x256x8x64x1_S2x256x8x64x576_0_1_2_3_4 (broadcastInDim S2x256x8x64x1 ![0, 1, 2, 3] bcast_S2x256x8x64_S2x256x8x64x1_0_1_2_3 (maximumf (broadcastInDim S2x256x8x64 ![] bcast_S_S2x256x8x64 (constant S_ .f32 0xFF800000#32)) (refTop sc)))))

/-- The softmax's weights. -/
def refProbs (sc : FVec Ideal S2x256x8x64x576 .f32) : FVec Ideal S2x256x8x64x576 .f32 :=
  Host.divf (refExp sc) (broadcastInDim S2x256x8x64x576 ![0, 1, 2, 3, 4] bcast_S2x256x8x64x1_S2x256x8x64x576_0_1_2_3_4 (broadcastInDim S2x256x8x64x1 ![0, 1, 2, 3] bcast_S2x256x8x64_S2x256x8x64x1_0_1_2_3 (Host.reduceAdd (refExp sc) (constant S_ .f32 0x00000000#32) reducesTo_S2x256x8x64x576_S2x256x8x64_d4 h_S_)))

/-- The result. -/
def refOut (q k : FVec Ideal S2x16384x512 .bf16) (vt : FVec Ideal S2x32x512x512 .bf16) (rb : FVec Ideal S8x513 .f32) :
    FVec Ideal S2x16384x512 .bf16 :=
  truncf .bf16 (shapeCast _ (transpose S2x256x64x8x64 [0, 1, 4, 2, 3] (Host.dotGeneral dot_S2x256x576x8x64_S2x256x8x64x576_S2x256x8x64x64_2_4_4_3_013_012 none (refWindow (refV vt)) (refProbs (refScores q k rb))) transposes_S2x256x8x64x64_S2x256x64x8x64_0_1_4_2_3) shapeCasts_S2x256x64x8x64_S2x16384x512) bitsLt_bf16_f32

/-- The program's result is `refOut` of its arguments. -/
theorem res_eq (m : (ℓ : Loc nD τ sig) → Buf (Elt Ideal) ℓ) (c : Dev nD) :
    Value.res_main_v77 m c = refOut (m ((c.tc : Thread nD τ).loc main_arg0)) (m ((c.tc : Thread nD τ).loc main_arg1))
      (m ((c.tc : Thread nD τ).loc main_arg2)) (m ((c.tc : Thread nD τ).loc main_arg3)) := rfl

/-- The bit pattern of one eighth. -/
theorem ofBits_eighth : Ideal.ofBits .f32 0x3E000000#32 = (((1 : ℝ) / 8 : ℝ) : EReal) := by
  simp [Ideal.ofBits, Ideal.ieee, -EReal.coe_mul]; norm_num

/-- The bit pattern of minus infinity. -/
theorem ofBits_bot : Ideal.ofBits .f32 0xFF800000#32 = (⊥ : EReal) := rfl

/-- Gathering rows of the padded keys: row `n` where the index names `n`. -/
theorem gather_rows (x : FVec Ideal S2x16896x8x64 .f32) (idx : IVec S256x576x1 32) (b : Fin 2) (ch : Fin 256) (j : Fin 576)
    (h : Fin 8) (e : Fin 64) (n : ℕ) (hn : n < 16896) (hi : idx (ix3 ch j 0) = BitVec.ofNat 32 n) :
    Host.gather gather_S2x16896x8x64_S256x576x1_S2x256x576x8x64_034_1_n_n_1_2_21864 x idx (ix5 b ch j h e)
      = x (ix4 b ⟨n, hn⟩ h e) := by
  unfold Host.gather
  refine congrArg x (funext fun a => Fin.ext ?_)
  match a with
  | ⟨0, _⟩ => show 0 + 0 + b.val = b.val; omega
  | ⟨1, _⟩ =>
    show min (idx (GatherDims.siIdx gather_S2x16896x8x64_S256x576x1_S2x256x576x8x64_034_1_n_n_1_2_21864 (ix5 b ch j h e) _)).toInt.toNat 16895 + 0 + 0 = n
    rw [show GatherDims.siIdx gather_S2x16896x8x64_S256x576x1_S2x256x576x8x64_034_1_n_n_1_2_21864 (ix5 b ch j h e) _ = ix3 ch j 0 from
      funext fun b => Fin.ext (by match b with | ⟨0, _⟩ => rfl | ⟨1, _⟩ => rfl | ⟨2, _⟩ => rfl), hi,
      StableHlo.Predicate.toInt_ofNat_small _ (by omega)]
    omega
  | ⟨2, _⟩ => show 0 + 0 + h.val = h.val; omega
  | ⟨3, _⟩ => show 0 + 0 + e.val = e.val; omega

/-- Gathering entries of the bias table: entry `n` of each head where the index names `n`. -/
theorem gather_table (x : FVec Ideal S8x513 .f32) (idx : IVec S64x576x1 32) (h : Fin 8) (r : Fin 64) (j : Fin 576)
    (n : ℕ) (hn : n < 513) (hi : idx (ix3 r j 0) = BitVec.ofNat 32 n) :
    Host.gather gather_S8x513_S64x576x1_S8x64x576_0_1_n_n_1_2_81 x idx (ix3 h r j) = x (ix2 h ⟨n, hn⟩) := by
  unfold Host.gather
  refine congrArg x (funext fun a => Fin.ext ?_)
  match a with
  | ⟨0, _⟩ => show 0 + 0 + h.val = h.val; omega
  | ⟨1, _⟩ =>
    show min (idx (GatherDims.siIdx gather_S8x513_S64x576x1_S8x64x576_0_1_n_n_1_2_81 (ix3 h r j) _)).toInt.toNat 512 + 0 + 0 = n
    rw [show GatherDims.siIdx gather_S8x513_S64x576x1_S8x64x576_0_1_n_n_1_2_81 (ix3 h r j) _ = ix3 r j 0 from
      funext fun b => Fin.ext (by match b with | ⟨0, _⟩ => rfl | ⟨1, _⟩ => rfl | ⟨2, _⟩ => rfl), hi,
      StableHlo.Predicate.toInt_ofNat_small _ (by omega)]
    omega

/-- Window key `j` of chunk `ch` is padded row `64 · ch + j`. -/
theorem refRows_apply (ch : Fin 256) (j : Fin 576) : refRows (ix2 ch j) = BitVec.ofNat 32 (64 * ch.val + j.val) := by
  unfold refRows
  pointwise
  unfold IntOp.muli
  have h1 := ch.isLt
  have h2 := j.isLt
  word_omega

/-- The rows to gather are those. -/
theorem refStarts_apply (ch : Fin 256) (j : Fin 576) : refStarts (ix3 ch j 0) = BitVec.ofNat 32 (64 * ch.val + j.val) := by
  unfold refStarts
  pointwise
  rw [refRows_apply]
  have h1 := ch.isLt
  have h2 := j.isLt
  rw [show IntOp.cmpi CmpIPredicate.slt (BitVec.ofNat 32 (64 * ch.val + j.val)) 0#32 = 0#1 by word_omega]
  rfl

/-- The table entry of query `r` of a chunk and window key `j`. -/
def biasPos (r j : ℕ) : ℕ := min 512 (768 + r - j)

theorem biasPos_lt (r j : ℕ) : biasPos r j < 513 := by unfold biasPos; omega

/-- The clipped distance of a query and a window key, as words. -/
theorem clip_word : ∀ (r : Fin 64) (j : Fin 576),
    IntOp.addi (IntOp.minsi 256#32 (IntOp.maxsi 4294967040#32
      (IntOp.subi (IntOp.addi (BitVec.ofNat 32 r.val) 512#32) (BitVec.ofNat 32 j.val)))) 256#32
      = BitVec.ofNat 32 (min 512 (768 + r.val - j.val)) := by
  decide +kernel

/-- The clipped distance is that entry. -/
theorem refClip_apply (r : Fin 64) (j : Fin 576) : refClip (ix2 r j) = BitVec.ofNat 32 (biasPos r j) := by
  unfold refClip biasPos
  pointwise
  exact clip_word r j

/-- The entries to gather are those. -/
theorem refBiasIdx_apply (r : Fin 64) (j : Fin 576) : refBiasIdx (ix3 r j 0) = BitVec.ofNat 32 (biasPos r j) := by
  unfold refBiasIdx
  pointwise
  rw [refClip_apply]
  have h1 := biasPos_lt r j
  rw [show IntOp.cmpi CmpIPredicate.slt (BitVec.ofNat 32 (biasPos r j)) 0#32 = 0#1 by word_omega]
  rfl

/-- The bias of a head, a query and a window key is the table's entry. -/
theorem refBias_apply (rb : FVec Ideal S8x513 .f32) (h : Fin 8) (r : Fin 64) (j : Fin 576) :
    refBias rb (ix3 h r j) = rb (ix2 h ⟨biasPos r j, biasPos_lt _ _⟩) := by
  unfold refBias
  exact gather_table rb refBiasIdx h r j _ _ (refBiasIdx_apply r j)

/-- The window's row `j`: key `64 · ch + j - 512`, zero before the first key. -/
theorem refWindow_apply (k : FVec Ideal S2x16384x512 .bf16) (b : Fin 2) (ch : Fin 256) (j : Fin 576) (h : Fin 8) (e : Fin 64) :
    refWindow k (ix5 b ch j h e) = if h0 : 512 ≤ 64 * ch.val + j.val then
      k (ix3 b ⟨64 * ch.val + j.val - 512, by omega⟩ ⟨64 * h.val + e.val, by omega⟩) else 0 := by
  unfold refWindow
  have h1 := ch.isLt
  have h2 := j.isLt
  rw [gather_rows _ _ b ch j h e (64 * ch.val + j.val) (by omega) (refStarts_apply ch j)]
  by_cases h0 : 512 ≤ 64 * ch.val + j.val
  · rw [dif_pos h0]
    rw [pad_apply_of_inside _ _ _ _ _ _ _ _ (ix4 b ⟨64 * ch.val + j.val - 512, by omega⟩ h e) (by
      intro a
      match a with
      | ⟨0, _⟩ => show b.val = 0 + b.val * (0 + 1); omega
      | ⟨1, _⟩ => show 64 * ch.val + j.val = 512 + (64 * ch.val + j.val - 512) * (0 + 1); omega
      | ⟨2, _⟩ => show h.val = 0 + h.val * (0 + 1); omega
      | ⟨3, _⟩ => show e.val = 0 + e.val * (0 + 1); omega)]
    pointwise
    exact congrArg k (by congr 2; exact Nat.mul_comm 64 h.val ▸ rfl)
  · rw [dif_neg h0]
    rw [pad_apply_of_not_inside _ _ _ _ _ _ _ _ 1 (fun hc => h0 hc.1)]
    show ((((0#32 : BitVec 32).toInt : ℤ) : ℝ) : EReal) = 0
    norm_num

/-- The values with a row per key: key `s` is column `s % 512` of block `s / 512`. -/
theorem refV_apply (v : FVec Ideal S2x32x512x512 .bf16) (b : Fin 2) (s : Fin 16384) (l : Fin 512) :
    refV v (ix3 b s l) = v (ix4 b ⟨s.val / 512, by omega⟩ l ⟨s.val % 512, by omega⟩) := by
  unfold refV
  pointwise

/-- A product of a query and a window key. -/
theorem refDots_apply (q k : FVec Ideal S2x16384x512 .bf16) (b : Fin 2) (ch : Fin 256) (h : Fin 8) (r : Fin 64) (j : Fin 576)  :
    refDots q k (ix5 b ch h r j)
      = ∑ x : Fin 64, q (ix3 b ⟨64 * ch.val + r.val, by omega⟩ ⟨64 * h.val + x.val, by omega⟩) * refWindow k (ix5 b ch j h x) := by
  unfold refDots
  pointwise
  refine Finset.sum_congr rfl fun x _ => congrArg (· * _) (congrArg q ?_)
  congr 2
  · exact Nat.mul_comm _ _ ▸ rfl
  · exact Nat.mul_comm _ _ ▸ rfl

/-- A score before masking the absent keys. -/
theorem refScores_apply (q k : FVec Ideal S2x16384x512 .bf16) (rb : FVec Ideal S8x513 .f32) (b : Fin 2) (ch : Fin 256) (h : Fin 8)
    (r : Fin 64) (j : Fin 576) :
    refScores q k rb (ix5 b ch h r j) = if 512 ≤ 64 * ch.val + j.val then
      refDots q k (ix5 b ch h r j) * (((1 : ℝ) / 8 : ℝ) : EReal) + refBias rb (ix3 h r j) else ⊥ := by
  unfold refScores
  pointwise
  rw [refRows_apply, ofBits_eighth]
  have h1 := ch.isLt
  have h2 := j.isLt
  by_cases h0 : 512 ≤ 64 * ch.val + j.val
  · rw [if_pos h0, show IntOp.cmpi CmpIPredicate.sge (BitVec.ofNat 32 (64 * ch.val + j.val)) 512#32 = 1#1 by word_omega]
    rfl
  · rw [if_neg h0, show IntOp.cmpi CmpIPredicate.sge (BitVec.ofNat 32 (64 * ch.val + j.val)) 512#32 = 0#1 by word_omega]
    rfl

/-- The greatest score of a query. -/
theorem refTop_apply (sc : FVec Ideal S2x256x8x64x576 .f32) (b : Fin 2) (ch : Fin 256) (h : Fin 8) (r : Fin 64) :
    refTop sc (ix4 b ch h r) = Finset.univ.fold max ⊥ (fun x : Fin 576 => sc (ix5 b ch h r x)) := by
  unfold refTop
  pointwise
  rw [ofBits_bot]

/-- The greatest score bounded below by minus infinity, as printed. -/
theorem refFloor_apply (x : FVec Ideal S2x256x8x64 .f32) (b : Fin 2) (ch : Fin 256) (h : Fin 8) (r : Fin 64) :
    maximumf (broadcastInDim S2x256x8x64 ![] bcast_S_S2x256x8x64 (constant (F := Ideal) S_ .f32 0xFF800000#32)) x (ix4 b ch h r)
      = x (ix4 b ch h r) := by
  pointwise
  rw [ofBits_bot, max_eq_right bot_le]

/-- The exponential of the scores less one number per query. -/
theorem refExpOf_apply (sc : FVec Ideal S2x256x8x64x576 .f32) (x : FVec Ideal S2x256x8x64 .f32) (b : Fin 2) (ch : Fin 256)
    (h : Fin 8) (r : Fin 64) (j : Fin 576) :
    Host.exp (subf sc (broadcastInDim S2x256x8x64x576 ![0, 1, 2, 3, 4] bcast_S2x256x8x64x1_S2x256x8x64x576_0_1_2_3_4
      (broadcastInDim S2x256x8x64x1 ![0, 1, 2, 3] bcast_S2x256x8x64_S2x256x8x64x1_0_1_2_3 x))) (ix5 b ch h r j)
      = Ideal.exp (sc (ix5 b ch h r j) - x (ix4 b ch h r)) := by
  pointwise

/-- The exponential of a score less the greatest. -/
theorem refExp_apply (sc : FVec Ideal S2x256x8x64x576 .f32) (b : Fin 2) (ch : Fin 256) (h : Fin 8) (r : Fin 64) (j : Fin 576)  :
    refExp sc (ix5 b ch h r j)
      = Ideal.exp (sc (ix5 b ch h r j) - Finset.univ.fold max ⊥ (fun x : Fin 576 => sc (ix5 b ch h r x))) := by
  unfold refExp
  rw [refExpOf_apply, refFloor_apply, refTop_apply]

/-- A weight of the softmax. -/
theorem refProbs_apply (sc : FVec Ideal S2x256x8x64x576 .f32) (b : Fin 2) (ch : Fin 256) (h : Fin 8) (r : Fin 64) (j : Fin 576)  :
    refProbs sc (ix5 b ch h r j)
      = Ideal.div (refExp sc (ix5 b ch h r j)) (∑ x : Fin 576, refExp sc (ix5 b ch h r x)) := by
  unfold refProbs
  pointwise

/-- A result: the softmax of the scores applied to the window's values. -/
theorem refOut_sum (q k : FVec Ideal S2x16384x512 .bf16) (vt : FVec Ideal S2x32x512x512 .bf16) (rb : FVec Ideal S8x513 .f32)
   (b : Fin 2) (s : Fin 16384) (l : Fin 512)  :
    refOut q k vt rb (ix3 b s l)
      = ∑ x : Fin 576, refWindow (refV vt) (ix5 b ⟨s.val / 64, by omega⟩ x ⟨l.val / 64, by omega⟩ ⟨l.val % 64, by omega⟩)
        * refProbs (refScores q k rb) (ix5 b ⟨s.val / 64, by omega⟩ ⟨l.val / 64, by omega⟩ ⟨s.val % 64, by omega⟩ x) := by
  unfold refOut
  pointwise

/-- The score of query `64 · ch + r` and window key `j` for head `h`: the scaled product plus the bias, minus infinity where
the window reaches before the first key. -/
def refScore (q k : S2x16384x512.Idx → EReal) (rb : S8x513.Idx → EReal) (b : Fin 2) (ch : Fin 256) (h : Fin 8) (r : Fin 64)
    (j : Fin 576) : EReal :=
  if h0 : 512 ≤ 64 * ch.val + j.val then
    (∑ d : Fin 64, q (ix3 b ⟨64 * ch.val + r.val, by omega⟩ ⟨64 * h.val + d.val, by omega⟩)
        * k (ix3 b ⟨64 * ch.val + j.val - 512, by omega⟩ ⟨64 * h.val + d.val, by omega⟩)) * (((1 : ℝ) / 8 : ℝ) : EReal)
      + rb (ix2 h ⟨biasPos r j, biasPos_lt _ _⟩)
  else ⊥

/-- The value of window key `j`. -/
def refVal (vt : S2x32x512x512.Idx → EReal) (b : Fin 2) (ch : Fin 256) (h : Fin 8) (d : Fin 64) (j : Fin 576) : EReal :=
  if h0 : 512 ≤ 64 * ch.val + j.val then
    vt (ix4 b ⟨(64 * ch.val + j.val - 512) / 512, by omega⟩ ⟨64 * h.val + d.val, by omega⟩
      ⟨(64 * ch.val + j.val - 512) % 512, by omega⟩)
  else 0

/-- The program's scores are `refScore`. -/
theorem refScores_eq (q k : FVec Ideal S2x16384x512 .bf16) (rb : FVec Ideal S8x513 .f32) (b : Fin 2) (ch : Fin 256) (h : Fin 8)
    (r : Fin 64) (j : Fin 576) : refScores q k rb (ix5 b ch h r j) = refScore q k rb b ch h r j := by
  rw [refScores_apply]
  unfold refScore
  by_cases h0 : 512 ≤ 64 * ch.val + j.val
  · rw [if_pos h0, dif_pos h0, refDots_apply, refBias_apply]
    refine congrArg (· * _ + _) (Finset.sum_congr rfl fun d _ => ?_)
    rw [refWindow_apply, dif_pos h0]
  · rw [if_neg h0, dif_neg h0]

/-- The program's window of values is `refVal`. -/
theorem refWindow_eq (vt : FVec Ideal S2x32x512x512 .bf16) (b : Fin 2) (ch : Fin 256) (h : Fin 8) (d : Fin 64) (j : Fin 576) :
    refWindow (refV vt) (ix5 b ch j h d) = refVal vt b ch h d j := by
  rw [refWindow_apply]
  unfold refVal
  by_cases h0 : 512 ≤ 64 * ch.val + j.val
  · rw [dif_pos h0, dif_pos h0, refV_apply]
  · rw [dif_neg h0, dif_neg h0]

/-- A result, for query `64 · ch + r`, head `h` and its coordinate `d`: the softmax of the scores applied to the values. -/
theorem refOut_apply (q k : FVec Ideal S2x16384x512 .bf16) (vt : FVec Ideal S2x32x512x512 .bf16) (rb : FVec Ideal S8x513 .f32)
    (b : Fin 2) (ch : Fin 256) (r : Fin 64) (h : Fin 8) (d : Fin 64) :
    refOut q k vt rb (ix3 b ⟨64 * ch.val + r.val, by omega⟩ ⟨64 * h.val + d.val, by omega⟩)
      = softExp (refScore q k rb b ch h r) (refVal vt b ch h d) := by
  rw [refOut_sum]
  have e1 : (⟨(64 * ch.val + r.val) / 64, by omega⟩ : Fin 256) = ch := Fin.ext (by simp only; omega)
  have e2 : (⟨(64 * ch.val + r.val) % 64, by omega⟩ : Fin 64) = r := Fin.ext (by simp only; omega)
  have e3 : (⟨(64 * h.val + d.val) / 64, by omega⟩ : Fin 8) = h := Fin.ext (by simp only; omega)
  have e4 : (⟨(64 * h.val + d.val) % 64, by omega⟩ : Fin 64) = d := Fin.ext (by simp only; omega)
  unfold softExp
  refine Finset.sum_congr rfl fun x _ => ?_
  simp only [e1, e2, e3, e4]
  rw [refWindow_eq, refProbs_apply]
  simp only [refExp_apply, refScores_eq]

end Cert.Band.Ref

end
-- ==== Proof.Equation.lean ====
/-  One block of the kernel computes what the reference computes there. -/
module

public import proofs.«01_k».proof.Proof.Host
public import proofs.«01_k».proof.Proof.Reference

@[expose] public section

set_option maxRecDepth 16384

noncomputable section

namespace Cert.Band

open Cert.KernelIdeal Idealize.ShloMosaic Idealize.SL.Sem

/-- A sum of products of real numbers, in the kernel's unit, is the reference's in its own. -/
theorem sum_scaled {n : ℕ} (q k : Fin n → EReal) (t : EReal) (c : ℝ) (hq : ∀ d, ∃ r : ℝ, q d = (r : EReal))
    (hk : ∀ d, ∃ r : ℝ, k d = (r : EReal)) (ht : ∃ r : ℝ, t = (r : EReal)) :
    (∑ d, k d * (q d * ((1 / 8 * c : ℝ) : EReal))) + t * (c : EReal)
      = (c : EReal) * ((∑ d, q d * k d) * ((1 / 8 : ℝ) : EReal) + t) := by
  choose q' hq' using hq
  choose k' hk' using hk
  obtain ⟨t', rfl⟩ := ht
  simp only [hq', hk', ← EReal.coe_mul, ← sum_real, ← EReal.coe_add]
  refine congrArg _ ?_
  rw [mul_add, Finset.sum_mul, Finset.mul_sum, mul_comm t' c]
  refine congrArg (· + c * t') (Finset.sum_congr rfl fun d _ => ?_)
  ring

/-- The reference's scores are real or minus infinity. -/
theorem score_real {n : ℕ} (q k : Fin n → EReal) (t : EReal) (hq : ∀ d, ∃ r : ℝ, q d = (r : EReal))
    (hk : ∀ d, ∃ r : ℝ, k d = (r : EReal)) (ht : ∃ r : ℝ, t = (r : EReal)) :
    ∃ r : ℝ, (∑ d, q d * k d) * ((1 / 8 : ℝ) : EReal) + t = (r : EReal) := by
  choose q' hq' using hq
  choose k' hk' using hk
  obtain ⟨t', rfl⟩ := ht
  simp only [hq', hk', ← EReal.coe_mul, ← sum_real, ← EReal.coe_add]
  exact ⟨_, rfl⟩

/-- Equal coordinates give equal elements. -/
theorem row_congr (q : S2x16384x512.Idx → EReal) (b : Fin 2) {s s' : Fin 16384} {l l' : Fin 512} (hs : s.val = s'.val)
    (hl : l.val = l'.val) : q (ix3 b s l) = q (ix3 b s' l') := by
  rw [Fin.ext hs, Fin.ext hl]

/-- Equal positions give equal biases. -/
theorem entry_congr (t : S8x513.Idx → EReal) (h : Fin 8) {n n' : Fin 513} (hn : n.val = n'.val) :
    t (ix2 h n) = t (ix2 h n') := by
  rw [Fin.ext hn]

section Block
variable (q k : S2x16384x512.Idx → EReal) (vt : S2x32x512x512.Idx → EReal) (t : S8x513.Idx → EReal)
variable (hq : ∀ i, ∃ r : ℝ, q i = (r : EReal)) (hk : ∀ i, ∃ r : ℝ, k i = (r : EReal)) (ht : ∀ i, ∃ r : ℝ, t i = (r : EReal))
variable (b : Fin 2) (pr : Fin 4) (g : Fin 16) (sub : Fin 4) (r : Fin 256) (p : Fin 2) (d : Fin 64)

/-- The chunk of a query. -/
abbrev chunkOf : Fin 256 := ⟨16 * g.val + 4 * sub.val + r.val / 64, by omega⟩
/-- A query's place in its chunk. -/
abbrev placeOf : Fin 64 := ⟨r.val % 64, by omega⟩
/-- A head by its pair. -/
abbrev headOf : Fin 8 := ⟨2 * pr.val + p.val, by omega⟩
/-- The window key of a query's chunk as a key of the kernel's block. -/
abbrev keyOf (j : Fin 576) : Fin 768 := ⟨64 * (r.val / 64) + j.val, by omega⟩

include hq hk ht in
/-- A score of the kernel within the band: the reference's, in units of the logarithm of two. -/
theorem score_in (j : Fin 576) :
    arrScore (scaledQ q) k (biasTile t) b pr g sub r p (keyOf r j)
      = (((Real.log 2)⁻¹ : ℝ) : EReal) * Ref.refScore q k t b (chunkOf g sub r) (headOf pr p) (placeOf r) j := by
  have hc : (0 : ℝ) < (Real.log 2)⁻¹ := inv_pos.mpr (Real.log_pos (by norm_num))
  have hr := r.isLt
  have hj := j.isLt
  unfold arrScore Ref.refScore
  by_cases h : 512 ≤ 1024 * g.val + 256 * sub.val + (64 * (r.val / 64) + j.val)
  · rw [dif_pos h, dif_pos (by show 512 ≤ 64 * (16 * g.val + 4 * sub.val + r.val / 64) + j.val; omega)]
    rw [biasTile_apply, if_pos (by constructor <;> (show _ ≤ _; simp only []; omega))]
    simp only [scaledQ_apply]
    rw [sum_scaled (fun d : Fin 64 => q (ix3 b ⟨1024 * g.val + 256 * sub.val + r.val, by omega⟩ ⟨128 * pr.val + 64 * p.val + d.val, by omega⟩))
      (fun d : Fin 64 => k (ix3 b ⟨1024 * g.val + 256 * sub.val + (64 * (r.val / 64) + j.val) - 512, by omega⟩ ⟨128 * pr.val + 64 * p.val + d.val, by omega⟩))
      _ _ (fun _ => hq _) (fun _ => hk _) (ht _)]
    refine congrArg (_ * ·) (congrArg₂ (fun x y => x * _ + y) (Finset.sum_congr rfl fun e _ => ?_) ?_)
    · refine congrArg₂ (· * ·) (row_congr q b ?_ ?_) (row_congr k b ?_ ?_)
      · show 1024 * g.val + 256 * sub.val + r.val = 64 * (16 * g.val + 4 * sub.val + r.val / 64) + r.val % 64
        omega
      · show 128 * pr.val + 64 * p.val + e.val = 64 * (2 * pr.val + p.val) + e.val
        omega
      · show 1024 * g.val + 256 * sub.val + (64 * (r.val / 64) + j.val) - 512
          = 64 * (16 * g.val + 4 * sub.val + r.val / 64) + j.val - 512
        omega
      · show 128 * pr.val + 64 * p.val + e.val = 64 * (2 * pr.val + p.val) + e.val
        omega
    · refine entry_congr t _ ?_
      show min 512 (768 + r.val - (64 * (r.val / 64) + j.val)) = min 512 (768 + r.val % 64 - j.val)
      congr 1
      omega
  · rw [dif_neg h, dif_neg (by show ¬ 512 ≤ 64 * (16 * g.val + 4 * sub.val + r.val / 64) + j.val; omega)]
    rw [EReal.coe_mul_bot_of_pos hc]

/-- A score of the kernel outside the band is minus infinity. -/
theorem score_out (x : Fin 768) (hx : x ∉ Set.range (keyOf r)) :
    arrScore (scaledQ q) k (biasTile t) b pr g sub r p x = ⊥ := by
  have hr := r.isLt
  have hxl := x.isLt
  unfold arrScore
  by_cases h : 512 ≤ 1024 * g.val + 256 * sub.val + x.val
  · rw [dif_pos h, biasTile_apply, if_neg, EReal.add_bot]
    intro hb
    exact hx ⟨⟨x.val - 64 * (r.val / 64), by omega⟩, Fin.ext (by show 64 * (r.val / 64) + (x.val - 64 * (r.val / 64)) = x.val; omega)⟩
  · rw [dif_neg h]

include hq hk ht in
/-- A score of the reference is real where the window key is a key. -/
theorem refScore_real (ch : Fin 256) (h : Fin 8) (i : Fin 64) (j : Fin 576) (h0 : 512 ≤ 64 * ch.val + j.val) :
    ∃ a : ℝ, Ref.refScore q k t b ch h i j = (a : EReal) := by
  unfold Ref.refScore
  rw [dif_pos h0]
  exact score_real (fun d : Fin 64 => q (ix3 b ⟨64 * ch.val + i.val, by omega⟩ ⟨64 * h.val + d.val, by omega⟩))
    (fun d : Fin 64 => k (ix3 b ⟨64 * ch.val + j.val - 512, by omega⟩ ⟨64 * h.val + d.val, by omega⟩)) _
    (fun _ => hq _) (fun _ => hk _) (ht _)

/-- It is minus infinity elsewhere. -/
theorem refScore_bot (ch : Fin 256) (h : Fin 8) (i : Fin 64) (j : Fin 576) (h0 : ¬ 512 ≤ 64 * ch.val + j.val) :
    Ref.refScore q k t b ch h i j = ⊥ := by
  unfold Ref.refScore
  rw [dif_neg h0]

/-- Equal coordinates give equal values. -/
theorem vt_congr (b : Fin 2) {n n' : Fin 32} {l l' : Fin 512} {e e' : Fin 512} (hn : n.val = n'.val) (hl : l.val = l'.val)
    (he : e.val = e'.val) : vt (ix4 b n l e) = vt (ix4 b n' l' e') := by
  rw [Fin.ext hn, Fin.ext hl, Fin.ext he]

/-- The values of the keys are the reference's. -/
theorem val_in (j : Fin 576) (h : 512 ≤ 64 * (chunkOf g sub r).val + j.val) :
    arrVal vt b pr g sub ⟨64 * p.val + d.val, by omega⟩ (keyOf r j)
      = Ref.refVal vt b (chunkOf g sub r) (headOf pr p) d j := by
  have hjl := j.isLt
  have hr := r.isLt
  have e : 1024 * g.val + 256 * sub.val + (64 * (r.val / 64) + j.val)
      = 64 * (16 * g.val + 4 * sub.val + r.val / 64) + j.val := by omega
  unfold arrVal Ref.refVal
  rw [dif_pos h]
  refine vt_congr vt b ?_ ?_ ?_
  · show (1024 * g.val + 256 * sub.val + (64 * (r.val / 64) + j.val) - 512) / 512 = _
    rw [e]
  · show 128 * pr.val + (64 * p.val + d.val) = 64 * (2 * pr.val + p.val) + d.val
    omega
  · show (1024 * g.val + 256 * sub.val + (64 * (r.val / 64) + j.val) - 512) % 512 = _
    rw [e]

include hq hk ht in
/-- One result of the kernel is the reference's. -/
theorem block_eq :
    softTwo (arrScore (scaledQ q) k (biasTile t) b pr g sub r p) (arrVal vt b pr g sub ⟨64 * p.val + d.val, by omega⟩)
      = softExp (Ref.refScore q k t b (chunkOf g sub r) (headOf pr p) (placeOf r))
          (Ref.refVal vt b (chunkOf g sub r) (headOf pr p) d) := by
  refine softTwo_eq _ _ _ _ (keyOf r) ?_ (score_in q k t hq hk ht b pr g sub r p) (score_out q k t b pr g sub r p) ?_ ?_ ?_
  · intro i j h
    have h' : 64 * (r.val / 64) + i.val = 64 * (r.val / 64) + j.val := congrArg Fin.val h
    exact Fin.ext (by omega)
  · intro j hj
    by_cases h : 512 ≤ 64 * (chunkOf g sub r).val + j.val
    · exact val_in vt b pr g sub r p d j h
    · exact absurd (refScore_bot q k t b _ _ _ j h) hj
  · intro j
    by_cases h : 512 ≤ 64 * (chunkOf g sub r).val + j.val
    · obtain ⟨a, ha⟩ := refScore_real q k t hq hk ht b (chunkOf g sub r) (headOf pr p) (placeOf r) j h
      rw [ha]
      exact EReal.coe_ne_top a
    · rw [refScore_bot q k t b _ _ _ j h]
      exact bot_ne_top
  · obtain ⟨a, ha⟩ := refScore_real q k t hq hk ht b (chunkOf g sub r) (headOf pr p) (placeOf r) ⟨512, by omega⟩
      (Nat.le_add_left 512 _)
    exact ⟨⟨512, by omega⟩, by rw [ha]; exact EReal.coe_ne_bot a⟩

end Block

end Cert.Band

end
-- ==== Proof.Finite.lean ====
/-  The precondition read at an index: queries, keys and biases are real numbers. -/
module

public import proofs.«01_k».proof.Defs
public import proofs.«01_k».proof.Proof.Gen.Pre_finite
public import Idealize.ShloMosaic.Lib.ReduceAll
public import Idealize.ShloMosaic.Lib.Pointwise
public import Idealize.ShloMosaic.Lib.IdealHost

@[expose] public section

set_option maxRecDepth 16384

noncomputable section

namespace Cert.Band

open Idealize.ShloMosaic Idealize.SL.Sem Cert.Pre_finite

/-- A conjunction of two bits is one when both are. -/
theorem and_bits : ∀ a b : BitVec 1, IntOp.andi a b = 1#1 → a = 1#1 ∧ b = 1#1 := by decide

/-- A number whose magnitude is below plus infinity is real. -/
theorem real_of_abs (x : EReal) (h : (FloatOps.cmpf .olt (FloatOps.hostAbsf (F := Ideal) (φ := .f32) x) (Ideal.ofBits .f32 0x7F800000#32)) = 1#1) :
    ∃ r : ℝ, x = (r : EReal) := by
  have ht : Ideal.ofBits .f32 0x7F800000#32 = (⊤ : EReal) := rfl
  rw [ht] at h
  have h' : BitVec.ofBool (decide (max x (-x) < ⊤)) = 1#1 := h
  have h2 : max x (-x) < ⊤ := by
    by_contra hc
    rw [decide_eq_false hc] at h'
    exact absurd h' (by decide)
  induction x with
  | bot => simp at h2
  | coe r => exact ⟨r, rfl⟩
  | top => simp at h2

/-- What the precondition says of each element. -/
theorem real_of_pre (q k : FVec Ideal S2x16384x512 .bf16) (vt : FVec Ideal S2x32x512x512 .bf16) (t : FVec Ideal S8x513 .f32)
    (h : Cert.Pre_finite.fn (F := Ideal) q k vt t = fun _ => 1#1) :
    (∀ i, ∃ r : ℝ, q i = (r : EReal)) ∧ (∀ i, ∃ r : ℝ, k i = (r : EReal)) ∧ (∀ i, ∃ r : ℝ, t i = (r : EReal)) := by
  have e := congrFun h ix0
  dsimp only [Cert.Pre_finite.fn] at e
  obtain ⟨e1, e3⟩ := and_bits _ _ e
  obtain ⟨e1, e2⟩ := and_bits _ _ e1
  refine ⟨fun i => ?_, fun i => ?_, fun i => ?_⟩
  · exact real_of_abs _ (Host.reduce_andi_all _ _ _ _ _ e1 i)
  · exact real_of_abs _ (Host.reduce_andi_all _ _ _ _ _ e2 i)
  · exact real_of_abs _ (Host.reduce_andi_all _ _ _ _ _ e3 i)

end Cert.Band

end
-- ==== Proof.Result.lean ====
/-  The result array of the kernel's launch is the reference's. -/
module

public import proofs.«01_k».proof.Proof.Array
public import proofs.«01_k».proof.Proof.Equation
public import proofs.«01_k».proof.Proof.Finite

@[expose] public section

set_option maxRecDepth 16384

noncomputable section

namespace Cert.Band

open Cert.KernelIdeal Cert.KernelIdeal.Gen Idealize.ShloMosaic Idealize.ShloMosaic.TcCoe Idealize.SL.Sem

/-- Every query is a row of a block of a group, and every lane a lane of a head of a pair. -/
theorem forall_of_blocks {P : S2x16384x512.Idx → Prop}
    (h : ∀ (b : Fin 2) (pr : Fin 4) (g : Fin 16) (sub : Fin 4) (r : Fin 256) (p : Fin 2) (d : Fin 64),
      P (ix3 b ⟨1024 * g.val + 256 * sub.val + r.val, by omega⟩ ⟨128 * pr.val + 64 * p.val + d.val, by omega⟩)) :
    ∀ i, P i := by
  intro i
  have hi : i = ix3 (i 0) (i 1) (i 2) := by funext x; fin_cases x <;> rfl
  have e : ∀ (b : Fin 2) (s : Fin 16384) (l : Fin 512), P (ix3 b s l) := by
    intro b s l
    have := h b ⟨l.val / 128, by omega⟩ ⟨s.val / 1024, by omega⟩ ⟨s.val % 1024 / 256, by omega⟩ ⟨s.val % 256, by omega⟩
      ⟨l.val % 128 / 64, by omega⟩ ⟨l.val % 64, by omega⟩
    have e1 : (⟨1024 * (s.val / 1024) + 256 * (s.val % 1024 / 256) + s.val % 256, by omega⟩ : Fin 16384) = s :=
      Fin.ext (by simp only; omega)
    have e2 : (⟨128 * (l.val / 128) + 64 * (l.val % 128 / 64) + l.val % 64, by omega⟩ : Fin 512) = l :=
      Fin.ext (by simp only; omega)
    rw [e1, e2] at this
    exact this
  rw [hi]
  exact e _ _ _

/-- The launch's result array, from finite queries, keys and biases, is the reference's result. -/
theorem array_eq (m : (ℓ : Loc nD τ sig) → Buf (Elt Ideal) ℓ) (c : Dev nD)
    (h : Cert.Pre_finite.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    (dats m 0 c).arrAt 8 cfg0.N = Ref.refOut (m ((c.tc : Thread nD τ).loc main_arg0)) (m ((c.tc : Thread nD τ).loc main_arg1))
      (m ((c.tc : Thread nD τ).loc main_arg2)) (m ((c.tc : Thread nD τ).loc main_arg3)) := by
  obtain ⟨hq, hk, ht⟩ := real_of_pre _ _ _ _ h
  refine funext (forall_of_blocks fun b pr g sub r p d => ?_)
  rw [array_apply, V_main_v5, V_main_v56, V_main_arg1, V_main_arg2, block_eq _ _ _ _ hq hk ht]
  have e := Ref.refOut_apply (m ((c.tc : Thread nD τ).loc main_arg0)) (m ((c.tc : Thread nD τ).loc main_arg1))
    (m ((c.tc : Thread nD τ).loc main_arg2)) (m ((c.tc : Thread nD τ).loc main_arg3)) b (chunkOf g sub r) (placeOf r)
    (headOf pr p) d
  rw [← e]
  exact row_congr _ b (by show 64 * (16 * g.val + 4 * sub.val + r.val / 64) + r.val % 64 = _; simp only; omega)
    (by show 64 * (2 * pr.val + p.val) + d.val = _; simp only; omega)

end Cert.Band

end
-- ==== Proof.Tables.lean ====
/-  The tables that steer the experts' call, and the pipeline at them: which points compute, which write back. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Affine
public import Idealize.ShloMosaic.Lib.WordArith
public import Idealize.ShloMosaic.Lib.Tactic
public import Idealize.ShloMosaic.Lib.Pointwise
public import Idealize.ShloMosaic.Lib.StableHlo.Predicate
public import Idealize.ShloMosaic.Init

@[expose] public section

set_option maxRecDepth 16384

noncomputable section

namespace Cert.Experts

open Cert.Kernel2Ideal Cert.Kernel2Ideal.Gen
open Idealize.ShloMosaic Idealize.ShloMosaic.TcCoe Idealize.ShloMosaic.Tactic

variable {F : FTy → Type} [FloatOps F]

/-- The three tables: each tile's expert, the number of tiles in use, each tile's count of rows in use. -/
structure Tabs where
  te : S439.Idx → BitVec 32
  na : S1.Idx → BitVec 32
  vd : S439.Idx → BitVec 32
  te_lt : ∀ j, (te j).toNat < 64
  na_pos : ∀ j, 1 ≤ (na j).toNat
  na_le : ∀ j, (na j).toNat ≤ 439

/-- The one index of the table of one word. -/
abbrev j0 : S1.Idx := ix1 (0 : Fin 1)

theorem idx1_eq (j : S1.Idx) : j = j0 := by
  funext a
  fin_cases a
  refine Fin.ext ?_
  have h : (j 0).val < 1 := (j 0).isLt
  show (j 0).val = 0
  omega

/-- The number of tiles in use. -/
noncomputable def Tabs.n (T : Tabs) : ℕ := (T.na j0).toNat

theorem Tabs.n_pos (T : Tabs) : 1 ≤ T.n := T.na_pos _
theorem Tabs.n_le (T : Tabs) : T.n ≤ 439 := T.na_le _

/-- A position against the number of tiles in use, as the body compares them. -/
theorem cond_iff (i : grid0.Coords) (v : BitVec 32) (hv : v.toNat ≤ 439) :
    k0_cond1 i v = 1#1 ↔ (i 0).val < v.toNat := by
  have h : (i 0).val < 439 := (i 0).isLt
  have hs := StableHlo.Predicate.slt_bool_iff_toNat (a := BitVec.ofNat 32 (i 0).val) (b := v)
    (by rw [BitVec.toNat_ofNat]; omega) (by omega)
  rw [BitVec.toNat_ofNat, Nat.mod_eq_of_lt (by omega)] at hs
  rw [← hs]
  show IntOp.cmpi .ne ((BitVec.ofBool ((BitVec.ofNat 32 (i 0).val).slt v)).setWidth 32) 0#32 = 1#1 ↔ _
  cases (BitVec.ofNat 32 (i 0).val).slt v <;> decide

/-- The tile a position stages: its own, or the last one in use. -/
theorem tile_eq (i : grid0.Coords) (v : BitVec 32) (hp : 1 ≤ v.toNat) (hv : v.toNat ≤ 439) :
    (Scalar.minsi (BitVec.ofNat 32 (i 0).val) (Scalar.subi v 1#32)).toNat = min (i 0).val (v.toNat - 1) := by
  have h : (i 0).val < 439 := (i 0).isLt
  have hsub : (Scalar.subi v 1#32).toNat = v.toNat - 1 := by
    show (v - 1#32).toNat = _
    rw [BitVec.toNat_sub_of_le (by rw [BitVec.le_def]; exact hp)]
    rfl
  have ho : (BitVec.ofNat 32 (i 0).val).toNat = (i 0).val := by rw [BitVec.toNat_ofNat, Nat.mod_eq_of_lt (by omega)]
  refine (WordArith.toNat_minsi_of_lt _ _ (by rw [ho]; omega) (by rw [hsub]; omega)).trans ?_
  rw [hsub, ho]

/-- The tables as the pipeline holds them. -/
noncomputable def pfN (T : Tabs) : pre0.Contents (Elt F) :=
  fun | ⟨0, _⟩ => T.te | ⟨1, _⟩ => T.na | ⟨2, _⟩ => T.vd | ⟨_ + 3, h⟩ => absurd h (by simp)

variable (T : Tabs)

theorem pf_na (r : Rect S1) (h : r.shape.numel = 1) : (pfN (F := F) T).at 1 r h = T.na j0 :=
  congrArg T.na (idx1_eq _)

theorem map0 (i : grid0.Coords) : cc0_transform_0 inb_S1_S1_0 numel1_S1 (pfN (F := F) T) i = ![min (i 0).val (T.n - 1), 0] := by
  have h := pf_na (F := F) T (Rect.unit (s := S1) ![0] S1.size inb_S1_S1_0) numel1_S1
  exact congrArg (fun v => (![v, 0] : Fin 2 → ℕ))
    ((congrArg (fun v : BitVec 32 => (Scalar.minsi (BitVec.ofNat 32 (i 0).val) (Scalar.subi v 1#32)).toNat) h).trans
      (tile_eq i _ (T.na_pos _) (T.na_le _)))

theorem map4 (i : grid0.Coords) : cc0_transform_4 inb_S1_S1_0 numel1_S1 (pfN (F := F) T) i = ![min (i 0).val (T.n - 1), 0] := by
  have h := pf_na (F := F) T (Rect.unit (s := S1) ![0] S1.size inb_S1_S1_0) numel1_S1
  exact congrArg (fun v => (![v, 0] : Fin 2 → ℕ))
    ((congrArg (fun v : BitVec 32 => (Scalar.minsi (BitVec.ofNat 32 (i 0).val) (Scalar.subi v 1#32)).toNat) h).trans
      (tile_eq i _ (T.na_pos _) (T.na_le _)))

/-- A position's expert. -/
noncomputable def Tabs.ex (p : Fin 439) : ℕ := (T.te (ix1 p)).toNat

theorem Tabs.ex_lt (p : Fin 439) : T.ex p < 64 := T.te_lt _

theorem pf_te (i : grid0.Coords) (r : Fin 1 → ℕ) (hr : r = k0_off1 i) (hb : ∀ a, r a + S1.size a ≤ S439.size a) (h : S1.numel = 1) :
    ((pfN (F := F) T).at 0 (Rect.unit (s := S439) r S1.size hb) h).toNat = T.ex (i 0) := by
  subst hr
  unfold Tabs.ex
  refine congrArg (fun j => (T.te j).toNat) ?_
  funext a
  fin_cases a
  refine Fin.ext ?_
  have hi : (i 0).val < 439 := (i 0).isLt
  show (BitVec.ofNat 32 (i 0).val).toNat + 1 * 0 = (i 0).val
  rw [BitVec.toNat_ofNat]
  omega

theorem map1 (i : grid0.Coords) : cc0_transform_1 k0_off1_inb numel1_S1 (pfN (F := F) T) i = ![T.ex (i 0), 0, 0] :=
  congrArg (fun v => (![v, 0, 0] : Fin 3 → ℕ)) (pf_te (F := F) T i _ rfl (k0_off1_inb i) numel1_S1)
theorem map2 (i : grid0.Coords) : cc0_transform_2 k0_off1_inb numel1_S1 (pfN (F := F) T) i = ![T.ex (i 0), 0, 0] :=
  congrArg (fun v => (![v, 0, 0] : Fin 3 → ℕ)) (pf_te (F := F) T i _ rfl (k0_off1_inb i) numel1_S1)
theorem map3 (i : grid0.Coords) : cc0_transform_3 k0_off1_inb numel1_S1 (pfN (F := F) T) i = ![T.ex (i 0), 0, 0] :=
  congrArg (fun v => (![v, 0, 0] : Fin 3 → ℕ)) (pf_te (F := F) T i _ rfl (k0_off1_inb i) numel1_S1)

/-- Every block the tables name lies in its array. -/
theorem ok_pfN : ok0 (F := F) (pfN T) := by
  have hn := T.n_pos
  have hl := T.n_le
  refine ⟨fun i => ⟨?_, .inr (Affine.block_words_dvd (s := S455680x1024) (p := EltTy.packing .bf16) (by decide) (by decide))⟩,
    fun i => ⟨?_, .inr (Affine.block_words_dvd (s := S64x1024x256) (p := EltTy.packing .bf16) (by decide) (by decide))⟩,
    fun i => ⟨?_, .inr (Affine.block_words_dvd (s := S64x1024x256) (p := EltTy.packing .bf16) (by decide) (by decide))⟩,
    fun i => ⟨?_, .inr (Affine.block_words_dvd (s := S64x256x1024) (p := EltTy.packing .bf16) (by decide) (by decide))⟩,
    fun i => ⟨?_, .inr (Affine.block_words_dvd (s := S455680x1024) (p := EltTy.packing .bf16) (by decide) (by decide))⟩⟩
  · rw [map0]
    intro a
    fin_cases a
    · show (min (i 0).val (T.n - 1) + 1) * 1024 ≤ 455680; omega
    · show (0 + 1) * 1024 ≤ 1024; omega
  · rw [map1]
    have h := T.ex_lt (i 0)
    intro a
    fin_cases a
    · show (T.ex (i 0) + 1) * 1 ≤ 64; omega
    · show (0 + 1) * 1024 ≤ 1024; omega
    · show (0 + 1) * 256 ≤ 256; omega
  · rw [map2]
    have h := T.ex_lt (i 0)
    intro a
    fin_cases a
    · show (T.ex (i 0) + 1) * 1 ≤ 64; omega
    · show (0 + 1) * 1024 ≤ 1024; omega
    · show (0 + 1) * 256 ≤ 256; omega
  · rw [map3]
    have h := T.ex_lt (i 0)
    intro a
    fin_cases a
    · show (T.ex (i 0) + 1) * 1 ≤ 64; omega
    · show (0 + 1) * 256 ≤ 256; omega
    · show (0 + 1) * 1024 ≤ 1024; omega
  · rw [map4]
    intro a
    fin_cases a
    · show (min (i 0).val (T.n - 1) + 1) * 1024 ≤ 455680; omega
    · show (0 + 1) * 1024 ≤ 1024; omega

/-- The pipeline at these tables. -/
noncomputable def adm : (pcfg0 (F := F)).Adm := ⟨pfN T, ok_pfN T⟩
noncomputable abbrev cfgA : Pipeline.Cfg sig Λ₀ := cfg0 (F := F) (adm T)
noncomputable abbrev pcs : Fin 1 → Pipeline.Cfg sig Λ₀ := Pipeline.pin (pcfgs (F := F)) fun _ => adm T

/-- A point's coordinate is its position. -/
theorem crd_val (t : Fin grid0.N) : (grid0.coords t 0).val = t.val := by
  have h : t.val < 439 := lt_of_lt_of_eq t.isLt N_0
  show t.val / 1 % 439 = t.val
  omega

theorem index4 (t : Fin (cfgA (F := F) T).N) : ((cfgA (F := F) T).win (4 : Fin 5)).index t = ![min t.val (T.n - 1), 0] := by
  show cc0_transform_4 inb_S1_S1_0 numel1_S1 (pfN (F := F) T) (grid0.coords t) = _
  rw [map4, crd_val]

theorem idle4 (t : Fin (cfgA (F := F) T).N) :
    (cfgA (F := F) T).idle (4 : Fin 5) ((cfgA (F := F) T).grid.coords t) = !decide (t.val < T.n) := by
  show (!(k0_cond1 (grid0.coords t) ((pfN (F := F) T).atD 1 ![0]) == 1#1)) = _
  have e : (pfN (F := F) T).atD 1 ![0] = T.na j0 := by
    have h : ∀ a : Fin 1, (![0] : Fin 1 → ℕ) a + 1 ≤ S1.size a := by decide
    exact (dif_pos h).trans (congrArg T.na (idx1_eq _))
  rw [e]
  have := cond_iff (grid0.coords t) (T.na j0) (T.na_le _)
  rw [crd_val] at this
  congr 1
  exact Bool.eq_iff_iff.2 (by rw [beq_iff_eq, this, decide_eq_true_eq]; rfl)

theorem flush4 (t : Fin (cfgA (F := F) T).N) :
    ((cfgA (F := F) T).win (4 : Fin 5)).flush t = decide (t.val + 1 = 439 ∨ t.val + 1 < T.n) := by
  have h : t.val < 439 := lt_of_lt_of_eq t.isLt N_0
  have hn := T.n_pos
  have hl := T.n_le
  have e : grid0.N = 439 := N_0
  rw [Bool.eq_iff_iff, decide_eq_true_eq]
  change (true && (decide (t.val + 1 = grid0.N) || decide (∃ h : t.val + 1 < grid0.N,
    ((cfgA (F := F) T).win (4 : Fin 5)).index ⟨t.val + 1, h⟩ ≠ ((cfgA (F := F) T).win (4 : Fin 5)).index t))) = true ↔ _
  rw [Bool.true_and, Bool.or_eq_true, decide_eq_true_eq, decide_eq_true_eq]
  constructor
  · rintro (h1 | ⟨h1, h2⟩)
    · left; omega
    · right
      by_contra hc
      refine h2 ((index4 T ⟨t.val + 1, h1⟩).trans (Eq.trans ?_ (index4 T t).symm))
      show (![min (t.val + 1) (T.n - 1), 0] : Fin 2 → ℕ) = _
      rw [show min (t.val + 1) (T.n - 1) = min t.val (T.n - 1) by omega]
  · rintro (h1 | h1)
    · left; omega
    · have h2 : t.val + 1 < grid0.N := by omega
      refine .inr ⟨h2, fun hc => ?_⟩
      have h3 : min (t.val + 1) (T.n - 1) = min t.val (T.n - 1) :=
        congrFun ((index4 (F := F) T ⟨t.val + 1, h2⟩).symm.trans (hc.trans (index4 T t))) 0
      omega

/-- Whether the output's buffer holds nothing yet: before each tile in use, and past the end. -/
noncomputable def frTab (n : ℕ) : Bool := decide (n < T.n ∨ n = 439)

theorem fresh4 (t : Fin (cfgA (F := F) T).N) : (cfgA (F := F) T).fresh (4 : Fin 5) t.val = decide (t.val < T.n) := by
  have hn := T.n_pos
  have hl := T.n_le
  have h : t.val < 439 := lt_of_lt_of_eq t.isLt N_0
  rw [Pipeline.Cfg.fresh_tab (cfgA (F := F) T) (4 : Fin 5) (frTab T) ?_ ?_ t.val (Nat.le_of_lt t.isLt)]
  · unfold frTab; exact decide_eq_decide.2 (by omega)
  · exact decide_eq_true (by omega)
  · intro t
    have h : t.val < 439 := lt_of_lt_of_eq t.isLt N_0
    rw [flush4, idle4]
    unfold frTab
    rw [Bool.eq_iff_iff]
    simp only [Bool.or_eq_true, Bool.and_eq_true, Bool.not_eq_true', decide_eq_true_eq, decide_eq_false_iff_not]
    omega

end Cert.Experts
end
-- ==== Proof.TileRun.lean ====
/-  The body of the experts' call, run on a tile in use and on a tile past those. -/
module

public import proofs.«01_k».proof.Proof.Tables
public import Idealize.ShloMosaic.Lib.Ring
public import Idealize.ShloMosaic.Lib.Writes
public import Idealize.ShloMosaic.Lib.Exec

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The tables as memrefs. -/
abbrev tbM0_0 : Memref sig .tc .smem S439 .i32 := Memref.whole main_arg0
abbrev tbM0_1 : Memref sig .tc .smem S1 .i32 := Memref.whole main_arg1
abbrev tbM0_2 : Memref sig .tc .smem S439 .i32 := Memref.whole main_arg2

/-- A buffer of the output, through which its contents are stated. -/
abbrev VO0_4 : View sig .tc .vmem S1024x1024 .bf16 := (Memref.whole cc0_stg4_0 : Memref sig .tc .vmem S1024x1024 .bf16).view

set_option backward.proofsInPublic true in
set_option maxHeartbeats 8000000 in
/-- A tile in use: the body computes and stores the whole block. -/
noncomputable def kernelRun0_A (c : Dev nD) (i : grid0.Coords) (arg4 : Memref sig .tc .vmem S1024x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1024x1024 .bf16) (harg8 : arg8.IsWhole) (T0 : (S439.Idx → Elt F .i32)) (T1 : (S1.Idx → Elt F .i32)) (T2 : (S439.Idx → Elt F .i32))
     (x0 : (S1024x1024.Idx → Elt F .bf16)) (x1 : (S1x1024x256.Idx → Elt F .bf16)) (x2 : (S1x1024x256.Idx → Elt F .bf16)) (x3 : (S1x256x1024.Idx → Elt F .bf16)) (k0_h1 : k0_cond1 i (View.readAt (Elt F) (tbM0_1).view (Rect.unit (s := S1) ![0] S1.size inb_S1_S1_0).toLoadRect T1 (Shape.Idx.first (numel1_S1.symm ▸ Nat.one_pos))) = 1#1) :
    { out0 : List (View.Piece (Elt F) S1024x1024 .bf16) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_ffn i tbM0_0 (Memref.isWhole_whole _) tbM0_1 (Memref.isWhole_whole _) tbM0_2 (Memref.isWhole_whole _) arg4 harg4 arg5 harg5 arg6 harg6 arg7 harg7 arg8 harg8) K } :=
  ⟨_, fun K => by
    unfold owns
    rw [cc0_moe_ffn_eq_skeleton]; unfold cc0_moe_ffn_skel
    iintro ⟨H0, H1, H2, H3, HT0, HT1, HT2, ⟨%d4, %f4, -, HO4⟩, Hk⟩
    have hT0 : tbM0_0.IsWhole := Memref.isWhole_whole _
    have hT1 : tbM0_1.IsWhole := Memref.isWhole_whole _
    have hT2 : tbM0_2.IsWhole := Memref.isWhole_whole _
    sl_exec! (disch := first | (guard_target = k0_cond1 _ _ = _; exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- What it stores covers the block. -/
theorem cover0_A_4 (c : Dev nD) (i : grid0.Coords) (arg4 : Memref sig .tc .vmem S1024x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1024x1024 .bf16) (harg8 : arg8.IsWhole) (T0 : (S439.Idx → Elt F .i32)) (T1 : (S1.Idx → Elt F .i32)) (T2 : (S439.Idx → Elt F .i32))
     (x0 : (S1024x1024.Idx → Elt F .bf16)) (x1 : (S1x1024x256.Idx → Elt F .bf16)) (x2 : (S1x1024x256.Idx → Elt F .bf16)) (x3 : (S1x256x1024.Idx → Elt F .bf16)) (k0_h1 : k0_cond1 i (View.readAt (Elt F) (tbM0_1).view (Rect.unit (s := S1) ![0] S1.size inb_S1_S1_0).toLoadRect T1 (Shape.Idx.first (numel1_S1.symm ▸ Nat.one_pos))) = 1#1) (y : S1024x1024.Idx) :
    ∃ pc ∈ (kernelRun0_A c i arg4 harg4 arg5 harg5 arg6 harg6 arg7 harg7 arg8 harg8 T0 T1 T2 x0 x1 x2 x3 k0_h1).1, y ∈ pc.1.set :=
  View.cover_of_tiledL (kernelRun0_A c i arg4 harg4 arg5 harg5 arg6 harg6 arg7 harg7 arg8 harg8 T0 T1 T2 x0 x1 x2 x3 k0_h1).1 S1024x1024.size (by sl_kernel_rfl) y

/-- The block it stores. -/
def out0_A_4 (c : Dev nD) (i : grid0.Coords) (arg4 : Memref sig .tc .vmem S1024x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1024x1024 .bf16) (harg8 : arg8.IsWhole) (T0 : (S439.Idx → Elt F .i32)) (T1 : (S1.Idx → Elt F .i32)) (T2 : (S439.Idx → Elt F .i32))
     (x0 : (S1024x1024.Idx → Elt F .bf16)) (x1 : (S1x1024x256.Idx → Elt F .bf16)) (x2 : (S1x1024x256.Idx → Elt F .bf16)) (x3 : (S1x256x1024.Idx → Elt F .bf16)) (k0_h1 : k0_cond1 i (View.readAt (Elt F) (tbM0_1).view (Rect.unit (s := S1) ![0] S1.size inb_S1_S1_0).toLoadRect T1 (Shape.Idx.first (numel1_S1.symm ▸ Nat.one_pos))) = 1#1) : (S1024x1024.Idx → Elt F .bf16) :=
  VO0_4.read (Elt F) (VO0_4.writes (Elt F) VO0_4.junk (kernelRun0_A c i arg4 harg4 arg5 harg5 arg6 harg6 arg7 harg7 arg8 harg8 T0 T1 T2 x0 x1 x2 x3 k0_h1).1)

set_option maxHeartbeats 8000000 in
/-- A tile past those in use: the body touches nothing. -/
noncomputable def kernelRun0_B (c : Dev nD) (i : grid0.Coords) (arg4 : Memref sig .tc .vmem S1024x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1024x1024 .bf16) (harg8 : arg8.IsWhole) (T0 : (S439.Idx → Elt F .i32)) (T1 : (S1.Idx → Elt F .i32)) (T2 : (S439.Idx → Elt F .i32))
     (x0 : (S1024x1024.Idx → Elt F .bf16)) (x1 : (S1x1024x256.Idx → Elt F .bf16)) (x2 : (S1x1024x256.Idx → Elt F .bf16)) (x3 : (S1x256x1024.Idx → Elt F .bf16)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) :
    { out : Unit //
      ∀ (y4 : (S1024x1024.Idx → Elt F .bf16)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (tbM0_2.view.loc (c : Thread nD τ) ↦{fullShare.right} T2)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ (tbM0_2.view.loc (c : Thread nD τ) ↦{fullShare.right} T2)
              ∗ owns (c : Thread nD τ) arg8 fullShare y4) -∗ K ⟨⟩))
          ⊢ wp frame (wpE (defs₀ (F := F)) Variants.none c none) Set.univ (cc0_moe_ffn i tbM0_0 (Memref.isWhole_whole _) tbM0_1 (Memref.isWhole_whole _) tbM0_2 (Memref.isWhole_whole _) arg4 harg4 arg5 harg5 arg6 harg6 arg7 harg7 arg8 harg8) K } :=
  ⟨⟨⟩, fun (y4 : (S1024x1024.Idx → Elt F .bf16)) K => by
    unfold owns
    rw [cc0_moe_ffn_eq_skeleton]; unfold cc0_moe_ffn_skel
    iintro ⟨H0, H1, H2, H3, HT0, HT1, HT2, ⟨%f4, %hf4, HO4⟩, Hk⟩
    obtain rfl := harg8.eq_unread hf4
    have hT0 : tbM0_0.IsWhole := Memref.isWhole_whole _
    have hT1 : tbM0_1.IsWhole := Memref.isWhole_whole _
    have hT2 : tbM0_2.IsWhole := Memref.isWhole_whole _
    sl_exec! (disch := first | (guard_target = ¬(k0_cond1 _ _ = _); exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; isplitr; · ipureintro; exact harg8.read_unread _
    iexact HO4⟩

end Cert.Experts
end
-- ==== Proof.ExpertsRun.lean ====
/-  The experts' call at any tables within their bounds: its run, its frame, what it leaves in its result. -/
module

public import proofs.«01_k».proof.Proof.TileRun
public import Idealize.ShloMosaic.Lib.Pipeline.Quiescent
public import Idealize.ShloMosaic.Lib.Claim
public import Idealize.ShloMosaic.Lib.Pipeline.FrameBody
public import Idealize.ShloMosaic.Lib.Writes
public import Idealize.ShloMosaic.Lib.Ring
public import Idealize.ShloMosaic.Lib.Exec
public import Idealize.ShloMosaic.Adequacy

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- What a buffer is said to hold before anything is stored (nothing reads it). -/
def blank : S1024x1024.Idx → Elt F .bf16 := fun _ => Scalar.ofBits .bf16 0x0000#16

variable (T : Tabs)

/-- The launch memory holds these tables. -/
def Pinned (m : (ℓ : Loc nD τ sig) → Buf (Elt F) ℓ) : Prop :=
  (∀ c : Dev nD, m ((c : Thread nD τ).loc main_arg0) = T.te)
  ∧ (∀ c : Dev nD, m ((c : Thread nD τ).loc main_arg1) = T.na)
  ∧ (∀ c : Dev nD, m ((c : Thread nD τ).loc main_arg2) = T.vd)

abbrev EP : Emb (UR sig nD τ) 𝕄 := emb₁

variable (m : (ℓ : Loc nD τ sig) → Buf (Elt F) ℓ) (ρ : Dev nD → PrngReg)

abbrev crd (t : Fin (cfgA (F := F) T).N) : (cfgA (F := F) T).grid.Coords := (cfgA (F := F) T).grid.coords t

abbrev ms0_0 (t : Fin (cfgA (F := F) T).N) : Memref sig .tc .vmem S1024x1024 .bf16 := spec0_0.stage ((cfgA (F := F) T).slots t (0 : Fin 5))
abbrev hs0_0 (t : Fin (cfgA (F := F) T).N) : (ms0_0 (F := F) T t).IsWhole := hstage0_0 (((cfgA (F := F) T).slots t (0 : Fin 5)).cast nbuf0_0)
abbrev ms0_1 (t : Fin (cfgA (F := F) T).N) : Memref sig .tc .vmem S1x1024x256 .bf16 := spec0_1.stage ((cfgA (F := F) T).slots t (1 : Fin 5))
abbrev hs0_1 (t : Fin (cfgA (F := F) T).N) : (ms0_1 (F := F) T t).IsWhole := hstage0_1 (((cfgA (F := F) T).slots t (1 : Fin 5)).cast nbuf0_1)
abbrev ms0_2 (t : Fin (cfgA (F := F) T).N) : Memref sig .tc .vmem S1x1024x256 .bf16 := spec0_2.stage ((cfgA (F := F) T).slots t (2 : Fin 5))
abbrev hs0_2 (t : Fin (cfgA (F := F) T).N) : (ms0_2 (F := F) T t).IsWhole := hstage0_2 (((cfgA (F := F) T).slots t (2 : Fin 5)).cast nbuf0_2)
abbrev ms0_3 (t : Fin (cfgA (F := F) T).N) : Memref sig .tc .vmem S1x256x1024 .bf16 := spec0_3.stage ((cfgA (F := F) T).slots t (3 : Fin 5))
abbrev hs0_3 (t : Fin (cfgA (F := F) T).N) : (ms0_3 (F := F) T t).IsWhole := hstage0_3 (((cfgA (F := F) T).slots t (3 : Fin 5)).cast nbuf0_3)
abbrev ms0_4 (t : Fin (cfgA (F := F) T).N) : Memref sig .tc .vmem S1024x1024 .bf16 := spec0_4.stage ((cfgA (F := F) T).slots t (4 : Fin 5))
abbrev hs0_4 (t : Fin (cfgA (F := F) T).N) : (ms0_4 (F := F) T t).IsWhole := hstage0_4 (((cfgA (F := F) T).slots t (4 : Fin 5)).cast nbuf0_4)

/-- A window's block at a point, read off its array at launch. -/
def iblk (c : Dev nD) (w : Fin (cfgA (F := F) T).W) (t : Fin (cfgA (F := F) T).N) : (((cfgA (F := F) T).win w).xblock (crd (F := F) T t)).Idx → Elt F ((cfgA (F := F) T).win w).elt :=
  (((cfgA (F := F) T).win w).blk t).view.read (Elt F) ((s₀ m ρ).mem (((cfgA (F := F) T).win w).arr.view.loc (c : Thread nD τ)))

/-- Whether the body computes at a point. -/
abbrev P0_0 (t : Fin (cfgA (F := F) T).N) : Prop := k0_cond1 (crd (F := F) T t) (View.readAt (Elt F) (tbM0_1).view (Rect.unit (s := S1) ![0] S1.size inb_S1_S1_0).toLoadRect T.na (Shape.Idx.first (numel1_S1.symm ▸ Nat.one_pos))) = 1#1

/-- The word the body compares with is the number of tiles in use. -/
theorem word_eq : View.readAt (Elt F) (tbM0_1).view (Rect.unit (s := S1) ![0] S1.size inb_S1_S1_0).toLoadRect T.na (Shape.Idx.first (numel1_S1.symm ▸ Nat.one_pos)) = T.na j0 :=
  congrArg T.na (idx1_eq _)

/-- A point computes where its position is below that number. -/
theorem P0_iff (t : Fin (cfgA (F := F) T).N) : P0_0 (F := F) T t ↔ t.val < T.n := by
  have h := cond_iff (grid0.coords t) (T.na j0) (T.na_le _)
  rw [crd_val] at h
  unfold P0_0
  rw [word_eq]
  exact h

/-- A point that computes is no idle one, and nothing is held for it. -/
theorem sched0_A (t : Fin (cfgA (F := F) T).N) (q : P0_0 (F := F) T t) :
    (cfgA (F := F) T).idle (4 : Fin 5) ((cfgA (F := F) T).grid.coords t) = false ∧ (cfgA (F := F) T).fresh (4 : Fin 5) t.val = true := by
  rw [idle4, fresh4]
  have := (P0_iff T t).1 q
  simp [this]

/-- A point that does not is idle, and the last tile is held. -/
theorem sched0_B (t : Fin (cfgA (F := F) T).N) (q : ¬P0_0 (F := F) T t) :
    (cfgA (F := F) T).idle (4 : Fin 5) ((cfgA (F := F) T).grid.coords t) = true ∧ (cfgA (F := F) T).fresh (4 : Fin 5) t.val = false := by
  rw [idle4, fresh4]
  have : ¬ t.val < T.n := fun h => q ((P0_iff T t).2 h)
  simp [this]

/-- One step: what the output's buffer holds after a point, from what it held before. -/
def step0 (c : Dev nD) (t : Fin (cfgA (F := F) T).N) (prev : (S1024x1024.Idx → Elt F .bf16)) : (S1024x1024.Idx → Elt F .bf16) :=
  if q0 : P0_0 (F := F) T t then
    out0_A_4 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t) T.te T.na T.vd (iblk T m ρ c (0 : Fin 5) t) (iblk T m ρ c (1 : Fin 5) t) (iblk T m ρ c (2 : Fin 5) t) (iblk T m ρ c (3 : Fin 5) t) q0
  else
    (if (cfgA (F := F) T).fresh (4 : Fin 5) t.val then blank else prev)

/-- What it holds after each point. -/
def traj0 (c : Dev nD) : (n : ℕ) → n < (cfgA (F := F) T).N → (S1024x1024.Idx → Elt F .bf16)
  | 0, h => step0 T m ρ c ⟨0, h⟩ blank
  | n + 1, h => step0 T m ρ c ⟨n + 1, h⟩ (traj0 c n (Nat.lt_of_succ_lt h))

/-- What it holds before a point. -/
def prev0 (c : Dev nD) (t : Fin (cfgA (F := F) T).N) : (S1024x1024.Idx → Elt F .bf16) :=
  if h : t.val = 0 then blank else traj0 T m ρ c (t.val - 1) (by omega)

theorem traj0_eq (c : Dev nD) (t : Fin (cfgA (F := F) T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

theorem step0_A (c : Dev nD) (t : Fin (cfgA (F := F) T).N) (prev : (S1024x1024.Idx → Elt F .bf16)) (q0 : P0_0 (F := F) T t) :
    step0 T m ρ c t prev = out0_A_4 c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t) T.te T.na T.vd (iblk T m ρ c (0 : Fin 5) t) (iblk T m ρ c (1 : Fin 5) t) (iblk T m ρ c (2 : Fin 5) t) (iblk T m ρ c (3 : Fin 5) t) q0 := by
  unfold step0; simp only [dif_pos q0]

theorem step0_B (c : Dev nD) (t : Fin (cfgA (F := F) T).N) (prev : (S1024x1024.Idx → Elt F .bf16)) (q0 : ¬P0_0 (F := F) T t) :
    step0 T m ρ c t prev = (if (cfgA (F := F) T).fresh (4 : Fin 5) t.val then blank else prev) := by
  unfold step0; simp only [dif_neg q0]

/-- The same, at every position. -/
def prev0T (c : Dev nD) (t : Fin ((cfgA (F := F) T).N + 1)) : (S1024x1024.Idx → Elt F .bf16) :=
  if h : t.val = 0 then blank else traj0 T m ρ c (t.val - 1) (by omega)

theorem prev0T_castSucc (c : Dev nD) (t : Fin (cfgA (F := F) T).N) : prev0T T m ρ c t.castSucc = prev0 T m ρ c t := by
  unfold prev0T prev0; simp only [Fin.val_castSucc]
theorem prev0T_succ (c : Dev nD) (t : Fin (cfgA (F := F) T).N) : prev0T T m ρ c t.succ = traj0 T m ρ c t.val t.isLt := by
  unfold prev0T; simp only [Fin.val_succ, Nat.add_one_ne_zero, ↓reduceDIte, Nat.add_one_sub_one]

/-- What the pipeline keeps: the tables. -/
def Phi (m : (ℓ : Loc nD τ sig) → Buf (Elt F) ℓ) (ρ : Dev nD → PrngReg) (c : Dev nD) (t : Fin ((cfgA (F := F) T).N + 1)) : sProp 𝕄 :=
  iprop((tbM0_0.view.loc (c : Thread nD τ) ↦{fullShare.right} T.te) ∗ (tbM0_1.view.loc (c : Thread nD τ) ↦{fullShare.right} T.na) ∗ (tbM0_2.view.loc (c : Thread nD τ) ↦{fullShare.right} T.vd))

/-- The data of the proof. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => (traj0 T m ρ c t.val t.isLt)
  Φ t := Phi T m ρ c t
  q _ := fullShare
  owed _ := 0

theorem after0_0 (c : Dev nD) (t : Fin (cfgA (F := F) T).N) : (dats T m ρ 0 c).after (0 : Fin 5) t = iblk T m ρ c (0 : Fin 5) t := rfl
theorem after0_1 (c : Dev nD) (t : Fin (cfgA (F := F) T).N) : (dats T m ρ 0 c).after (1 : Fin 5) t = iblk T m ρ c (1 : Fin 5) t := rfl
theorem after0_2 (c : Dev nD) (t : Fin (cfgA (F := F) T).N) : (dats T m ρ 0 c).after (2 : Fin 5) t = iblk T m ρ c (2 : Fin 5) t := rfl
theorem after0_3 (c : Dev nD) (t : Fin (cfgA (F := F) T).N) : (dats T m ρ 0 c).after (3 : Fin 5) t = iblk T m ρ c (3 : Fin 5) t := rfl
theorem after0_4 (c : Dev nD) (t : Fin (cfgA (F := F) T).N) : (dats T m ρ 0 c).after (4 : Fin 5) t = (traj0 T m ρ c t.val t.isLt) := rfl

theorem before0_0 (c : Dev nD) (t : Fin (cfgA (F := F) T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin (cfgA (F := F) T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin (cfgA (F := F) T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin (cfgA (F := F) T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output carries through the idle points. -/
theorem hcarry0_4 (c : Dev nD) : ∀ (t : Fin (cfgA (F := F) T).N) (ht : t.val ≠ 0), (cfgA (F := F) T).idle (4 : Fin 5) ((cfgA (F := F) T).grid.coords t) = true → (cfgA (F := F) T).fresh (4 : Fin 5) t.val = false →
    (dats T m ρ 0 c).after (4 : Fin 5) t = (dats T m ρ 0 c).after (4 : Fin 5) ⟨t.val - 1, by omega⟩ := by
  intro t ht hi hf
  rw [after0_4, after0_4, traj0_eq]
  by_cases q0 : P0_0 (F := F) T t
  · obtain ⟨i4, -⟩ := sched0_A T t q0
    rw [i4] at hi; exact absurd hi (by decide)
  · rw [step0_B T m ρ c t _ q0]
    simp only [hf, Bool.false_eq_true, ↓reduceIte]
    unfold prev0; rw [dif_neg ht]

/-- What the output holds when the body runs. -/
theorem before0_4 (c : Dev nD) (t : Fin (cfgA (F := F) T).N) (d) :
    (dats T m ρ 0 c).before (4 : Fin 5) t d = if (cfgA (F := F) T).fresh (4 : Fin 5) t.val then d else (prev0 T m ρ c t) := by
  rw [(dats T m ρ 0 c).before_out_traj (4 : Fin 5) rfl (fun _ _ => rfl) (hcarry0_4 T m ρ c) t.val t rfl d]
  by_cases hf : (cfgA (F := F) T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-- The body at a point. -/
abbrev bodyAt0 (t : Fin (cfgA (F := F) T).N) : Prog (TpuEff nD τ sig (Elt F) Λ₀ .tc) PUnit :=
  cc0_moe_ffn (crd (F := F) T t) (Memref.whole main_arg0) (Memref.isWhole_whole _) (Memref.whole main_arg1) (Memref.isWhole_whole _) (Memref.whole main_arg2) (Memref.isWhole_whole _) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t)

set_option maxHeartbeats 4000000 in
/-- The body meets its obligation at every point. -/
theorem sound_body (hp : Pinned T m) (c : Dev nD) (t : Fin (cfgA (F := F) T).N) :
    iprop((dats T m ρ 0 c).Φ t.castSucc ∗ (dats T m ρ 0 c).owesAt () t.castSucc
        ∗ (∃ d, owns (c : Thread nD τ) (ms0_0 (F := F) T t) fullShare ((dats T m ρ 0 c).before (0 : Fin 5) t d))
        ∗ (∃ d, owns (c : Thread nD τ) (ms0_1 (F := F) T t) fullShare ((dats T m ρ 0 c).before (1 : Fin 5) t d))
        ∗ (∃ d, owns (c : Thread nD τ) (ms0_2 (F := F) T t) fullShare ((dats T m ρ 0 c).before (2 : Fin 5) t d))
        ∗ (∃ d, owns (c : Thread nD τ) (ms0_3 (F := F) T t) fullShare ((dats T m ρ 0 c).before (3 : Fin 5) t d))
        ∗ (∃ d, owns (c : Thread nD τ) (ms0_4 (F := F) T t) fullShare ((dats T m ρ 0 c).before (4 : Fin 5) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  by_cases q0 : P0_0 (F := F) T t
  · obtain ⟨i4, fr4⟩ := sched0_A T t q0
    have k0_h1 := q0
    rewrite [i4]
    simp only [before0_0, before0_1, before0_2, before0_3, before0_4, after0_0, after0_1, after0_2, after0_3, after0_4]
    simp only [fr4, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_A T m ρ c t _ q0]
    unfold Phi; simp only [prev0T_castSucc, prev0T_succ, traj0_eq, step0_A T m ρ c t _ q0, Fin.val_castSucc, Fin.val_succ]
    iintro ⟨⟨HT0, HT1, HT2⟩, Ho, ⟨%d0, H0⟩, ⟨%d1, H1⟩, ⟨%d2, H2⟩, ⟨%d3, H3⟩, ⟨%d4, H4⟩⟩
    iapply ((kernelRun0_A c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t) T.te T.na T.vd (iblk T m ρ c (0 : Fin 5) t) (iblk T m ρ c (1 : Fin 5) t) (iblk T m ρ c (2 : Fin 5) t) (iblk T m ρ c (3 : Fin 5) t) k0_h1).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    iintro ⟨H0, H1, H2, H3, HT0, HT1, HT2, ⟨%e4, H4⟩⟩
    isplitl [HT0 HT1 HT2]
    · isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · obtain ⟨i4, fr4⟩ := sched0_B T t q0
    have k0_h1 := q0
    cases f4 : ((cfgA (F := F) T).win (4 : Fin 5)).flush t
    · rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0]
      unfold Phi; simp only [prev0T_castSucc, prev0T_succ, traj0_eq, step0_B T m ρ c t _ q0, Fin.val_castSucc, Fin.val_succ]
      iintro ⟨⟨HT0, HT1, HT2⟩, Ho, ⟨%d0, H0⟩, ⟨%d1, H1⟩, ⟨%d2, H2⟩, ⟨%d3, H3⟩, ⟨%d4, H4⟩⟩
      iapply ((kernelRun0_B c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t) T.te T.na T.vd (iblk T m ρ c (0 : Fin 5) t) (iblk T m ρ c (1 : Fin 5) t) (iblk T m ρ c (2 : Fin 5) t) (iblk T m ρ c (3 : Fin 5) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexact H4
      iintro ⟨H0, H1, H2, H3, HT0, HT1, HT2, H4⟩
      isplitl [HT0 HT1 HT2]
      · isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · rewrite [i4]
      simp only [before0_0, before0_1, before0_2, before0_3, before0_4, after0_0, after0_1, after0_2, after0_3, after0_4, f4]
      simp only [fr4, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0]
      unfold Phi; simp only [prev0T_castSucc, prev0T_succ, traj0_eq, step0_B T m ρ c t _ q0, Fin.val_castSucc, Fin.val_succ, fr4, Bool.false_eq_true, ↓reduceIte]
      iintro ⟨⟨HT0, HT1, HT2⟩, Ho, ⟨%d0, H0⟩, ⟨%d1, H1⟩, ⟨%d2, H2⟩, ⟨%d3, H3⟩, ⟨%d4, H4⟩⟩
      iapply ((kernelRun0_B c (crd (F := F) T t) (ms0_0 (F := F) T t) (hs0_0 (F := F) T t) (ms0_1 (F := F) T t) (hs0_1 (F := F) T t) (ms0_2 (F := F) T t) (hs0_2 (F := F) T t) (ms0_3 (F := F) T t) (hs0_3 (F := F) T t) (ms0_4 (F := F) T t) (hs0_4 (F := F) T t) T.te T.na T.vd (iblk T m ρ c (0 : Fin 5) t) (iblk T m ρ c (1 : Fin 5) t) (iblk T m ρ c (2 : Fin 5) t) (iblk T m ρ c (3 : Fin 5) t) k0_h1).2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [HT2]; · iexact HT2
      isplitl [H4]; · iexact H4
      iintro ⟨H0, H1, H2, H3, HT0, HT1, HT2, H4⟩
      isplitl [HT0 HT1 HT2]
      · isplitl [HT0]
        · iexact HT0
        isplitl [HT1]
        · iexact HT1
        iexact HT2
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

theorem body_obligation (hp : Pinned T m) (c : Dev nD) : BodyObligation (dats T m ρ 0 c) (defs₀ (F := F)) Variants.none () Set.univ := fun t => by
  rw [bigSep_W0]
  exact sound_body T m ρ hp c t

/-- The element the launch starts at. -/
def u₀ : UR sig nD τ :=
  initOf (Pipeline.cells (pcs (F := F) T) ((launch0 (F := F)).cellOf_inj fun _ => adm (F := F) T))
    (Pipeline.launchToks (pcs (F := F) T) ((launch0 (F := F)).cellOf_inj fun _ => adm (F := F) T))

theorem share_eq (c : Dev nD) (w : Fin (cfgA (F := F) T).W) : (dats T m ρ 0 c).share w = fullShare := by unfold Dat.share; split <;> rfl

/-- The tables, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi0_intro (c : Dev nD) :
    iprop(BI.emp ∗ Pipeline.prefHeld pre0 c (fun _ => fullShare.right) (adm (F := F) T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1, HT2⟩, -⟩
  isplitl [HT0]
  · iexact HT0
  isplitl [HT1]
  · iexact HT1
  iexact HT2

theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T m ρ c (Fin.last _) from rfl]
  unfold Phi
  iintro ⟨-, -, -⟩
  isplitr; · iempintro
  iempintro

/-- What holds at the end: each array as computed, each table as it was. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

theorem V_pre (hp : Pinned T m) (c : Dev nD) (j : Fin 3) : m ((c : Thread nD τ).loc (pre0.ref j)) = (adm (F := F) T).1 j := by
  fin_cases j
  · exact hp.1 c
  · exact hp.2.1 c
  · exact hp.2.2 c

set_option backward.isDefEq.respectTransparency.types false in
set_option maxHeartbeats 4000000 in
/-- The call runs to the end, and leaves every semaphore at zero. -/
theorem run_main_quiescent (hp : Pinned T m) : θ_run (defs (F := F)) (onTc (τ := τ) (main (F := F))) (s₀ m ρ) (fun r => QC T m ρ r ∧ r.2.sem = fun _ => 0) :=
  Pipeline.θ_run_region_noSem_pf_quiescent pcfgs (fun _ => adm (F := F) T) (dats T m ρ) () ((launch0 (F := F)).cellOf_inj fun _ => adm (F := F) T) (0 : Fin 1)
    (launch0 (F := F)).win.to₀ (launch0 (F := F)).pre EP defs₀ Variants.none m ρ main
    (hbody := fun c => (body_obligation T m ρ hp c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

theorem run_main (hp : Pinned T m) : θ_run (defs (F := F)) (onTc (τ := τ) (main (F := F))) (s₀ m ρ) (QC T m ρ) :=
  (θ_run defs _ _).mono (fun _ h => h.1) (run_main_quiescent T m ρ hp)

/-- The arguments end as they were. -/
theorem unchanged (hp : Pinned T m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2.1 c).symm, ((h c).2 2).trans (hp.2.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩) (run_main T m ρ hp)

/-- The frame: the run ends, the arguments are unchanged, the semaphores read zero. -/
theorem frame (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Experts
end
-- ==== Proof.ExpertsBlock.lean ====
/-  The block the experts' call stores for a tile in use, entry by entry. -/
module

public import proofs.«01_k».proof.Proof.ExpertsRun
public import Idealize.ShloMosaic.Lib.Pointwise
public import Idealize.ShloMosaic.Lib.IdealHost
public import Idealize.ShloMosaic.Lib.VecWindow
public import Idealize.ShloMosaic.Lib.Pipeline.ValueKit

@[expose] public section

set_option maxRecDepth 16384

noncomputable section

namespace Cert.Experts

open Cert.Kernel2Ideal Cert.Kernel2Ideal.Gen Idealize.ShloMosaic Idealize.ShloMosaic.TcCoe Idealize.SL.Sem

variable (T : Tabs) (m : (ℓ : Loc nD τ sig) → Buf (Elt Ideal) ℓ) (ρ : Dev nD → PrngReg) (c : Dev nD)

/-- The result at equal operands. -/
theorem pay_congr {a a' : Vec Ideal S1024x1024 .bf16} {v v' : Elt Ideal .i32} {g g' u u' : Vec Ideal S1x1024x256 .bf16}
    {d d' : Vec Ideal S1x256x1024 .bf16} (h0 : a = a') (h1 : v = v') (h2 : g = g') (h3 : u = u') (h4 : d = d') :
    k0_pay1 (F := Ideal) a v g u d = k0_pay1 a' v' g' u' d' := by
  subst h0 h1 h2 h3 h4; rfl

/-- A tile in use leaves the body's result at its blocks. -/
theorem out_eq (i : grid0.Coords) (arg4 : Memref sig .tc .vmem S1024x1024 .bf16) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x256x1024 .bf16) (harg7 : arg7.IsWhole) (arg8 : Memref sig .tc .vmem S1024x1024 .bf16) (harg8 : arg8.IsWhole)
    (T0 : S439.Idx → BitVec 32) (T1 : S1.Idx → BitVec 32) (T2 : S439.Idx → BitVec 32)
    (x0 : S1024x1024.Idx → Elt Ideal .bf16) (x1 : S1x1024x256.Idx → Elt Ideal .bf16) (x2 : S1x1024x256.Idx → Elt Ideal .bf16) (x3 : S1x256x1024.Idx → Elt Ideal .bf16)
    (h1 : k0_cond1 i (View.readAt (Elt Ideal) (tbM0_1).view (Rect.unit (s := S1) ![0] S1.size inb_S1_S1_0).toLoadRect T1 (Shape.Idx.first (numel1_S1.symm ▸ Nat.one_pos))) = 1#1) :
    out0_A_4 (F := Ideal) c i arg4 harg4 arg5 harg5 arg6 harg6 arg7 harg7 arg8 harg8 T0 T1 T2 x0 x1 x2 x3 h1
      = k0_pay1 x0 (T2 (ix1 (i 0))) x1 x2 x3 := by
  unfold out0_A_4 kernelRun0_A
  unfold kernelRun0_A.sl.HO4_1
  have hr : kernelRun0_A.sl.r_1 (F := Ideal) i T2 = T2 (ix1 (i 0)) := by
    unfold kernelRun0_A.sl.r_1
    refine congrArg T2 ?_
    funext a
    fin_cases a
    refine Fin.ext ?_
    have hi : (i 0).val < 439 := (i 0).isLt
    show k0_off2 i 0 + 1 * 0 = (i 0).val
    show (BitVec.ofNat 32 (i 0).val).toNat + 1 * 0 = (i 0).val
    rw [BitVec.toNat_ofNat]
    omega
  have e0 : View.readAt (Elt Ideal) arg4.view (Rect.unit (s := S1024x1024) ![0, 0] S1024x1024.size inb_S1024x1024_S1024x1024_0_0).toLoadRect (arg4.view.rep x0) = x0 :=
    View.readAt_rep_full _ _ _
  have e1 : View.readAt (Elt Ideal) arg5.view (Rect.unit (s := S1x1024x256) ![0, 0, 0] S1x1024x256.size inb_S1x1024x256_S1x1024x256_0_0_0).toLoadRect (arg5.view.rep x1) = x1 :=
    View.readAt_rep_full _ _ _
  have e2 : View.readAt (Elt Ideal) arg6.view (Rect.unit (s := S1x1024x256) ![0, 0, 0] S1x1024x256.size inb_S1x1024x256_S1x1024x256_0_0_0).toLoadRect (arg6.view.rep x2) = x2 :=
    View.readAt_rep_full _ _ _
  have e3 : View.readAt (Elt Ideal) arg7.view (Rect.unit (s := S1x256x1024) ![0, 0, 0] S1x256x1024.size inb_S1x256x1024_S1x256x1024_0_0_0).toLoadRect (arg7.view.rep x3) = x3 :=
    View.readAt_rep_full _ _ _
  funext y
  have he : (Rect.unit (s := S1024x1024) ![0, 0] S1024x1024.size inb_S1024x1024_S1024x1024_0_0).emb y = y := by
    funext a
    refine Fin.ext ?_
    fin_cases a
    · show 0 + 1 * (y 0).val = (y 0).val; omega
    · show 0 + 1 * (y 1).val = (y 1).val; omega
  refine (congrArg _ he.symm).trans ((View.read_writes_cons_emb (Val := Elt Ideal) VO0_4 VO0_4.junk
    (Rect.unit (s := S1024x1024) ![0, 0] S1024x1024.size inb_S1024x1024_S1024x1024_0_0) _ [] y).trans ?_)
  exact congrFun (pay_congr e0 hr e1 e2 e3) y

/-- A selection by "this row is below the count", as a condition on the integers. -/
theorem select_slt {α : Type} (x : ℕ) (hx : x < 2 ^ 31) (n : BitVec 32) (a b : α) :
    Scalar.select (IntOp.cmpi .slt (BitVec.ofNat 32 x) n) a b = if (x : ℤ) < n.toInt then a else b := by
  have h : (BitVec.ofNat 32 x).toInt = (x : ℤ) := by
    have hn : (BitVec.ofNat 32 x).toNat = x := by rw [BitVec.toNat_ofNat]; omega
    rw [BitVec.toInt_eq_toNat_of_lt (by rw [hn]; omega), hn]
  unfold Scalar.select IntOp.cmpi
  simp only [BitVec.slt, h]
  by_cases hc : (x : ℤ) < n.toInt <;> simp [hc]

/-- One row through an expert: the gate and the up projection of the row `h`, the gate through SiLU, their product
    projected down to lane `d`. -/
def expertRow (h : Fin 1024 → EReal) (wg wu : Fin 1024 → Fin 256 → EReal) (wd : Fin 256 → EReal) : EReal :=
  ∑ f : Fin 256, ((∑ k : Fin 1024, h k * wg k f) * Ideal.logistic (∑ k : Fin 1024, h k * wg k f)
      * (∑ k : Fin 1024, h k * wu k f)) * wd f

/-- The same, at equal operands. -/
theorem expertRow_congr {h h' : Fin 1024 → EReal} {wg wg' wu wu' : Fin 1024 → Fin 256 → EReal} {wd wd' : Fin 256 → EReal}
    (e : ∀ k, h k = h' k) (eg : ∀ k f, wg k f = wg' k f) (eu : ∀ k f, wu k f = wu' k f) (ed : ∀ f, wd f = wd' f) :
    expertRow h wg wu wd = expertRow h' wg' wu' wd' := by
  obtain rfl := funext e
  obtain rfl := funext fun k => funext (eg k)
  obtain rfl := funext fun k => funext (eu k)
  obtain rfl := funext ed
  rfl

/-- The body's result at a row and a lane: the row through the expert, a row past the count taken as zero. -/
theorem pay_apply (x : Vec Ideal S1024x1024 .bf16) (v : Elt Ideal .i32) (g u : Vec Ideal S1x1024x256 .bf16)
    (w : Vec Ideal S1x256x1024 .bf16) (r d : Fin 1024) :
    k0_pay1 (F := Ideal) x v g u w (ix2 r d)
      = expertRow (fun k => if (r.val : ℤ) < BitVec.toInt v then x (ix2 r k) else 0)
          (fun k f => g (ix3 0 k f)) (fun k f => u (ix3 0 k f)) (fun f => w (ix3 0 f d)) := by
  unfold k0_pay1 expertRow
  pointwise
  simp only [select_slt _ (show r.val < 2 ^ 31 by omega), ite_mul, zero_mul]

end Cert.Experts
end
-- ==== Proof.ExpertsArray.lean ====
/-  The result array of the experts' call, from the arrays and tables it is launched on. -/
module

public import proofs.«01_k».proof.Proof.ExpertsBlock

@[expose] public section

set_option maxRecDepth 16384

noncomputable section

namespace Cert.Experts

open Cert.Kernel2Ideal Cert.Kernel2Ideal.Gen Idealize.ShloMosaic Idealize.ShloMosaic.TcCoe Idealize.SL.Sem

variable (T : Tabs) (m : (ℓ : Loc nD τ sig) → Buf (Elt Ideal) ℓ) (ρ : Dev nD → PrngReg) (c : Dev nD)

theorem lt_points (t : Fin (cfgA (F := Ideal) T).N) : t.val < 439 := lt_of_lt_of_eq t.isLt N_0

/-- Two points that write back write to different tiles. -/
theorem tiles_disjoint : ∀ t t' : Fin (cfgA (F := Ideal) T).N, ((cfgA (F := Ideal) T).win (4 : Fin 5)).flush t = true →
    ((cfgA (F := Ideal) T).win (4 : Fin 5)).flush t' = true → t ≠ t' →
    Disjoint (((cfgA (F := Ideal) T).win (4 : Fin 5)).blk t).view.set (((cfgA (F := Ideal) T).win (4 : Fin 5)).blk t').view.set := by
  intro t t' h h' hne
  refine ((cfgA (F := Ideal) T).win (4 : Fin 5)).disjoint_blk fun e => hne (Fin.ext ?_)
  rw [flush4, decide_eq_true_eq] at h h'
  have h3 : min t.val (T.n - 1) = min t'.val (T.n - 1) := congrFun ((index4 T t).symm.trans (e.trans (index4 T t'))) 0
  have := lt_points T t
  have := lt_points T t'
  have := T.n_pos
  have := T.n_le
  omega

/-- Past the tiles in use the buffer holds the last tile. -/
theorem traj_past (k : ℕ) : ∀ (h : T.n - 1 + k < (cfgA (F := Ideal) T).N) (h' : T.n - 1 < (cfgA (F := Ideal) T).N),
    traj0 T m ρ c (T.n - 1 + k) h = traj0 T m ρ c (T.n - 1) h' := by
  induction k with
  | zero => intro h h'; rfl
  | succ k ih =>
    intro h h'
    have hn := T.n_pos
    have e := traj0_eq T m ρ c ⟨T.n - 1 + (k + 1), h⟩
    have hq : ¬ P0_0 (F := Ideal) T ⟨T.n - 1 + (k + 1), h⟩ := by rw [P0_iff]; show ¬ (T.n - 1 + (k + 1) < T.n); omega
    rw [step0_B T m ρ c _ _ hq, (sched0_B T _ hq).2] at e
    refine e.trans ?_
    rw [if_neg (by decide)]
    unfold prev0
    rw [dif_neg (by show ¬ (T.n - 1 + (k + 1) = 0); omega)]
    exact ih (by omega) h'

/-- What a point in use leaves: the body's result at its blocks. -/
theorem traj_use (t : Fin (cfgA (F := Ideal) T).N) (h : t.val < T.n) :
    traj0 T m ρ c t.val t.isLt
      = k0_pay1 (F := Ideal) (iblk T m ρ c (0 : Fin 5) t) (T.vd (ix1 (grid0.coords t 0)))
          (iblk T m ρ c (1 : Fin 5) t) (iblk T m ρ c (2 : Fin 5) t) (iblk T m ρ c (3 : Fin 5) t) := by
  have hq : P0_0 (F := Ideal) T t := (P0_iff T t).2 h
  rw [traj0_eq, step0_A T m ρ c t _ hq]
  exact out_eq c _ _ _ _ _ _ _ _ _ _ _ _ _ _ _ _ _ _ hq

/-- The tile `b` is written back by a point that holds what point `b` computed. -/
theorem tile_written (b : Fin (cfgA (F := Ideal) T).N) (hb : b.val < T.n) :
    ∃ t : Fin (cfgA (F := Ideal) T).N, ((cfgA (F := Ideal) T).win (4 : Fin 5)).flush t = true
      ∧ ((cfgA (F := Ideal) T).win (4 : Fin 5)).index t = ![b.val, 0]
      ∧ traj0 T m ρ c t.val t.isLt = traj0 T m ρ c b.val b.isLt := by
  have hl := T.n_le
  have hN : (cfgA (F := Ideal) T).N = 439 := N_0
  by_cases h : b.val + 1 < T.n
  · refine ⟨b, ?_, ?_, rfl⟩
    · rw [flush4, decide_eq_true_eq]; exact .inr h
    · rw [index4, show min b.val (T.n - 1) = b.val by omega]
  · have e : b.val = T.n - 1 := by omega
    refine ⟨⟨T.n - 1 + (439 - T.n), by omega⟩, ?_, ?_, ?_⟩
    · rw [flush4, decide_eq_true_eq]; left; show T.n - 1 + (439 - T.n) + 1 = 439; omega
    · rw [index4]; show ![min (T.n - 1 + (439 - T.n)) (T.n - 1), 0] = _
      rw [show min (T.n - 1 + (439 - T.n)) (T.n - 1) = b.val by omega]
    · refine (traj_past T m ρ c _ _ (by omega)).trans ?_
      congr 1
      exact e.symm

/-- Where each window's block lies at a point. -/
theorem index0 (t : Fin (cfgA (F := Ideal) T).N) : ((cfgA (F := Ideal) T).win (0 : Fin 5)).index t = ![min t.val (T.n - 1), 0] := by
  show cc0_transform_0 inb_S1_S1_0 numel1_S1 (pfN (F := Ideal) T) (grid0.coords t) = _
  rw [map0, crd_val]
theorem index1 (t : Fin (cfgA (F := Ideal) T).N) : ((cfgA (F := Ideal) T).win (1 : Fin 5)).index t = ![T.ex (grid0.coords t 0), 0, 0] :=
  map1 T _
theorem index2 (t : Fin (cfgA (F := Ideal) T).N) : ((cfgA (F := Ideal) T).win (2 : Fin 5)).index t = ![T.ex (grid0.coords t 0), 0, 0] :=
  map2 T _
theorem index3 (t : Fin (cfgA (F := Ideal) T).N) : ((cfgA (F := Ideal) T).win (3 : Fin 5)).index t = ![T.ex (grid0.coords t 0), 0, 0] :=
  map3 T _

/-- The rows' block read from its array. -/
theorem readX (t : Fin (cfgA (F := Ideal) T).N) (b : Fin 439) (hb : t.val = b.val) (h : t.val < T.n) (r k : Fin 1024) :
    iblk T m ρ c (0 : Fin 5) t (ix2 r k) = m ((c : Thread nD τ).loc main_arg3) (ix2 ⟨1024 * b.val + r.val, by omega⟩ k) := by
  have e := index0 T t
  rw [show min t.val (T.n - 1) = b.val by omega] at e
  blk_ext [iblk, e]

theorem readG (t : Fin (cfgA (F := Ideal) T).N) (k : Fin 1024) (f : Fin 256) :
    iblk T m ρ c (1 : Fin 5) t (ix3 0 k f) = m ((c : Thread nD τ).loc main_arg4) (ix3 ⟨T.ex (grid0.coords t 0), T.ex_lt _⟩ k f) := by
  blk_ext [iblk, index1 T t]

theorem readU (t : Fin (cfgA (F := Ideal) T).N) (k : Fin 1024) (f : Fin 256) :
    iblk T m ρ c (2 : Fin 5) t (ix3 0 k f) = m ((c : Thread nD τ).loc main_arg5) (ix3 ⟨T.ex (grid0.coords t 0), T.ex_lt _⟩ k f) := by
  blk_ext [iblk, index2 T t]

theorem readD (t : Fin (cfgA (F := Ideal) T).N) (f : Fin 256) (d : Fin 1024) :
    iblk T m ρ c (3 : Fin 5) t (ix3 0 f d) = m ((c : Thread nD τ).loc main_arg6) (ix3 ⟨T.ex (grid0.coords t 0), T.ex_lt _⟩ f d) := by
  blk_ext [iblk, index3 T t]

/-- A tile written back is the buffer's, whole. -/
theorem cut4 (t : Fin (cfgA (F := Ideal) T).N) (P : S1024x1024.Idx → Elt Ideal .bf16) (r d : Fin 1024) :
    ((cfgA (F := Ideal) T).win (4 : Fin 5)).cut (grid0.coords t) P (ix2 r d) = P (ix2 r d) := by
  refine congrArg P ?_
  funext a
  fin_cases a <;> rfl

/-- The result array read through a tile. -/
theorem read4 (t : Fin (cfgA (F := Ideal) T).N) (b : Fin 439)
    (hi : ((cfgA (F := Ideal) T).win (4 : Fin 5)).index t = ![b.val, 0])
    (A : S455680x1024.Idx → Elt Ideal .bf16) (r d : Fin 1024) :
    (((cfgA (F := Ideal) T).win (4 : Fin 5)).blk t).view.read (Elt Ideal) A (ix2 r d) = A (ix2 ⟨1024 * b.val + r.val, by omega⟩ d) := by
  blk_ext [hi]

/-- The result array at row `r` of tile `b`, lane `d`. -/
theorem array_apply (b : Fin 439) (hb : b.val < T.n) (r d : Fin 1024) :
    (dats T m ρ 0 c).arrAt (4 : Fin 5) (cfgA (F := Ideal) T).N (ix2 ⟨1024 * b.val + r.val, by omega⟩ d)
      = expertRow (fun k => if (r.val : ℤ) < (T.vd (ix1 b)).toInt then
            m ((c : Thread nD τ).loc main_arg3) (ix2 ⟨1024 * b.val + r.val, by omega⟩ k) else 0)
          (fun k f => m ((c : Thread nD τ).loc main_arg4) (ix3 ⟨T.ex b, T.ex_lt _⟩ k f))
          (fun k f => m ((c : Thread nD τ).loc main_arg5) (ix3 ⟨T.ex b, T.ex_lt _⟩ k f))
          (fun f => m ((c : Thread nD τ).loc main_arg6) (ix3 ⟨T.ex b, T.ex_lt _⟩ f d)) := by
  have hN : (cfgA (F := Ideal) T).N = 439 := N_0
  obtain ⟨tb, htb⟩ : ∃ tb : Fin (cfgA (F := Ideal) T).N, tb.val = b.val := ⟨⟨b.val, by omega⟩, rfl⟩
  have hc : grid0.coords tb 0 = b := Fin.ext ((crd_val tb).trans htb)
  obtain ⟨t, hf, hi, he⟩ := tile_written T m ρ c tb (by omega)
  have h := congrFun ((dats T m ρ 0 c).read_blk_arrAt_eq_flushed (4 : Fin 5) (tiles_disjoint T) (cfgA (F := Ideal) T).N t t.isLt hf) (ix2 r d)
  have hfl : (dats T m ρ 0 c).flushed (4 : Fin 5) t
      = ((cfgA (F := Ideal) T).win (4 : Fin 5)).cut (grid0.coords t) (traj0 T m ρ c t.val t.isLt) := rfl
  obtain ⟨P, hP⟩ : ∃ P, P = traj0 T m ρ c t.val t.isLt := ⟨_, rfl⟩
  rw [hfl, ← hP] at h
  rw [he, traj_use T m ρ c tb (by omega), hc] at hP
  rw [htb] at hi
  refine (read4 T t b hi _ r d).symm.trans (h.trans ((cut4 T t P r d).trans ?_))
  rw [hP]
  refine (pay_apply _ _ _ _ _ r d).trans ?_
  refine expertRow_congr (fun k => ?_) (fun k f => ?_) (fun k f => ?_) (fun f => ?_)
  · rw [readX T m ρ c tb b htb (by omega) r k]
  · refine (readG T m ρ c tb k f).trans ?_
    simp only [hc]
  · refine (readU T m ρ c tb k f).trans ?_
    simp only [hc]
  · refine (readD T m ρ c tb f d).trans ?_
    simp only [hc]

end Cert.Experts
end
-- ==== Proof.ExpertsReference.lean ====
/-  The plain routed experts, read at an index. -/
module

public import proofs.«01_k».proof.Proof.Gen.Reference2Ideal.Run
public import Idealize.ShloMosaic.Lib.Pointwise
public import Idealize.ShloMosaic.Lib.IdealHost
public import Idealize.ShloMosaic.Lib.KernelVsHost
public import Idealize.ShloMosaic.Lib.StableHlo.Predicate
public import proofs.«01_k».proof.Proof.ExpertsBlock

@[expose] public section

set_option maxRecDepth 16384

noncomputable section

namespace Cert.Experts.Ref

open Cert.Reference2Ideal Cert.Reference2Ideal.Gen Idealize.ShloMosaic Idealize.ShloMosaic.TcCoe Idealize.SL.Sem

/-- Every row through one of the two up projections of every expert. -/
def refUp (x : FVec Ideal S455680x1024 .bf16) (w : FVec Ideal S64x1024x256 .bf16) : FVec Ideal S449536x64x256 .f32 :=
  Host.dotGeneral dot_S449536x1024_S64x1024x256_S449536x64x256_1_1_0_02_n_n none (extf .f32 (extractStridedSlice S449536x1024 ![0, 0] x slices_S455680x1024_S449536x1024_0_0) bitsLt_bf16_f32) (extf .f32 w bitsLt_bf16_f32)

/-- SiLU. -/
def refSilu (g : FVec Ideal S449536x64x256 .f32) : FVec Ideal S449536x64x256 .f32 :=
  mulf g (Host.divf (broadcastInDim S449536x64x256 ![] bcast_S_S449536x64x256 (constant S_ .f32 0x3F800000#32)) (addf (broadcastInDim S449536x64x256 ![] bcast_S_S449536x64x256 (constant S_ .f32 0x3F800000#32)) (Host.exp (Host.negf g))))

/-- A word of each tile, at each of its rows. -/
def refRow (t : IVec S439 32) : IVec S449536 32 :=
  shapeCast _ (broadcastInDim S439x1024 ![0, 1] bcast_S439x1_S439x1024_0_1 (broadcastInDim S439x1 ![0] bcast_S439_S439x1_0 t)) shapeCasts_S439x1024_S449536

/-- Each row's place in its tile. -/
def refPlace : IVec S449536 32 :=
  shapeCast _ (broadcastInDim S439x1024 ![0, 1] bcast_S1x1024_S439x1024_0_1 (broadcastInDim S1x1024 ![1] bcast_S1024_S1x1024_1 (iotaInDim S1024 32 0))) shapeCasts_S439x1024_S449536

/-- Whether a row is an expert's, and in use. -/
def refHere (te vd : IVec S439 32) : IVec S449536x64 1 :=
  andi (cmpi .eq (broadcastInDim S449536x64 ![0, 1] bcast_S449536x1_S449536x64_0_1 (broadcastInDim S449536x1 ![0] bcast_S449536_S449536x1_0 (refRow te))) (broadcastInDim S449536x64 ![0, 1] bcast_S1x64_S449536x64_0_1 (broadcastInDim S1x64 ![1] bcast_S64_S1x64_1 (iotaInDim S64 32 0)))) (broadcastInDim S449536x64 ![0, 1] bcast_S449536x1_S449536x64_0_1 (broadcastInDim S449536x1 ![0] bcast_S449536_S449536x1_0 (cmpi .slt refPlace (refRow vd))))

/-- The weight of each expert in each row: one or zero. -/
def refCombine (te vd : IVec S439 32) : FVec Ideal S449536x64 .f32 :=
  select (refHere te vd) (broadcastInDim S449536x64 ![] bcast_S_S449536x64 (constant S_ .f32 0x3F800000#32)) (broadcastInDim S449536x64 ![] bcast_S_S449536x64 (constant S_ .f32 0x00000000#32))

/-- The experts' weighted activations. -/
def refAct (te vd : IVec S439 32) (x : FVec Ideal S455680x1024 .bf16) (g u : FVec Ideal S64x1024x256 .bf16) : FVec Ideal S449536x64x256 .f32 :=
  mulf (mulf (refSilu (refUp x g)) (refUp x u)) (broadcastInDim S449536x64x256 ![0, 1, 2] bcast_S449536x64x1_S449536x64x256_0_1_2 (id (broadcastInDim S449536x64x1 ![0, 1] bcast_S449536x64_S449536x64x1_0_1 (refCombine te vd))))

/-- The result. -/
def refOut (te vd : IVec S439 32) (x : FVec Ideal S455680x1024 .bf16) (g u : FVec Ideal S64x1024x256 .bf16) (w : FVec Ideal S64x256x1024 .bf16) : FVec Ideal S455680x1024 .bf16 :=
  truncf .bf16 (pad S455680x1024 ![0, 0] ![6144, 0] ![0, 0] (Host.dotGeneral dot_S449536x64x256_S64x256x1024_S449536x1024_12_01_0_2_n_n none (refAct te vd x g u) (extf .f32 w bitsLt_bf16_f32)) (sitofp .f32 (constantI S_ 32 0#32)) pads_S449536x1024_S455680x1024_061440_000 h_S_) bitsLt_bf16_f32

theorem refUp_apply (x : FVec Ideal S455680x1024 .bf16) (w : FVec Ideal S64x1024x256 .bf16) (n : Fin 449536) (e : Fin 64) (f : Fin 256) :
    refUp x w (ix3 n e f) = ∑ k : Fin 1024, x (ix2 ⟨n.val, by omega⟩ k) * w (ix3 e k f) := by
  unfold refUp
  pointwise

theorem refSilu_apply (g : FVec Ideal S449536x64x256 .f32) (i : S449536x64x256.Idx) :
    refSilu g i = g i * Ideal.logistic (g i) := by
  unfold refSilu
  pointwise
  rfl

theorem refRow_apply (t : IVec S439 32) (b : Fin 439) (r : Fin 1024) :
    refRow t (ix1 ⟨1024 * b.val + r.val, by omega⟩) = t (ix1 b) := by
  unfold refRow
  pointwise

theorem refPlace_apply (b : Fin 439) (r : Fin 1024) :
    refPlace (ix1 ⟨1024 * b.val + r.val, by omega⟩) = BitVec.ofNat 32 r.val := by
  unfold refPlace
  pointwise

theorem refHere_apply (te vd : IVec S439 32) (n : Fin 449536) (e : Fin 64) :
    refHere te vd (ix2 n e) = IntOp.andi (IntOp.cmpi .eq (refRow te (ix1 n)) (BitVec.ofNat 32 e.val)) (IntOp.cmpi .slt (refPlace (ix1 n)) (refRow vd (ix1 n))) := by
  unfold refHere
  pointwise

theorem refCombine_apply (te vd : IVec S439 32) (i : S449536x64.Idx) :
    refCombine te vd i = Scalar.select (refHere te vd i) (1 : EReal) 0 := by
  unfold refCombine
  pointwise

theorem refAct_apply (te vd : IVec S439 32) (x : FVec Ideal S455680x1024 .bf16) (g u : FVec Ideal S64x1024x256 .bf16) (n : Fin 449536) (e : Fin 64) (f : Fin 256) :
    refAct te vd x g u (ix3 n e f)
      = refUp x g (ix3 n e f) * Ideal.logistic (refUp x g (ix3 n e f)) * refUp x u (ix3 n e f) * refCombine te vd (ix2 n e) := by
  unfold refAct
  dsimp only [id]
  pointwise
  rw [refSilu_apply]

theorem refOut_sum (te vd : IVec S439 32) (x : FVec Ideal S455680x1024 .bf16) (g u : FVec Ideal S64x1024x256 .bf16) (w : FVec Ideal S64x256x1024 .bf16)
    (n : Fin 449536) (d : Fin 1024) :
    refOut te vd x g u w (ix2 ⟨n.val, by omega⟩ d)
      = ∑ e : Fin 64, ∑ f : Fin 256, refAct te vd x g u (ix3 n e f) * w (ix3 e f d) := by
  unfold refOut
  pointwise

/-- The weight of expert `e` at row `r` of tile `b`. -/
theorem combine_row (te vd : IVec S439 32) (b : Fin 439) (r : Fin 1024) (e : Fin 64) :
    refCombine te vd (ix2 ⟨1024 * b.val + r.val, by omega⟩ e)
      = if (te (ix1 b)).toNat = e.val ∧ (r.val : ℤ) < (vd (ix1 b)).toInt then 1 else 0 := by
  rw [refCombine_apply, refHere_apply, refRow_apply, refRow_apply, refPlace_apply]
  have h1 : IntOp.cmpi .eq (te (ix1 b)) (BitVec.ofNat 32 e.val) = BitVec.ofBool (decide ((te (ix1 b)).toNat = e.val)) := by
    show BitVec.ofBool (te (ix1 b) == BitVec.ofNat 32 e.val) = _
    congr 1
    rw [Bool.eq_iff_iff, beq_iff_eq, decide_eq_true_eq, ← BitVec.toNat_inj, BitVec.toNat_ofNat, Nat.mod_eq_of_lt (by omega)]
  have h2 : IntOp.cmpi .slt (BitVec.ofNat 32 r.val) (vd (ix1 b)) = BitVec.ofBool (decide ((r.val : ℤ) < (vd (ix1 b)).toInt)) := by
    have hn : (BitVec.ofNat 32 r.val).toNat = r.val := by rw [BitVec.toNat_ofNat]; omega
    show BitVec.ofBool (decide ((BitVec.ofNat 32 r.val).toInt < (vd (ix1 b)).toInt)) = _
    rw [BitVec.toInt_eq_toNat_of_lt (by rw [hn]; omega), hn]
  rw [h1, h2]
  by_cases p : (te (ix1 b)).toNat = e.val <;> by_cases q : (r.val : ℤ) < (vd (ix1 b)).toInt <;>
    simp [p, q, Scalar.select, IntOp.andi]

/-- The reference at row `r` of tile `b`: the row through the tile's expert, zero past the tile's count. -/
theorem refOut_apply (te vd : IVec S439 32) (x : FVec Ideal S455680x1024 .bf16) (g u : FVec Ideal S64x1024x256 .bf16) (w : FVec Ideal S64x256x1024 .bf16)
    (b : Fin 439) (r d : Fin 1024) (ht : (te (ix1 b)).toNat < 64) :
    refOut te vd x g u w (ix2 ⟨1024 * b.val + r.val, by omega⟩ d)
      = expertRow (fun k => if (r.val : ℤ) < (vd (ix1 b)).toInt then x (ix2 ⟨1024 * b.val + r.val, by omega⟩ k) else 0)
          (fun k f => g (ix3 ⟨(te (ix1 b)).toNat, ht⟩ k f)) (fun k f => u (ix3 ⟨(te (ix1 b)).toNat, ht⟩ k f))
          (fun f => w (ix3 ⟨(te (ix1 b)).toNat, ht⟩ f d)) := by
  have hs := refOut_sum te vd x g u w ⟨1024 * b.val + r.val, by omega⟩ d
  refine hs.trans ?_
  simp only [refAct_apply, refUp_apply, combine_row]
  by_cases q : (r.val : ℤ) < (vd (ix1 b)).toInt
  · rw [Finset.sum_eq_single (⟨(te (ix1 b)).toNat, ht⟩ : Fin 64)]
    · simp only [q, and_true, if_true, mul_one]
      rfl
    · intro e _ he
      refine Finset.sum_eq_zero fun f _ => ?_
      rw [if_neg (fun h => he (Fin.ext h.1.symm)), mul_zero, zero_mul]
    · intro h; exact absurd (Finset.mem_univ _) h
  · unfold expertRow
    simp only [q, and_false, if_false, mul_zero, zero_mul, Finset.sum_const_zero]

end Cert.Experts.Ref
end
-- ==== Proof.SameProgram.lean ====
/-  The experts' call as printed and its idealization are one program (nothing was rewritten), so one frame
    serves both. -/
module

public import proofs.«01_k».proof.Proof.ExpertsRun
public import proofs.«01_k».proof.Proof.Gen.Kernel2

@[expose] public section

set_option maxRecDepth 16384
set_option backward.isDefEq.respectTransparency false
set_option backward.isDefEq.respectTransparency.types false

noncomputable section

namespace Cert.Experts

open Idealize.ShloMosaic Idealize.ShloMosaic.TcCoe

theorem body_same : Cert.Kernel2.cc0_moe_ffn (F := Bits) = Cert.Kernel2Ideal.cc0_moe_ffn (F := Bits) := rfl

theorem bodies_same : Cert.Kernel2.defs₀ (F := Bits) = Cert.Kernel2Ideal.defs₀ (F := Bits) := by
  funext pr ℓ a
  cases pr with
  | tc =>
    obtain ⟨n, hn⟩ := ℓ
    cases n with
    | zero =>
      obtain ⟨t, s⟩ := a
      rfl
    | succ n => exact absurd hn (Nat.not_lt.2 (Nat.le_add_left _ _))
  | scScalar _ => rfl
  | scVector _ _ => rfl

theorem defs_same : Cert.Kernel2.defs (F := Bits) = Cert.Kernel2Ideal.defs (F := Bits) :=
  congrArg (Pipeline.defs (Cert.Kernel2Ideal.pcfgs (F := Bits))) bodies_same

theorem main_same : Cert.Kernel2.main (F := Bits) = Cert.Kernel2Ideal.main (F := Bits) := rfl

/-- The frame of the call as printed. -/
theorem frame_printed (T : Tabs) (m : (ℓ : Loc Cert.Kernel2.nD Cert.Kernel2.τ Cert.Kernel2.sig) → Buf (Elt Bits) ℓ) (g : Dev Cert.Kernel2.nD → PrngReg)
    (hp : Pinned (F := Bits) T m) :
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0) := by
  have h := frame (F := Bits) T m g hp
  rw [← defs_same, ← main_same] at h
  exact h

end Cert.Experts
end
-- ==== Proof.ExpertsResult.lean ====
/-  The precondition and the mask of the experts' claim read as facts of the tables, and the result array against
    the plain experts. -/
module

public import proofs.«01_k».proof.Defs
public import proofs.«01_k».proof.Proof.Gen.Pre_tables
public import proofs.«01_k».proof.Proof.Gen.On_active
public import Idealize.ShloMosaic.Lib.ReduceAll
public import proofs.«01_k».proof.Proof.ExpertsArray
public import proofs.«01_k».proof.Proof.ExpertsReference
public import proofs.«01_k».proof.Proof.SameProgram

@[expose] public section

set_option maxRecDepth 16384

noncomputable section

namespace Cert.Experts

open Idealize.ShloMosaic Idealize.SL.Sem Idealize.ShloMosaic.TcCoe

/-- A conjunction of two bits is one when both are. -/
theorem and_bits : ∀ a b : BitVec 1, IntOp.andi a b = 1#1 → a = 1#1 ∧ b = 1#1 := by decide

theorem ofBool_one : ∀ b : Bool, BitVec.ofBool b = 1#1 → b = true := by decide

/-- A word that is at least a small number, signed, and not above another, read unsigned. -/
theorem word_ge (x y : BitVec 32) (hy : y.toNat < 2 ^ 31) (h : IntOp.cmpi .sge x y = 1#1) :
    y.toNat ≤ x.toNat ∧ x.toNat < 2 ^ 31 := by
  have h1 : y.toInt ≤ x.toInt := of_decide_eq_true (ofBool_one _ h)
  rw [BitVec.toInt_eq_toNat_cond, BitVec.toInt_eq_toNat_cond] at h1
  have := x.isLt
  split_ifs at h1 <;> omega

theorem word_lt (x y : BitVec 32) (hx : x.toNat < 2 ^ 31) (hy : y.toNat < 2 ^ 31) (h : IntOp.cmpi .slt x y = 1#1) :
    x.toNat < y.toNat := by
  have h1 : x.toInt < y.toInt := of_decide_eq_true (ofBool_one _ h)
  rw [BitVec.toInt_eq_toNat_of_lt (by omega), BitVec.toInt_eq_toNat_of_lt (by omega)] at h1
  omega

theorem word_le (x y : BitVec 32) (hx : x.toNat < 2 ^ 31) (hy : y.toNat < 2 ^ 31) (h : IntOp.cmpi .sle x y = 1#1) :
    x.toNat ≤ y.toNat := by
  have h1 : x.toInt ≤ y.toInt := of_decide_eq_true (ofBool_one _ h)
  rw [BitVec.toInt_eq_toNat_of_lt (by omega), BitVec.toInt_eq_toNat_of_lt (by omega)] at h1
  omega

open Cert.Pre_tables in
/-- What the precondition says of the tables. -/
theorem tabs_of_pre {F : FTy → Type} [FloatOps F] (te : IVec S439 32) (na : IVec S1 32) (vd : IVec S439 32)
    (x : FVec F S455680x1024 .bf16) (g u : FVec F S64x1024x256 .bf16) (w : FVec F S64x256x1024 .bf16)
    (h : Cert.Pre_tables.fn (F := F) te na vd x g u w = fun _ => 1#1) :
    ∃ T : Tabs, T.te = te ∧ T.na = na ∧ T.vd = vd := by
  have e := congrFun h ix0
  dsimp only [Cert.Pre_tables.fn] at e
  obtain ⟨e1, e2⟩ := and_bits _ _ e
  have ht : ∀ j, (te j).toNat < 64 := fun j => by
    obtain ⟨a, b⟩ := and_bits _ _ (Host.reduce_andi_all _ _ _ _ _ e1 j)
    obtain ⟨-, a⟩ := word_ge (te j) 0#32 (by decide) a
    exact word_lt (te j) 64#32 a (by decide) b
  have hn : ∀ j, 1 ≤ (na j).toNat ∧ (na j).toNat ≤ 439 := fun j => by
    obtain ⟨a, b⟩ := and_bits _ _ (Host.reduce_andi_all _ _ _ _ _ e2 j)
    obtain ⟨a1, a⟩ := word_ge (na j) 1#32 (by decide) a
    exact ⟨a1, word_le (na j) 439#32 a (by decide) b⟩
  exact ⟨⟨te, na, vd, ht, fun j => (hn j).1, fun j => (hn j).2⟩, rfl, rfl, rfl⟩

open Cert.On_active in
/-- A row the mask selects lies in a tile in use. -/
theorem active_row {F : FTy → Type} [FloatOps F] (T : Tabs) (te : IVec S439 32) (vd : IVec S439 32)
    (x : FVec F S455680x1024 .bf16) (g u : FVec F S64x1024x256 .bf16) (w : FVec F S64x256x1024 .bf16)
    (n : Fin 455680) (d : Fin 1024)
    (h : Cert.On_active.fn (F := F) te T.na vd x g u w (ix2 n d) = 1#1) : n.val < 1024 * T.n := by
  dsimp only [Cert.On_active.fn] at h
  have h' : IntOp.cmpi .slt (BitVec.ofNat 32 n.val) (IntOp.muli 1024#32 (T.na j0)) = 1#1 := by
    refine Eq.trans ?_ h
    pointwise
  have hl := T.n_le
  have hm : (IntOp.muli 1024#32 (T.na j0)).toNat = 1024 * T.n := by
    show (1024#32 * T.na j0).toNat = _
    rw [BitVec.toNat_mul]
    show 1024 * T.n % 2 ^ 32 = _
    omega
  have ho : (BitVec.ofNat 32 n.val).toNat = n.val := by rw [BitVec.toNat_ofNat]; omega
  have := word_lt _ _ (by rw [ho]; omega) (by rw [hm]; omega) h'
  omega

open Cert.Kernel2Ideal Cert.Kernel2Ideal.Gen in
/-- The precondition pins the tables of the idealized call's launch memory. -/
theorem pinned_of_pre (m : (ℓ : Loc nD τ sig) → Buf (Elt Ideal) ℓ) (h : Cert.Pre_Kernel2Ideal m) :
    ∃ T : Tabs, Pinned (F := Ideal) T m := by
  obtain ⟨T, h0, h1, h2⟩ := tabs_of_pre (F := Ideal) _ _ _ _ _ _ _ (h 0)
  refine ⟨T, fun c => ?_, fun c => ?_, fun c => ?_⟩
  · rw [Subsingleton.elim c 0]; exact h0.symm
  · rw [Subsingleton.elim c 0]; exact h1.symm
  · rw [Subsingleton.elim c 0]; exact h2.symm

open Cert.Kernel2 in
/-- The precondition pins the tables of the printed call's launch memory. -/
theorem pinned_of_pre_printed (m : (ℓ : Loc nD τ sig) → Buf (Elt Bits) ℓ) (h : Cert.Pre_Kernel2 m) :
    ∃ T : Tabs, Pinned (F := Bits) T m := by
  obtain ⟨T, h0, h1, h2⟩ := tabs_of_pre (F := Bits) _ _ _ _ _ _ _ (h 0)
  refine ⟨T, fun c => ?_, fun c => ?_, fun c => ?_⟩
  · rw [Subsingleton.elim c 0]; exact h0.symm
  · rw [Subsingleton.elim c 0]; exact h1.symm
  · rw [Subsingleton.elim c 0]; exact h2.symm

open Cert.Kernel2Ideal Cert.Kernel2Ideal.Gen in
/-- In a row of a tile in use the result array is the plain experts' result. -/
theorem array_eq (T : Tabs) (m : (ℓ : Loc nD τ sig) → Buf (Elt Ideal) ℓ) (ρ : Dev nD → PrngReg) (c : Dev nD)
    (n : Fin 455680) (d : Fin 1024) (hn : n.val < 1024 * T.n) :
    (dats T m ρ 0 c).arrAt (4 : Fin 5) (cfgA (F := Ideal) T).N (ix2 n d)
      = Ref.refOut T.te T.vd (m ((c : Thread nD τ).loc main_arg3)) (m ((c : Thread nD τ).loc main_arg4))
          (m ((c : Thread nD τ).loc main_arg5)) (m ((c : Thread nD τ).loc main_arg6)) (ix2 n d) := by
  have hl := T.n_le
  obtain ⟨b, r, e⟩ : ∃ (b : Fin 439) (r : Fin 1024), n.val = 1024 * b.val + r.val :=
    ⟨⟨n.val / 1024, by omega⟩, ⟨n.val % 1024, by omega⟩, by simp only; omega⟩
  have hlt : 1024 * b.val + r.val < 455680 := by omega
  obtain rfl : n = ⟨1024 * b.val + r.val, hlt⟩ := Fin.ext e
  simp only at hn
  exact (array_apply T m ρ c b (by omega) r d).trans
    (Ref.refOut_apply T.te T.vd _ _ _ _ b r d (T.te_lt _)).symm

open Cert.Kernel2Ideal Cert.Kernel2Ideal.Gen in
/-- The same, at an index the mask selects, over the launch memory's own tables. -/
theorem array_eq_active (T : Tabs) (m : (ℓ : Loc nD τ sig) → Buf (Elt Ideal) ℓ) (ρ : Dev nD → PrngReg) (c : Dev nD)
    (hp : Pinned (F := Ideal) T m) (i : S455680x1024.Idx)
    (hi : Cert.On_active.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) i = 1#1) :
    Ref.refOut (m ((c : Thread nD τ).loc main_arg0)) (m ((c : Thread nD τ).loc main_arg2))
        (m ((c : Thread nD τ).loc main_arg3)) (m ((c : Thread nD τ).loc main_arg4))
        (m ((c : Thread nD τ).loc main_arg5)) (m ((c : Thread nD τ).loc main_arg6)) i
      = (dats T m ρ 0 c).arrAt (4 : Fin 5) (cfgA (F := Ideal) T).N i := by
  have hx : i = ix2 (i 0) (i 1) := by funext a; fin_cases a <;> rfl
  rw [hp.2.1 c] at hi
  rw [hp.1 c, hp.2.2 c, hx]
  rw [hx] at hi
  exact (array_eq T m ρ c (i 0) (i 1) (active_row (F := Ideal) T _ _ _ _ _ _ (i 0) (i 1) hi)).symm

end Cert.Experts
end
-- ==== Proof.DenseRow.lean ====
/-  One row of the dense mixture of experts, as sums over the extended reals. -/
module

public import Idealize.ShloMosaic.Lib.Pointwise
public import Idealize.ShloMosaic.Lib.IdealHost

@[expose] public section

noncomputable section

namespace Cert.Dense

open Idealize.ShloMosaic

/-- Hidden lane `f` of one row `h`: its gate through SiLU, times its up projection. -/
def hidden (h : Fin 1024 → EReal) (wg wu : Fin 1024 → Fin 256 → EReal) (f : Fin 256) : EReal :=
  (∑ k : Fin 1024, h k * wg k f) * Ideal.logistic (∑ k : Fin 1024, h k * wg k f) * (∑ k : Fin 1024, h k * wu k f)

/-- One row through the shared expert, at one lane of the result. -/
def sharedRow (h : Fin 1024 → EReal) (wg wu : Fin 1024 → Fin 256 → EReal) (wd : Fin 256 → EReal) : EReal :=
  ∑ f : Fin 256, hidden h wg wu f * wd f

/-- One row through a routed expert of weight `c`, at one lane of the result. -/
def weightedRow (c : EReal) (h : Fin 1024 → EReal) (wg wu : Fin 1024 → Fin 256 → EReal) (wd : Fin 256 → EReal) : EReal :=
  ∑ f : Fin 256, hidden h wg wu f * c * wd f

/-- The residual, and the gated row. -/
def gated (x gate y : EReal) : EReal := x + gate * y

/-- The shared expert at equal operands. -/
theorem sharedRow_congr {h h' : Fin 1024 → EReal} {wg wg' wu wu' : Fin 1024 → Fin 256 → EReal} {wd wd' : Fin 256 → EReal}
    (e : ∀ k, h k = h' k) (eg : ∀ k f, wg k f = wg' k f) (eu : ∀ k f, wu k f = wu' k f) (ed : ∀ f, wd f = wd' f) :
    sharedRow h wg wu wd = sharedRow h' wg' wu' wd' := by
  obtain rfl := funext e
  obtain rfl := funext fun k => funext (eg k)
  obtain rfl := funext fun k => funext (eu k)
  obtain rfl := funext ed
  rfl

/-- A routed expert at equal operands. -/
theorem weightedRow_congr {c c' : EReal} {h h' : Fin 1024 → EReal} {wg wg' wu wu' : Fin 1024 → Fin 256 → EReal}
    {wd wd' : Fin 256 → EReal} (ec : c = c')
    (e : ∀ k, h k = h' k) (eg : ∀ k f, wg k f = wg' k f) (eu : ∀ k f, wu k f = wu' k f) (ed : ∀ f, wd f = wd' f) :
    weightedRow c h wg wu wd = weightedRow c' h' wg' wu' wd' := by
  obtain rfl := ec
  obtain rfl := funext e
  obtain rfl := funext fun k => funext (eg k)
  obtain rfl := funext fun k => funext (eu k)
  obtain rfl := funext ed
  rfl

end Cert.Dense
end
-- ==== Proof.DenseBlock.lean ====
/-  What the dense mixture of experts' body stores, entry by entry, and the blocks it loads. -/
module

public import proofs.«01_k».proof.Proof.DenseRow
public import proofs.«01_k».proof.Proof.Gen.Kernel3Ideal.Frame
public import Idealize.ShloMosaic.Lib.VecWindow
public import Idealize.ShloMosaic.Lib.Pipeline.ValueKit

@[expose] public section

set_option maxRecDepth 16384

noncomputable section

namespace Cert.Dense

open Cert.Kernel3Ideal Cert.Kernel3Ideal.Gen Idealize.ShloMosaic Idealize.ShloMosaic.TcCoe Idealize.SL.Sem

/-- The shared expert. -/
theorem shared_apply (h : Vec Ideal S1024x1024 .bf16) (wg wu : Vec Ideal S1024x256 .bf16) (wd : Vec Ideal S256x1024 .bf16)
    (r d : Fin 1024) :
    k0_pay2 (F := Ideal) h wg wu wd (ix2 r d)
      = sharedRow (fun k => h (ix2 r k)) (fun k f => wg (ix2 k f)) (fun k f => wu (ix2 k f)) (fun f => wd (ix2 f d)) := by
  unfold k0_pay2 sharedRow hidden
  pointwise

/-- Of a row's weights, all but one replaced by zero, the sum is that one. -/
theorem sum_select (g : Fin 128 → EReal) (e : ℕ) (he : e < 64) :
    (∑ l : Fin 128, Scalar.select (IntOp.cmpi .eq (BitVec.ofNat 32 l.val) (BitVec.ofNat 32 e)) (g l) (0 : EReal)) = g ⟨e, by omega⟩ := by
  have hc : ∀ l : Fin 128, Scalar.select (IntOp.cmpi .eq (BitVec.ofNat 32 l.val) (BitVec.ofNat 32 e)) (g l) (0 : EReal)
      = if l = ⟨e, by omega⟩ then g l else 0 := by
    intro l
    have h1 : IntOp.cmpi .eq (BitVec.ofNat 32 l.val) (BitVec.ofNat 32 e) = BitVec.ofBool (decide (l = ⟨e, by omega⟩)) := by
      show BitVec.ofBool (BitVec.ofNat 32 l.val == BitVec.ofNat 32 e) = _
      congr 1
      rw [Bool.eq_iff_iff, beq_iff_eq, decide_eq_true_eq, ← BitVec.toNat_inj, BitVec.toNat_ofNat, BitVec.toNat_ofNat,
        Nat.mod_eq_of_lt (by omega), Nat.mod_eq_of_lt (by omega), Fin.ext_iff]
    rw [h1]
    by_cases p : l = ⟨e, by omega⟩ <;> simp [p, Scalar.select]
  simp only [hc, Finset.sum_ite_eq', Finset.mem_univ, if_true]

/-- One routed expert, added to the rows so far. -/
theorem add_apply (i : grid0.Coords) (h : Vec Ideal S1024x1024 .bf16) (comb : Vec Ideal S1024x128 .f32)
    (wg wu : Vec Ideal S1x1024x256 .bf16) (acc : Vec Ideal S1024x1024 .f32) (wd : Vec Ideal S1x256x1024 .bf16)
    (hi : (i 2).val < 64) (r d : Fin 1024) :
    k0_pay3 (F := Ideal) i h comb wg wu acc wd (ix2 r d)
      = acc (ix2 r d) + weightedRow (comb (ix2 r ⟨(i 2).val, by omega⟩)) (fun k => h (ix2 r k)) (fun k f => wg (ix3 0 k f))
          (fun k f => wu (ix3 0 k f)) (fun f => wd (ix3 0 f d)) := by
  rw [← sum_select (fun l => comb (ix2 r l)) (i 2).val hi]
  unfold k0_pay3 weightedRow hidden
  pointwise

/-- The residual, and the gated rows. -/
theorem close_apply (x : Vec Ideal S16x64x1024 .f32) (gate : Vec Ideal S16x1x1024 .f32) (acc : Vec Ideal S1024x1024 .f32)
    (b : Fin 16) (s : Fin 64) (d : Fin 1024) :
    k0_pay1 (F := Ideal) x gate acc (ix3 b s d)
      = gated (x (ix3 b s d)) (gate (ix3 b 0 d)) (acc (ix2 ⟨b.val * 64 + s.val, by omega⟩ d)) := by
  unfold k0_pay1 gated
  pointwise

variable (m : (ℓ : Loc nD τ sig) → Buf (Elt Ideal) ℓ) (c : Dev nD)

theorem place (t : Fin cfg0.N) : (grid0.coords t 2).val = t.val := by
  revert t; decide +kernel

theorem index0 : ∀ t : Fin cfg0.N, (cfg0.win (0 : Fin 11)).index t = ![0, 0] := by decide +kernel
theorem index1 : ∀ t : Fin cfg0.N, (cfg0.win (1 : Fin 11)).index t = ![0, 0] := by decide +kernel
theorem index2 : ∀ t : Fin cfg0.N, (cfg0.win (2 : Fin 11)).index t = ![0, 0, 0] := by decide +kernel
theorem index3 : ∀ t : Fin cfg0.N, (cfg0.win (3 : Fin 11)).index t = ![0, 0, 0] := by decide +kernel
theorem index4 : ∀ t : Fin cfg0.N, (cfg0.win (4 : Fin 11)).index t = ![t.val, 0, 0] := by decide +kernel
theorem index5 : ∀ t : Fin cfg0.N, (cfg0.win (5 : Fin 11)).index t = ![t.val, 0, 0] := by decide +kernel
theorem index6 : ∀ t : Fin cfg0.N, (cfg0.win (6 : Fin 11)).index t = ![t.val, 0, 0] := by decide +kernel
theorem index7 : ∀ t : Fin cfg0.N, (cfg0.win (7 : Fin 11)).index t = ![0, 0] := by decide +kernel
theorem index8 : ∀ t : Fin cfg0.N, (cfg0.win (8 : Fin 11)).index t = ![0, 0] := by decide +kernel
theorem index9 : ∀ t : Fin cfg0.N, (cfg0.win (9 : Fin 11)).index t = ![0, 0] := by decide +kernel

theorem readH (t : Fin cfg0.N) (r k : Fin 1024) :
    iblk m c 0 t (ix2 r k) = m ((c : Thread nD τ).loc main_arg0) (ix2 r k) := by
  blk_ext [iblk, index0 t]

theorem readC (t : Fin cfg0.N) (r : Fin 1024) (l : Fin 128) :
    iblk m c 1 t (ix2 r l) = m ((c : Thread nD τ).loc main_arg1) (ix2 r l) := by
  blk_ext [iblk, index1 t]

theorem readX (t : Fin cfg0.N) (b : Fin 16) (s : Fin 64) (d : Fin 1024) :
    iblk m c 2 t (ix3 b s d) = m ((c : Thread nD τ).loc main_arg2) (ix3 b s d) := by
  blk_ext [iblk, index2 t]

theorem readGate (t : Fin cfg0.N) (b : Fin 16) (d : Fin 1024) :
    iblk m c 3 t (ix3 b 0 d) = m ((c : Thread nD τ).loc main_arg3) (ix3 b 0 d) := by
  blk_ext [iblk, index3 t]

theorem readG (t : Fin cfg0.N) (e : Fin 64) (he : t.val = e.val) (k : Fin 1024) (f : Fin 256) :
    iblk m c 4 t (ix3 0 k f) = m ((c : Thread nD τ).loc main_arg4) (ix3 e k f) := by
  have ei := index4 t
  rw [he] at ei
  blk_ext [iblk, ei]

theorem readU (t : Fin cfg0.N) (e : Fin 64) (he : t.val = e.val) (k : Fin 1024) (f : Fin 256) :
    iblk m c 5 t (ix3 0 k f) = m ((c : Thread nD τ).loc main_arg5) (ix3 e k f) := by
  have ei := index5 t
  rw [he] at ei
  blk_ext [iblk, ei]

theorem readD (t : Fin cfg0.N) (e : Fin 64) (he : t.val = e.val) (f : Fin 256) (d : Fin 1024) :
    iblk m c 6 t (ix3 0 f d) = m ((c : Thread nD τ).loc main_arg6) (ix3 e f d) := by
  have ei := index6 t
  rw [he] at ei
  blk_ext [iblk, ei]

theorem readSG (t : Fin cfg0.N) (k : Fin 1024) (f : Fin 256) :
    iblk m c 7 t (ix2 k f) = m ((c : Thread nD τ).loc main_arg7) (ix2 k f) := by
  blk_ext [iblk, index7 t]

theorem readSU (t : Fin cfg0.N) (k : Fin 1024) (f : Fin 256) :
    iblk m c 8 t (ix2 k f) = m ((c : Thread nD τ).loc main_arg8) (ix2 k f) := by
  blk_ext [iblk, index8 t]

theorem readSD (t : Fin cfg0.N) (f : Fin 256) (d : Fin 1024) :
    iblk m c 9 t (ix2 f d) = m ((c : Thread nD τ).loc main_arg9) (ix2 f d) := by
  blk_ext [iblk, index9 t]

/-- Contents put in the scratch whole are read back whole. -/
theorem scratch_read (X : Vec Ideal S1024x1024 .f32) :
    View.read (Elt Ideal) (View.whole cc0_scratch0) ((Memref.isWhole_whole cc0_scratch0).unread (Val := Elt Ideal) X) = X :=
  (Memref.isWhole_whole cc0_scratch0).read_unread X

/-- The first point leaves the shared expert and the first routed one. -/
theorem first_eq (t : Fin cfg0.N) (h0 : t.val % 64 = 0) (h1 : ¬t.val % 64 = 63) :
    (outsAt0 m c t.val t.isLt).2 = k0_pay3 (F := Ideal) (grid0.coords t) (iblk m c 0 t) (iblk m c 1 t) (iblk m c 4 t) (iblk m c 5 t)
      (k0_pay2 (F := Ideal) (iblk m c 0 t) (iblk m c 7 t) (iblk m c 8 t) (iblk m c 9 t)) (iblk m c 6 t) := by
  rw [outsAt0_A m c t h0 h1]; frame_out

/-- A later point adds its routed expert. -/
theorem later_eq (t : Fin cfg0.N) (h0 : ¬t.val % 64 = 0) (h1 : ¬t.val % 64 = 63) :
    (outsAt0 m c t.val t.isLt).2 = k0_pay3 (F := Ideal) (grid0.coords t) (iblk m c 0 t) (iblk m c 1 t) (iblk m c 4 t) (iblk m c 5 t)
      (outsAt0 m c (t.val - 1) (lt_of_le_of_lt (Nat.sub_le _ _) t.isLt)).2 (iblk m c 6 t) := by
  rw [outsAt0_B m c t h0 h1]; frame_out
  rw [scratch_read]

/-- The last point writes the residual and the gated rows. -/
theorem last_eq (t : Fin cfg0.N) (h0 : ¬t.val % 64 = 0) (h1 : t.val % 64 = 63) :
    (outsAt0 m c t.val t.isLt).1 = k0_pay1 (F := Ideal) (iblk m c 2 t) (iblk m c 3 t) (k0_pay3 (F := Ideal) (grid0.coords t) (iblk m c 0 t) (iblk m c 1 t) (iblk m c 4 t) (iblk m c 5 t)
      (outsAt0 m c (t.val - 1) (lt_of_le_of_lt (Nat.sub_le _ _) t.isLt)).2 (iblk m c 6 t)) := by
  rw [outsAt0_C m c t h0 h1]; frame_out
  rw [scratch_read]

end Cert.Dense
end
-- ==== Proof.DenseArray.lean ====
/-  The result array of the dense mixture of experts, entry by entry. -/
module

public import proofs.«01_k».proof.Proof.DenseBlock
public import proofs.«01_k».proof.Proof.Gen.Kernel3Ideal.Value

@[expose] public section

set_option maxRecDepth 16384

noncomputable section

namespace Cert.Dense

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- Row `r` through the shared expert, at lane `d`. -/
def base (r d : Fin 1024) : EReal :=
  sharedRow (fun k => m ((c : Thread nD τ).loc main_arg0) (ix2 r k)) (fun k f => m ((c : Thread nD τ).loc main_arg7) (ix2 k f))
    (fun k f => m ((c : Thread nD τ).loc main_arg8) (ix2 k f)) (fun f => m ((c : Thread nD τ).loc main_arg9) (ix2 f d))

/-- Row `r` through routed expert `e`, at lane `d`. -/
def term (r d : Fin 1024) (e : Fin 64) : EReal :=
  weightedRow (m ((c : Thread nD τ).loc main_arg1) (ix2 r ⟨e.val, by omega⟩))
    (fun k => m ((c : Thread nD τ).loc main_arg0) (ix2 r k)) (fun k f => m ((c : Thread nD τ).loc main_arg4) (ix3 e k f))
    (fun k f => m ((c : Thread nD τ).loc main_arg5) (ix3 e k f)) (fun f => m ((c : Thread nD τ).loc main_arg6) (ix3 e f d))

theorem base_eq (t : Fin cfg0.N) (r d : Fin 1024) :
    k0_pay2 (F := Ideal) (iblk m c 0 t) (iblk m c 7 t) (iblk m c 8 t) (iblk m c 9 t) (ix2 r d) = base m c r d := by
  refine (shared_apply _ _ _ _ r d).trans (sharedRow_congr ?_ ?_ ?_ ?_)
  · exact fun k => readH m c t r k
  · exact fun k f => readSG m c t k f
  · exact fun k f => readSU m c t k f
  · exact fun f => readSD m c t f d

theorem step_eq (t : Fin cfg0.N) (e : Fin 64) (he : t.val = e.val) (acc : Vec Ideal S1024x1024 .f32) (r d : Fin 1024) :
    k0_pay3 (F := Ideal) (grid0.coords t) (iblk m c 0 t) (iblk m c 1 t) (iblk m c 4 t) (iblk m c 5 t) acc (iblk m c 6 t) (ix2 r d)
      = acc (ix2 r d) + term m c r d e := by
  have hp : (grid0.coords t 2).val = e.val := (place t).trans he
  refine (add_apply (grid0.coords t) _ _ _ _ acc _ (by rw [hp]; exact e.isLt) r d).trans ?_
  refine congrArg (acc (ix2 r d) + ·) (weightedRow_congr ?_ ?_ ?_ ?_ ?_)
  · refine (readC m c t r _).trans (congrArg (fun l => m ((c : Thread nD τ).loc main_arg1) (ix2 r l)) (Fin.ext hp))
  · exact fun k => readH m c t r k
  · exact fun k f => readG m c t e he k f
  · exact fun k f => readU m c t e he k f
  · exact fun f => readD m c t e he f d

/-- The rows after point `n`: the shared expert, and the routed experts up to `n`. -/
theorem rows_eq (n : ℕ) (hn : n < cfg0.N) (h : n < 63) (r d : Fin 1024) :
    (outsAt0 m c n hn).2 (ix2 r d) = base m c r d + ∑ e : Fin (n + 1), term m c r d ⟨e.val, by omega⟩ := by
  induction n with
  | zero =>
    rw [first_eq m c ⟨0, hn⟩ rfl (by show ¬(0 % 64 = 63); decide), step_eq m c ⟨0, hn⟩ 0 rfl, base_eq]
    simp
  | succ n ih =>
    have h2 := later_eq m c ⟨n + 1, hn⟩ (by show ¬(n + 1) % 64 = 0; omega) (by show ¬(n + 1) % 64 = 63; omega)
    refine (congrFun h2 (ix2 r d)).trans ?_
    rw [step_eq m c ⟨n + 1, hn⟩ ⟨n + 1, by omega⟩ rfl, Fin.sum_univ_castSucc, ← add_assoc]
    refine congrArg (· + _) ?_
    exact ih (Nat.lt_of_succ_lt hn) (by omega)

/-- The last routed expert, added to those before it. -/
theorem sum_last (g : Fin 64 → EReal) (n : ℕ) (h : n = 62) :
    (∑ e : Fin 64, g e) = (∑ e : Fin (n + 1), g ⟨e.val, by omega⟩) + g 63 := by
  subst h
  exact Fin.sum_univ_castSucc g

/-- What the last point writes. -/
theorem out_eq (k : ℕ) (hk : k < cfg0.N) (h : k = 63) (b : Fin 16) (s : Fin 64) (d : Fin 1024) :
    (outsAt0 m c k hk).1 (ix3 b s d)
      = gated (m ((c : Thread nD τ).loc main_arg2) (ix3 b s d)) (m ((c : Thread nD τ).loc main_arg3) (ix3 b 0 d))
          (base m c ⟨b.val * 64 + s.val, by omega⟩ d + ∑ e : Fin 64, term m c ⟨b.val * 64 + s.val, by omega⟩ d e) := by
  obtain ⟨n, rfl⟩ : ∃ n, k = n + 1 := ⟨62, h⟩
  have hn : n = 62 := by omega
  have h1 := last_eq m c ⟨n + 1, hk⟩ (by show ¬(n + 1) % 64 = 0; omega) (by show (n + 1) % 64 = 63; omega)
  refine (congrFun h1 (ix3 b s d)).trans ?_
  rw [close_apply, readX, readGate, step_eq m c ⟨n + 1, hk⟩ 63 h, sum_last _ n hn, ← add_assoc]
  refine congrArg (gated _ _) (congrArg (· + _) ?_)
  exact rows_eq m c n (Nat.lt_of_succ_lt hk) (by omega) _ d

/-- The result array. -/
theorem array_apply (b : Fin 16) (s : Fin 64) (d : Fin 1024) :
    Value.G10 m c (ix3 b s d)
      = gated (m ((c : Thread nD τ).loc main_arg2) (ix3 b s d)) (m ((c : Thread nD τ).loc main_arg3) (ix3 b 0 d))
          (base m c ⟨b.val * 64 + s.val, by omega⟩ d + ∑ e : Fin 64, term m c ⟨b.val * 64 + s.val, by omega⟩ d e) := by
  have hN : 63 < cfg0.N := lt_of_lt_of_eq (by decide) N_0.symm
  refine (congrFun (Value.G10_last m c) (ix3 b s d)).trans ?_
  rw [← Value.outsAt0_sweep m c 63 hN]
  exact out_eq m c 63 hN rfl b s d

end Cert.Dense
end
-- ==== Proof.DenseReference.lean ====
/-  The reference of the dense mixture of experts, entry by entry. -/
module

public import proofs.«01_k».proof.Proof.DenseRow
public import proofs.«01_k».proof.Proof.Gen.Reference3Ideal.Run

@[expose] public section

set_option maxRecDepth 16384

noncomputable section

namespace Cert.Dense.Ref

open Cert.Reference3Ideal Cert.Reference3Ideal.Gen Idealize.ShloMosaic Idealize.ShloMosaic.TcCoe Idealize.SL.Sem

/-- Every row through one of the two up projections of every routed expert. -/
def refUp (h : FVec Ideal S1024x1024 .bf16) (w : FVec Ideal S64x1024x256 .bf16) : FVec Ideal S1024x64x256 .f32 :=
  Host.dotGeneral dot_S1024x1024_S64x1024x256_S1024x64x256_1_1_0_02_n_n none (extf .f32 h bitsLt_bf16_f32) (extf .f32 w bitsLt_bf16_f32)

/-- SiLU of the routed experts' gates. -/
def refSilu (g : FVec Ideal S1024x64x256 .f32) : FVec Ideal S1024x64x256 .f32 :=
  mulf g (Host.divf (broadcastInDim S1024x64x256 ![] bcast_S_S1024x64x256 (constant S_ .f32 0x3F800000#32)) (addf (broadcastInDim S1024x64x256 ![] bcast_S_S1024x64x256 (constant S_ .f32 0x3F800000#32)) (Host.exp (Host.negf g))))

/-- The routed experts' weighted activations. -/
def refAct (h : FVec Ideal S1024x1024 .bf16) (comb : FVec Ideal S1024x128 .f32) (g u : FVec Ideal S64x1024x256 .bf16) : FVec Ideal S1024x64x256 .f32 :=
  mulf (mulf (refSilu (refUp h g)) (refUp h u)) (broadcastInDim S1024x64x256 ![0, 1, 2] bcast_S1024x64x1_S1024x64x256_0_1_2 (broadcastInDim S1024x64x1 ![0, 1] bcast_S1024x64_S1024x64x1_0_1 (extractStridedSlice S1024x64 ![0, 0] comb slices_S1024x128_S1024x64_0_0)))

/-- The routed experts. -/
def refRouted (h : FVec Ideal S1024x1024 .bf16) (comb : FVec Ideal S1024x128 .f32) (g u : FVec Ideal S64x1024x256 .bf16) (w : FVec Ideal S64x256x1024 .bf16) : FVec Ideal S1024x1024 .f32 :=
  Host.dotGeneral dot_S1024x64x256_S64x256x1024_S1024x1024_12_01_0_2_n_n none (refAct h comb g u) (extf .f32 w bitsLt_bf16_f32)

/-- Every row through one of the two up projections of the shared expert. -/
def sharedUp (h : FVec Ideal S1024x1024 .bf16) (w : FVec Ideal S1024x256 .bf16) : FVec Ideal S1024x256 .f32 :=
  Host.dotGeneral dot_S1024x1024_S1024x256_S1024x256_1_0_0_1_n_n none (extf .f32 h bitsLt_bf16_f32) (extf .f32 w bitsLt_bf16_f32)

/-- SiLU of the shared expert's gate. -/
def sharedSilu (g : FVec Ideal S1024x256 .f32) : FVec Ideal S1024x256 .f32 :=
  mulf g (Host.divf (broadcastInDim S1024x256 ![] bcast_S_S1024x256 (constant S_ .f32 0x3F800000#32)) (addf (broadcastInDim S1024x256 ![] bcast_S_S1024x256 (constant S_ .f32 0x3F800000#32)) (Host.exp (Host.negf g))))

/-- The shared expert. -/
def refShared (h : FVec Ideal S1024x1024 .bf16) (g u : FVec Ideal S1024x256 .bf16) (w : FVec Ideal S256x1024 .bf16) : FVec Ideal S1024x1024 .f32 :=
  Host.dotGeneral dot_S1024x256_S256x1024_S1024x1024_1_0_0_1_n_n none (mulf (sharedSilu (sharedUp h g)) (sharedUp h u)) (extf .f32 w bitsLt_bf16_f32)

/-- The result. -/
def refOut (h : FVec Ideal S1024x1024 .bf16) (comb : FVec Ideal S1024x128 .f32) (x : FVec Ideal S16x64x1024 .f32) (gate : FVec Ideal S16x1x1024 .f32) (wg wu : FVec Ideal S64x1024x256 .bf16) (wd : FVec Ideal S64x256x1024 .bf16) (sg su : FVec Ideal S1024x256 .bf16) (sd : FVec Ideal S256x1024 .bf16) : FVec Ideal S16x64x1024 .f32 :=
  addf x (mulf (broadcastInDim S16x64x1024 ![0, 1, 2] bcast_S16x1x1024_S16x64x1024_0_1_2 gate) (shapeCast _ (addf (refShared h sg su sd) (refRouted h comb wg wu wd)) shapeCasts_S1024x1024_S16x64x1024))

theorem refUp_apply (h : FVec Ideal S1024x1024 .bf16) (w : FVec Ideal S64x1024x256 .bf16) (n : Fin 1024) (e : Fin 64) (f : Fin 256) :
    refUp h w (ix3 n e f) = ∑ k : Fin 1024, h (ix2 n k) * w (ix3 e k f) := by
  unfold refUp
  pointwise

theorem refSilu_apply (g : FVec Ideal S1024x64x256 .f32) (i : S1024x64x256.Idx) :
    refSilu g i = g i * Ideal.logistic (g i) := by
  unfold refSilu
  pointwise
  rfl

theorem refAct_apply (h : FVec Ideal S1024x1024 .bf16) (comb : FVec Ideal S1024x128 .f32) (g u : FVec Ideal S64x1024x256 .bf16) (n : Fin 1024) (e : Fin 64) (f : Fin 256) :
    refAct h comb g u (ix3 n e f)
      = refUp h g (ix3 n e f) * Ideal.logistic (refUp h g (ix3 n e f)) * refUp h u (ix3 n e f) * comb (ix2 n ⟨e.val, by omega⟩) := by
  unfold refAct
  pointwise
  rw [refSilu_apply]

theorem refRouted_sum (h : FVec Ideal S1024x1024 .bf16) (comb : FVec Ideal S1024x128 .f32) (g u : FVec Ideal S64x1024x256 .bf16) (w : FVec Ideal S64x256x1024 .bf16) (n d : Fin 1024) :
    refRouted h comb g u w (ix2 n d) = ∑ e : Fin 64, ∑ f : Fin 256, refAct h comb g u (ix3 n e f) * w (ix3 e f d) := by
  unfold refRouted
  pointwise

/-- Row `n` through the routed experts, each at its weight. -/
theorem refRouted_apply (h : FVec Ideal S1024x1024 .bf16) (comb : FVec Ideal S1024x128 .f32) (g u : FVec Ideal S64x1024x256 .bf16) (w : FVec Ideal S64x256x1024 .bf16) (n d : Fin 1024) :
    refRouted h comb g u w (ix2 n d)
      = ∑ e : Fin 64, weightedRow (comb (ix2 n ⟨e.val, by omega⟩)) (fun k => h (ix2 n k)) (fun k f => g (ix3 e k f))
          (fun k f => u (ix3 e k f)) (fun f => w (ix3 e f d)) := by
  rw [refRouted_sum]
  simp only [refAct_apply, refUp_apply]
  rfl

theorem sharedUp_apply (h : FVec Ideal S1024x1024 .bf16) (w : FVec Ideal S1024x256 .bf16) (n : Fin 1024) (f : Fin 256) :
    sharedUp h w (ix2 n f) = ∑ k : Fin 1024, h (ix2 n k) * w (ix2 k f) := by
  unfold sharedUp
  pointwise

theorem sharedSilu_apply (g : FVec Ideal S1024x256 .f32) (i : S1024x256.Idx) :
    sharedSilu g i = g i * Ideal.logistic (g i) := by
  unfold sharedSilu
  pointwise
  rfl

/-- Row `n` through the shared expert. -/
theorem refShared_apply (h : FVec Ideal S1024x1024 .bf16) (g u : FVec Ideal S1024x256 .bf16) (w : FVec Ideal S256x1024 .bf16) (n d : Fin 1024) :
    refShared h g u w (ix2 n d)
      = sharedRow (fun k => h (ix2 n k)) (fun k f => g (ix2 k f)) (fun k f => u (ix2 k f)) (fun f => w (ix2 f d)) := by
  unfold refShared
  pointwise
  simp only [sharedSilu_apply, sharedUp_apply]
  rfl

/-- The result, from the shared and the routed rows. -/
theorem refOut_rows (h : FVec Ideal S1024x1024 .bf16) (comb : FVec Ideal S1024x128 .f32) (x : FVec Ideal S16x64x1024 .f32) (gate : FVec Ideal S16x1x1024 .f32) (wg wu : FVec Ideal S64x1024x256 .bf16) (wd : FVec Ideal S64x256x1024 .bf16) (sg su : FVec Ideal S1024x256 .bf16) (sd : FVec Ideal S256x1024 .bf16)
    (b : Fin 16) (s : Fin 64) (d : Fin 1024) :
    refOut h comb x gate wg wu wd sg su sd (ix3 b s d)
      = gated (x (ix3 b s d)) (gate (ix3 b 0 d)) (refShared h sg su sd (ix2 ⟨b.val * 64 + s.val, by omega⟩ d)
          + refRouted h comb wg wu wd (ix2 ⟨b.val * 64 + s.val, by omega⟩ d)) := by
  unfold refOut gated
  pointwise

theorem refOut_apply (h : FVec Ideal S1024x1024 .bf16) (comb : FVec Ideal S1024x128 .f32) (x : FVec Ideal S16x64x1024 .f32) (gate : FVec Ideal S16x1x1024 .f32) (wg wu : FVec Ideal S64x1024x256 .bf16) (wd : FVec Ideal S64x256x1024 .bf16) (sg su : FVec Ideal S1024x256 .bf16) (sd : FVec Ideal S256x1024 .bf16)
    (b : Fin 16) (s : Fin 64) (d : Fin 1024) :
    refOut h comb x gate wg wu wd sg su sd (ix3 b s d)
      = gated (x (ix3 b s d)) (gate (ix3 b 0 d))
          (sharedRow (fun k => h (ix2 ⟨b.val * 64 + s.val, by omega⟩ k)) (fun k f => sg (ix2 k f)) (fun k f => su (ix2 k f)) (fun f => sd (ix2 f d))
            + ∑ e : Fin 64, weightedRow (comb (ix2 ⟨b.val * 64 + s.val, by omega⟩ ⟨e.val, by omega⟩))
                (fun k => h (ix2 ⟨b.val * 64 + s.val, by omega⟩ k)) (fun k f => wg (ix3 e k f)) (fun k f => wu (ix3 e k f)) (fun f => wd (ix3 e f d))) := by
  rw [refOut_rows, refShared_apply, refRouted_apply]

end Cert.Dense.Ref
end
-- ==== Proof.DenseResult.lean ====
/-  The dense mixture of experts is its reference. -/
module

public import proofs.«01_k».proof.Proof.Gen.Kernel3.Frame
public import proofs.«01_k».proof.Proof.DenseArray
public import proofs.«01_k».proof.Proof.DenseReference

@[expose] public section

set_option maxRecDepth 16384

noncomputable section

namespace Cert.Dense

open Cert.Kernel3Ideal Cert.Kernel3Ideal.Gen Idealize.ShloMosaic Idealize.ShloMosaic.TcCoe Idealize.SL.Sem

/-- The reference's result on the kernel's arguments is the kernel's result array. -/
theorem array_eq (m : (ℓ : Loc nD τ sig) → Buf (Elt Ideal) ℓ) (c : Dev nD) :
    Ref.refOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9))
      = Value.G10 m c := by
  funext i
  have hx : i = ix3 (i 0) (i 1) (i 2) := by funext a; fin_cases a <;> rfl
  rw [hx]
  refine (Ref.refOut_apply _ _ _ _ _ _ _ _ _ _ (i 0) (i 1) (i 2)).trans ?_
  exact (array_apply m c (i 0) (i 1) (i 2)).symm

end Cert.Dense
end
-- ==== Proof.ProjRun.lean ====
/-  The projections' call: its run over the grid, its frame, what each written array ends with. The rounds' own
    triples are the generated ones; the windows' contents are stated at the point, so that they stay short. -/
module

public import proofs.«01_k».proof.Proof.Gen.Kernel4Ideal.Frame.RunA
public import proofs.«01_k».proof.Proof.Gen.Kernel4Ideal.Frame.RunB
public import Idealize.ShloMosaic.Lib.Pipeline.Quiescent
public import Idealize.ShloMosaic.Lib.Claim

@[expose] public section

set_option maxRecDepth 16384

noncomputable section

namespace Cert.Proj

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The round of a point that is not the last of its sequence. -/
def runA (c : Dev nD) (t : Fin cfg0.N) (h : ¬t.val % 32 = 31) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The round of a sequence's last point, which also stores the band's keys and values. -/
def runB (c : Dev nD) (t : Fin cfg0.N) (h : t.val % 32 = 31) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! The pieces stored into each window tile it. -/
theorem coverA_11 (c : Dev nD) (t : Fin cfg0.N) (h : ¬t.val % 32 = 31) (y : S512x512.Idx) : ∃ pc ∈ (runA m c t h).1, y ∈ pc.1.set :=
  View.cover_of_tiledL (runA m c t h).1 S512x512.size (by sl_kernel_rfl) y
theorem coverA_12 (c : Dev nD) (t : Fin cfg0.N) (h : ¬t.val % 32 = 31) (y : S512x512.Idx) : ∃ pc ∈ (runA m c t h).2.1, y ∈ pc.1.set :=
  View.cover_of_tiledL (runA m c t h).2.1 S512x512.size (by sl_kernel_rfl) y
theorem coverA_13 (c : Dev nD) (t : Fin cfg0.N) (h : ¬t.val % 32 = 31) (y : S1x1x512x512.Idx) : ∃ pc ∈ (runA m c t h).2.2.1, y ∈ pc.1.set :=
  View.cover_of_tiledL (runA m c t h).2.2.1 S1x1x512x512.size (by sl_kernel_rfl) y
theorem coverA_14 (c : Dev nD) (t : Fin cfg0.N) (h : ¬t.val % 32 = 31) (y : S512x8x64.Idx) : ∃ pc ∈ (runA m c t h).2.2.2.1, y ∈ pc.1.set :=
  View.cover_of_tiledL (runA m c t h).2.2.2.1 S512x1x64.size (by sl_kernel_rfl) y
theorem coverA_15 (c : Dev nD) (t : Fin cfg0.N) (h : ¬t.val % 32 = 31) (y : S512x8x64.Idx) : ∃ pc ∈ (runA m c t h).2.2.2.2.1, y ∈ pc.1.set :=
  View.cover_of_tiledL (runA m c t h).2.2.2.2.1 S512x1x64.size (by sl_kernel_rfl) y
theorem coverA_16 (c : Dev nD) (t : Fin cfg0.N) (h : ¬t.val % 32 = 31) (y : S512x128.Idx) : ∃ pc ∈ (runA m c t h).2.2.2.2.2.1, y ∈ pc.1.set :=
  View.cover_of_tiledL (runA m c t h).2.2.2.2.2.1 S512x128.size (by sl_kernel_rfl) y
theorem coverA_17 (c : Dev nD) (t : Fin cfg0.N) (h : ¬t.val % 32 = 31) (y : S512x512.Idx) : ∃ pc ∈ (runA m c t h).2.2.2.2.2.2.1, y ∈ pc.1.set :=
  View.cover_of_tiledL (runA m c t h).2.2.2.2.2.2.1 S512x512.size (by sl_kernel_rfl) y
theorem coverA_18 (c : Dev nD) (t : Fin cfg0.N) (h : ¬t.val % 32 = 31) (y : S512x512.Idx) : ∃ pc ∈ (runA m c t h).2.2.2.2.2.2.2.1, y ∈ pc.1.set :=
  View.cover_of_tiledL (runA m c t h).2.2.2.2.2.2.2.1 S512x512.size (by sl_kernel_rfl) y
theorem coverA_19 (c : Dev nD) (t : Fin cfg0.N) (h : ¬t.val % 32 = 31) (y : S1x1x512x512.Idx) : ∃ pc ∈ (runA m c t h).2.2.2.2.2.2.2.2.1, y ∈ pc.1.set :=
  View.cover_of_tiledL (runA m c t h).2.2.2.2.2.2.2.2.1 S1x1x512x512.size (by sl_kernel_rfl) y
theorem coverB_11 (c : Dev nD) (t : Fin cfg0.N) (h : t.val % 32 = 31) (y : S512x512.Idx) : ∃ pc ∈ (runB m c t h).1, y ∈ pc.1.set :=
  View.cover_of_tiledL (runB m c t h).1 S512x512.size (by sl_kernel_rfl) y
theorem coverB_12 (c : Dev nD) (t : Fin cfg0.N) (h : t.val % 32 = 31) (y : S512x512.Idx) : ∃ pc ∈ (runB m c t h).2.1, y ∈ pc.1.set :=
  View.cover_of_tiledL (runB m c t h).2.1 S512x512.size (by sl_kernel_rfl) y
theorem coverB_13 (c : Dev nD) (t : Fin cfg0.N) (h : t.val % 32 = 31) (y : S1x1x512x512.Idx) : ∃ pc ∈ (runB m c t h).2.2.1, y ∈ pc.1.set :=
  View.cover_of_tiledL (runB m c t h).2.2.1 S1x1x512x512.size (by sl_kernel_rfl) y
theorem coverB_14 (c : Dev nD) (t : Fin cfg0.N) (h : t.val % 32 = 31) (y : S512x8x64.Idx) : ∃ pc ∈ (runB m c t h).2.2.2.1, y ∈ pc.1.set :=
  View.cover_of_tiledL (runB m c t h).2.2.2.1 S512x1x64.size (by sl_kernel_rfl) y
theorem coverB_15 (c : Dev nD) (t : Fin cfg0.N) (h : t.val % 32 = 31) (y : S512x8x64.Idx) : ∃ pc ∈ (runB m c t h).2.2.2.2.1, y ∈ pc.1.set :=
  View.cover_of_tiledL (runB m c t h).2.2.2.2.1 S512x1x64.size (by sl_kernel_rfl) y
theorem coverB_16 (c : Dev nD) (t : Fin cfg0.N) (h : t.val % 32 = 31) (y : S512x128.Idx) : ∃ pc ∈ (runB m c t h).2.2.2.2.2.1, y ∈ pc.1.set :=
  View.cover_of_tiledL (runB m c t h).2.2.2.2.2.1 S512x128.size (by sl_kernel_rfl) y
theorem coverB_17 (c : Dev nD) (t : Fin cfg0.N) (h : t.val % 32 = 31) (y : S512x512.Idx) : ∃ pc ∈ (runB m c t h).2.2.2.2.2.2.1, y ∈ pc.1.set :=
  View.cover_of_tiledL (runB m c t h).2.2.2.2.2.2.1 S512x512.size (by sl_kernel_rfl) y
theorem coverB_18 (c : Dev nD) (t : Fin cfg0.N) (h : t.val % 32 = 31) (y : S512x512.Idx) : ∃ pc ∈ (runB m c t h).2.2.2.2.2.2.2.1, y ∈ pc.1.set :=
  View.cover_of_tiledL (runB m c t h).2.2.2.2.2.2.2.1 S512x512.size (by sl_kernel_rfl) y
theorem coverB_19 (c : Dev nD) (t : Fin cfg0.N) (h : t.val % 32 = 31) (y : S1x1x512x512.Idx) : ∃ pc ∈ (runB m c t h).2.2.2.2.2.2.2.2.1, y ∈ pc.1.set :=
  View.cover_of_tiledL (runB m c t h).2.2.2.2.2.2.2.2.1 S1x1x512x512.size (by sl_kernel_rfl) y
theorem coverB_20 (c : Dev nD) (t : Fin cfg0.N) (h : t.val % 32 = 31) (y : S1x512x512.Idx) : ∃ pc ∈ (runB m c t h).2.2.2.2.2.2.2.2.2.1, y ∈ pc.1.set :=
  View.cover_of_tiledL (runB m c t h).2.2.2.2.2.2.2.2.2.1 S1x512x512.size (by sl_kernel_rfl) y
theorem coverB_21 (c : Dev nD) (t : Fin cfg0.N) (h : t.val % 32 = 31) (y : S1x512x512.Idx) : ∃ pc ∈ (runB m c t h).2.2.2.2.2.2.2.2.2.2.1, y ∈ pc.1.set :=
  View.cover_of_tiledL (runB m c t h).2.2.2.2.2.2.2.2.2.2.1 S1x512x512.size (by sl_kernel_rfl) y

/-! What each written window holds after a point: the pieces read back. -/
def out11 (c : Dev nD) (t : Fin cfg0.N) : Vec F S512x512 .bf16 :=
  if h : t.val % 32 = 31 then VO0_11.read (Elt F) (VO0_11.writes (Elt F) VO0_11.junk (runB m c t h).1)
  else VO0_11.read (Elt F) (VO0_11.writes (Elt F) VO0_11.junk (runA m c t h).1)
def out12 (c : Dev nD) (t : Fin cfg0.N) : Vec F S512x512 .bf16 :=
  if h : t.val % 32 = 31 then VO0_12.read (Elt F) (VO0_12.writes (Elt F) VO0_12.junk (runB m c t h).2.1)
  else VO0_12.read (Elt F) (VO0_12.writes (Elt F) VO0_12.junk (runA m c t h).2.1)
def out13 (c : Dev nD) (t : Fin cfg0.N) : Vec F S1x1x512x512 .bf16 :=
  if h : t.val % 32 = 31 then VO0_13.read (Elt F) (VO0_13.writes (Elt F) VO0_13.junk (runB m c t h).2.2.1)
  else VO0_13.read (Elt F) (VO0_13.writes (Elt F) VO0_13.junk (runA m c t h).2.2.1)
def out14 (c : Dev nD) (t : Fin cfg0.N) : Vec F S512x8x64 .f32 :=
  if h : t.val % 32 = 31 then VO0_14.read (Elt F) (VO0_14.writes (Elt F) VO0_14.junk (runB m c t h).2.2.2.1)
  else VO0_14.read (Elt F) (VO0_14.writes (Elt F) VO0_14.junk (runA m c t h).2.2.2.1)
def out15 (c : Dev nD) (t : Fin cfg0.N) : Vec F S512x8x64 .f32 :=
  if h : t.val % 32 = 31 then VO0_15.read (Elt F) (VO0_15.writes (Elt F) VO0_15.junk (runB m c t h).2.2.2.2.1)
  else VO0_15.read (Elt F) (VO0_15.writes (Elt F) VO0_15.junk (runA m c t h).2.2.2.2.1)
def out16 (c : Dev nD) (t : Fin cfg0.N) : Vec F S512x128 .f32 :=
  if h : t.val % 32 = 31 then VO0_16.read (Elt F) (VO0_16.writes (Elt F) VO0_16.junk (runB m c t h).2.2.2.2.2.1)
  else VO0_16.read (Elt F) (VO0_16.writes (Elt F) VO0_16.junk (runA m c t h).2.2.2.2.2.1)
def out17 (c : Dev nD) (t : Fin cfg0.N) : Vec F S512x512 .bf16 :=
  if h : t.val % 32 = 31 then VO0_17.read (Elt F) (VO0_17.writes (Elt F) VO0_17.junk (runB m c t h).2.2.2.2.2.2.1)
  else VO0_17.read (Elt F) (VO0_17.writes (Elt F) VO0_17.junk (runA m c t h).2.2.2.2.2.2.1)
def out18 (c : Dev nD) (t : Fin cfg0.N) : Vec F S512x512 .bf16 :=
  if h : t.val % 32 = 31 then VO0_18.read (Elt F) (VO0_18.writes (Elt F) VO0_18.junk (runB m c t h).2.2.2.2.2.2.2.1)
  else VO0_18.read (Elt F) (VO0_18.writes (Elt F) VO0_18.junk (runA m c t h).2.2.2.2.2.2.2.1)
def out19 (c : Dev nD) (t : Fin cfg0.N) : Vec F S1x1x512x512 .bf16 :=
  if h : t.val % 32 = 31 then VO0_19.read (Elt F) (VO0_19.writes (Elt F) VO0_19.junk (runB m c t h).2.2.2.2.2.2.2.2.1)
  else VO0_19.read (Elt F) (VO0_19.writes (Elt F) VO0_19.junk (runA m c t h).2.2.2.2.2.2.2.2.1)
def out20 (c : Dev nD) (t : Fin cfg0.N) : Vec F S1x512x512 .f32 :=
  if h : t.val % 32 = 31 then VO0_20.read (Elt F) (VO0_20.writes (Elt F) VO0_20.junk (runB m c t h).2.2.2.2.2.2.2.2.2.1)
  else VO0_20.read (Elt F) (VO0_20.writes (Elt F) VO0_20.junk (runA m c t h).2.2.2.2.2.2.2.2.2.1)
def out21 (c : Dev nD) (t : Fin cfg0.N) : Vec F S1x512x512 .f32 :=
  if h : t.val % 32 = 31 then VO0_21.read (Elt F) (VO0_21.writes (Elt F) VO0_21.junk (runB m c t h).2.2.2.2.2.2.2.2.2.2.1)
  else VO0_21.read (Elt F) (VO0_21.writes (Elt F) VO0_21.junk (runA m c t h).2.2.2.2.2.2.2.2.2.2.1)
theorem out11_A (c : Dev nD) (t : Fin cfg0.N) (h : ¬t.val % 32 = 31) : out11 m c t = VO0_11.read (Elt F) (VO0_11.writes (Elt F) VO0_11.junk (runA m c t h).1) := dif_neg h
theorem out11_B (c : Dev nD) (t : Fin cfg0.N) (h : t.val % 32 = 31) : out11 m c t = VO0_11.read (Elt F) (VO0_11.writes (Elt F) VO0_11.junk (runB m c t h).1) := dif_pos h
theorem out12_A (c : Dev nD) (t : Fin cfg0.N) (h : ¬t.val % 32 = 31) : out12 m c t = VO0_12.read (Elt F) (VO0_12.writes (Elt F) VO0_12.junk (runA m c t h).2.1) := dif_neg h
theorem out12_B (c : Dev nD) (t : Fin cfg0.N) (h : t.val % 32 = 31) : out12 m c t = VO0_12.read (Elt F) (VO0_12.writes (Elt F) VO0_12.junk (runB m c t h).2.1) := dif_pos h
theorem out13_A (c : Dev nD) (t : Fin cfg0.N) (h : ¬t.val % 32 = 31) : out13 m c t = VO0_13.read (Elt F) (VO0_13.writes (Elt F) VO0_13.junk (runA m c t h).2.2.1) := dif_neg h
theorem out13_B (c : Dev nD) (t : Fin cfg0.N) (h : t.val % 32 = 31) : out13 m c t = VO0_13.read (Elt F) (VO0_13.writes (Elt F) VO0_13.junk (runB m c t h).2.2.1) := dif_pos h
theorem out14_A (c : Dev nD) (t : Fin cfg0.N) (h : ¬t.val % 32 = 31) : out14 m c t = VO0_14.read (Elt F) (VO0_14.writes (Elt F) VO0_14.junk (runA m c t h).2.2.2.1) := dif_neg h
theorem out14_B (c : Dev nD) (t : Fin cfg0.N) (h : t.val % 32 = 31) : out14 m c t = VO0_14.read (Elt F) (VO0_14.writes (Elt F) VO0_14.junk (runB m c t h).2.2.2.1) := dif_pos h
theorem out15_A (c : Dev nD) (t : Fin cfg0.N) (h : ¬t.val % 32 = 31) : out15 m c t = VO0_15.read (Elt F) (VO0_15.writes (Elt F) VO0_15.junk (runA m c t h).2.2.2.2.1) := dif_neg h
theorem out15_B (c : Dev nD) (t : Fin cfg0.N) (h : t.val % 32 = 31) : out15 m c t = VO0_15.read (Elt F) (VO0_15.writes (Elt F) VO0_15.junk (runB m c t h).2.2.2.2.1) := dif_pos h
theorem out16_A (c : Dev nD) (t : Fin cfg0.N) (h : ¬t.val % 32 = 31) : out16 m c t = VO0_16.read (Elt F) (VO0_16.writes (Elt F) VO0_16.junk (runA m c t h).2.2.2.2.2.1) := dif_neg h
theorem out16_B (c : Dev nD) (t : Fin cfg0.N) (h : t.val % 32 = 31) : out16 m c t = VO0_16.read (Elt F) (VO0_16.writes (Elt F) VO0_16.junk (runB m c t h).2.2.2.2.2.1) := dif_pos h
theorem out17_A (c : Dev nD) (t : Fin cfg0.N) (h : ¬t.val % 32 = 31) : out17 m c t = VO0_17.read (Elt F) (VO0_17.writes (Elt F) VO0_17.junk (runA m c t h).2.2.2.2.2.2.1) := dif_neg h
theorem out17_B (c : Dev nD) (t : Fin cfg0.N) (h : t.val % 32 = 31) : out17 m c t = VO0_17.read (Elt F) (VO0_17.writes (Elt F) VO0_17.junk (runB m c t h).2.2.2.2.2.2.1) := dif_pos h
theorem out18_A (c : Dev nD) (t : Fin cfg0.N) (h : ¬t.val % 32 = 31) : out18 m c t = VO0_18.read (Elt F) (VO0_18.writes (Elt F) VO0_18.junk (runA m c t h).2.2.2.2.2.2.2.1) := dif_neg h
theorem out18_B (c : Dev nD) (t : Fin cfg0.N) (h : t.val % 32 = 31) : out18 m c t = VO0_18.read (Elt F) (VO0_18.writes (Elt F) VO0_18.junk (runB m c t h).2.2.2.2.2.2.2.1) := dif_pos h
theorem out19_A (c : Dev nD) (t : Fin cfg0.N) (h : ¬t.val % 32 = 31) : out19 m c t = VO0_19.read (Elt F) (VO0_19.writes (Elt F) VO0_19.junk (runA m c t h).2.2.2.2.2.2.2.2.1) := dif_neg h
theorem out19_B (c : Dev nD) (t : Fin cfg0.N) (h : t.val % 32 = 31) : out19 m c t = VO0_19.read (Elt F) (VO0_19.writes (Elt F) VO0_19.junk (runB m c t h).2.2.2.2.2.2.2.2.1) := dif_pos h
theorem out20_B (c : Dev nD) (t : Fin cfg0.N) (h : t.val % 32 = 31) : out20 m c t = VO0_20.read (Elt F) (VO0_20.writes (Elt F) VO0_20.junk (runB m c t h).2.2.2.2.2.2.2.2.2.1) := dif_pos h
theorem out21_B (c : Dev nD) (t : Fin cfg0.N) (h : t.val % 32 = 31) : out21 m c t = VO0_21.read (Elt F) (VO0_21.writes (Elt F) VO0_21.junk (runB m c t h).2.2.2.2.2.2.2.2.2.2.1) := dif_pos h

/-- The call's data: the arrays as found, each read window its block, each written window as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 m c t
    | ⟨12, _⟩ => out12 m c t
    | ⟨13, _⟩ => out13 m c t
    | ⟨14, _⟩ => out14 m c t
    | ⟨15, _⟩ => out15 m c t
    | ⟨16, _⟩ => out16 m c t
    | ⟨17, _⟩ => out17 m c t
    | ⟨18, _⟩ => out18 m c t
    | ⟨19, _⟩ => out19 m c t
    | ⟨20, _⟩ => out20 m c t
    | ⟨21, _⟩ => out21 m c t
    | ⟨_ + 22, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = out11 m c t := by dsimp only [dats]
theorem after_12 (c : Dev nD) (t : Fin cfg0.N) : (dats m 0 c).after 12 t = out12 m c t := by dsimp only [dats]
theorem after_13 (c : Dev nD) (t : Fin cfg0.N) : (dats m 0 c).after 13 t = out13 m c t := by dsimp only [dats]
theorem after_14 (c : Dev nD) (t : Fin cfg0.N) : (dats m 0 c).after 14 t = out14 m c t := by dsimp only [dats]
theorem after_15 (c : Dev nD) (t : Fin cfg0.N) : (dats m 0 c).after 15 t = out15 m c t := by dsimp only [dats]
theorem after_16 (c : Dev nD) (t : Fin cfg0.N) : (dats m 0 c).after 16 t = out16 m c t := by dsimp only [dats]
theorem after_17 (c : Dev nD) (t : Fin cfg0.N) : (dats m 0 c).after 17 t = out17 m c t := by dsimp only [dats]
theorem after_18 (c : Dev nD) (t : Fin cfg0.N) : (dats m 0 c).after 18 t = out18 m c t := by dsimp only [dats]
theorem after_19 (c : Dev nD) (t : Fin cfg0.N) : (dats m 0 c).after 19 t = out19 m c t := by dsimp only [dats]
theorem after_20 (c : Dev nD) (t : Fin cfg0.N) : (dats m 0 c).after 20 t = out20 m c t := by dsimp only [dats]
theorem after_21 (c : Dev nD) (t : Fin cfg0.N) : (dats m 0 c).after 21 t = out21 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

theorem leaves_0 (c : Dev nD) (t : Fin cfg0.N) : (dats m 0 c).leavesExact 0 t = owns (c : Thread nD τ) (ms0_0 t) fullShare (iblk m c 0 t) := by
  rw [← after_0]
theorem leaves_1 (c : Dev nD) (t : Fin cfg0.N) : (dats m 0 c).leavesExact 1 t = owns (c : Thread nD τ) (ms0_1 t) fullShare (iblk m c 1 t) := by
  rw [← after_1]
theorem leaves_2 (c : Dev nD) (t : Fin cfg0.N) : (dats m 0 c).leavesExact 2 t = owns (c : Thread nD τ) (ms0_2 t) fullShare (iblk m c 2 t) := by
  rw [← after_2]
theorem leaves_3 (c : Dev nD) (t : Fin cfg0.N) : (dats m 0 c).leavesExact 3 t = owns (c : Thread nD τ) (ms0_3 t) fullShare (iblk m c 3 t) := by
  rw [← after_3]
theorem leaves_4 (c : Dev nD) (t : Fin cfg0.N) : (dats m 0 c).leavesExact 4 t = owns (c : Thread nD τ) (ms0_4 t) fullShare (iblk m c 4 t) := by
  rw [← after_4]
theorem leaves_5 (c : Dev nD) (t : Fin cfg0.N) : (dats m 0 c).leavesExact 5 t = owns (c : Thread nD τ) (ms0_5 t) fullShare (iblk m c 5 t) := by
  rw [← after_5]
theorem leaves_6 (c : Dev nD) (t : Fin cfg0.N) : (dats m 0 c).leavesExact 6 t = owns (c : Thread nD τ) (ms0_6 t) fullShare (iblk m c 6 t) := by
  rw [← after_6]
theorem leaves_7 (c : Dev nD) (t : Fin cfg0.N) : (dats m 0 c).leavesExact 7 t = owns (c : Thread nD τ) (ms0_7 t) fullShare (iblk m c 7 t) := by
  rw [← after_7]
theorem leaves_8 (c : Dev nD) (t : Fin cfg0.N) : (dats m 0 c).leavesExact 8 t = owns (c : Thread nD τ) (ms0_8 t) fullShare (iblk m c 8 t) := by
  rw [← after_8]
theorem leaves_9 (c : Dev nD) (t : Fin cfg0.N) : (dats m 0 c).leavesExact 9 t = owns (c : Thread nD τ) (ms0_9 t) fullShare (iblk m c 9 t) := by
  rw [← after_9]
theorem leaves_10 (c : Dev nD) (t : Fin cfg0.N) : (dats m 0 c).leavesExact 10 t = owns (c : Thread nD τ) (ms0_10 t) fullShare (iblk m c 10 t) := by
  rw [← after_10]
theorem leaves_11 (c : Dev nD) (t : Fin cfg0.N) : (dats m 0 c).leavesExact 11 t = owns (c : Thread nD τ) (ms0_11 t) fullShare (out11 m c t) := by
  rw [← after_11]
theorem leaves_12 (c : Dev nD) (t : Fin cfg0.N) : (dats m 0 c).leavesExact 12 t = owns (c : Thread nD τ) (ms0_12 t) fullShare (out12 m c t) := by
  rw [← after_12]
theorem leaves_13 (c : Dev nD) (t : Fin cfg0.N) : (dats m 0 c).leavesExact 13 t = owns (c : Thread nD τ) (ms0_13 t) fullShare (out13 m c t) := by
  rw [← after_13]
theorem leaves_14 (c : Dev nD) (t : Fin cfg0.N) : (dats m 0 c).leavesExact 14 t = owns (c : Thread nD τ) (ms0_14 t) fullShare (out14 m c t) := by
  rw [← after_14]
theorem leaves_15 (c : Dev nD) (t : Fin cfg0.N) : (dats m 0 c).leavesExact 15 t = owns (c : Thread nD τ) (ms0_15 t) fullShare (out15 m c t) := by
  rw [← after_15]
theorem leaves_16 (c : Dev nD) (t : Fin cfg0.N) : (dats m 0 c).leavesExact 16 t = owns (c : Thread nD τ) (ms0_16 t) fullShare (out16 m c t) := by
  rw [← after_16]
theorem leaves_17 (c : Dev nD) (t : Fin cfg0.N) : (dats m 0 c).leavesExact 17 t = owns (c : Thread nD τ) (ms0_17 t) fullShare (out17 m c t) := by
  rw [← after_17]
theorem leaves_18 (c : Dev nD) (t : Fin cfg0.N) : (dats m 0 c).leavesExact 18 t = owns (c : Thread nD τ) (ms0_18 t) fullShare (out18 m c t) := by
  rw [← after_18]
theorem leaves_19 (c : Dev nD) (t : Fin cfg0.N) : (dats m 0 c).leavesExact 19 t = owns (c : Thread nD τ) (ms0_19 t) fullShare (out19 m c t) := by
  rw [← after_19]
theorem leaves_20 (c : Dev nD) (t : Fin cfg0.N) (h : t.val % 32 = 31) : (dats m 0 c).leavesExact 20 t = owns (c : Thread nD τ) (ms0_20 t) fullShare (out20 m c t) := by
  rw [← after_20]; unfold Dat.leavesExact; rw [liveAt0_20_B t ((hcond0_0 t).mpr h)]
theorem leaves_21 (c : Dev nD) (t : Fin cfg0.N) (h : t.val % 32 = 31) : (dats m 0 c).leavesExact 21 t = owns (c : Thread nD τ) (ms0_21 t) fullShare (out21 m c t) := by
  rw [← after_21]; unfold Dat.leavesExact; rw [liveAt0_21_B t ((hcond0_0 t).mpr h)]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t)

set_option maxHeartbeats 4000000 in
/-- The body at any point, by whether the point is the last of its sequence. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl]
  have hN : t.val < 64 := lt_of_lt_of_eq t.isLt (show cfg0.N = 64 from N_0)
  rw [leaves_0, leaves_1, leaves_2, leaves_3, leaves_4, leaves_5, leaves_6, leaves_7, leaves_8, leaves_9, leaves_10, leaves_11, leaves_12, leaves_13, leaves_14, leaves_15, leaves_16, leaves_17, leaves_18, leaves_19]
  by_cases h0 : t.val % 32 = 31
  · rw [leaves_20 m c t h0, leaves_21 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runB m c t h0).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact (View.read_writes_of_cover _ _ _ _ _ (coverB_11 m c t h0)).trans (out11_B m c t h0).symm
    isplitl [H12]
    · unfold owns; iexists _; isplitr
      swap; · iexact H12
      ipureintro; exact (View.read_writes_of_cover _ _ _ _ _ (coverB_12 m c t h0)).trans (out12_B m c t h0).symm
    isplitl [H13]
    · unfold owns; iexists _; isplitr
      swap; · iexact H13
      ipureintro; exact (View.read_writes_of_cover _ _ _ _ _ (coverB_13 m c t h0)).trans (out13_B m c t h0).symm
    isplitl [H14]
    · unfold owns; iexists _; isplitr
      swap; · iexact H14
      ipureintro; exact (View.read_writes_of_cover _ _ _ _ _ (coverB_14 m c t h0)).trans (out14_B m c t h0).symm
    isplitl [H15]
    · unfold owns; iexists _; isplitr
      swap; · iexact H15
      ipureintro; exact (View.read_writes_of_cover _ _ _ _ _ (coverB_15 m c t h0)).trans (out15_B m c t h0).symm
    isplitl [H16]
    · unfold owns; iexists _; isplitr
      swap; · iexact H16
      ipureintro; exact (View.read_writes_of_cover _ _ _ _ _ (coverB_16 m c t h0)).trans (out16_B m c t h0).symm
    isplitl [H17]
    · unfold owns; iexists _; isplitr
      swap; · iexact H17
      ipureintro; exact (View.read_writes_of_cover _ _ _ _ _ (coverB_17 m c t h0)).trans (out17_B m c t h0).symm
    isplitl [H18]
    · unfold owns; iexists _; isplitr
      swap; · iexact H18
      ipureintro; exact (View.read_writes_of_cover _ _ _ _ _ (coverB_18 m c t h0)).trans (out18_B m c t h0).symm
    isplitl [H19]
    · unfold owns; iexists _; isplitr
      swap; · iexact H19
      ipureintro; exact (View.read_writes_of_cover _ _ _ _ _ (coverB_19 m c t h0)).trans (out19_B m c t h0).symm
    isplitl [H20]
    · unfold owns; iexists _; isplitr
      swap; · iexact H20
      ipureintro; exact (View.read_writes_of_cover _ _ _ _ _ (coverB_20 m c t h0)).trans (out20_B m c t h0).symm
    unfold owns; iexists _; isplitr
    swap; · iexact H21
    ipureintro; exact (View.read_writes_of_cover _ _ _ _ _ (coverB_21 m c t h0)).trans (out21_B m c t h0).symm
  · rw [Dat.leavesExact_idle (dats m 0 c) 20 t (idleAt0_20_A t (fun h => h0 ((hcond0_0 t).mp h))) (noFlush0_20_A t (fun h => h0 ((hcond0_0 t).mp h)))]
    rw [Dat.leavesExact_idle (dats m 0 c) 21 t (idleAt0_21_A t (fun h => h0 ((hcond0_0 t).mp h))) (noFlush0_21_A t (fun h => h0 ((hcond0_0 t).mp h)))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runA m c t h0).2.2.2.2.2.2.2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexact H21
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, ⟨%e19, H19⟩, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact (View.read_writes_of_cover _ _ _ _ _ (coverA_11 m c t h0)).trans (out11_A m c t h0).symm
    isplitl [H12]
    · unfold owns; iexists _; isplitr
      swap; · iexact H12
      ipureintro; exact (View.read_writes_of_cover _ _ _ _ _ (coverA_12 m c t h0)).trans (out12_A m c t h0).symm
    isplitl [H13]
    · unfold owns; iexists _; isplitr
      swap; · iexact H13
      ipureintro; exact (View.read_writes_of_cover _ _ _ _ _ (coverA_13 m c t h0)).trans (out13_A m c t h0).symm
    isplitl [H14]
    · unfold owns; iexists _; isplitr
      swap; · iexact H14
      ipureintro; exact (View.read_writes_of_cover _ _ _ _ _ (coverA_14 m c t h0)).trans (out14_A m c t h0).symm
    isplitl [H15]
    · unfold owns; iexists _; isplitr
      swap; · iexact H15
      ipureintro; exact (View.read_writes_of_cover _ _ _ _ _ (coverA_15 m c t h0)).trans (out15_A m c t h0).symm
    isplitl [H16]
    · unfold owns; iexists _; isplitr
      swap; · iexact H16
      ipureintro; exact (View.read_writes_of_cover _ _ _ _ _ (coverA_16 m c t h0)).trans (out16_A m c t h0).symm
    isplitl [H17]
    · unfold owns; iexists _; isplitr
      swap; · iexact H17
      ipureintro; exact (View.read_writes_of_cover _ _ _ _ _ (coverA_17 m c t h0)).trans (out17_A m c t h0).symm
    isplitl [H18]
    · unfold owns; iexists _; isplitr
      swap; · iexact H18
      ipureintro; exact (View.read_writes_of_cover _ _ _ _ _ (coverA_18 m c t h0)).trans (out18_A m c t h0).symm
    isplitl [H19]
    · unfold owns; iexists _; isplitr
      swap; · iexact H19
      ipureintro; exact (View.read_writes_of_cover _ _ _ _ _ (coverA_19 m c t h0)).trans (out19_A m c t h0).symm
    isplitl [H20]; · iexists _; iexact H20
    iexists _; iexact H21

theorem defs₀_row (t : Fin cfg0.N) :
    defs₀ (F := F) .tc cfg0.body (cfg0.bodyArgs t (cfg0.slots t)) = bodyAt0 t := by
  unfold defs₀; rw [Defs.onTc_tc]

/-- The body's triple with its windows gathered, the form in which the round before and after are compared window
    by window at once. -/
theorem gathered (c : Dev nD) (t : Fin cfg0.N) :
    iprop((dats m 0 c).Φ t.castSucc ∗ (dats m 0 c).owesAt () t.castSucc
        ∗ bigSep Finset.univ fun w : Fin cfg0.W => iprop(∃ d, owns (c : Thread nD τ) ((cfg0.win w).stage (cfg0.slots t w)) fullShare ((dats m 0 c).before w t d)))
      ⊢ wp frame (wpE (defs₀ (F := F)) Variants.none c none) Set.univ (bodyAt0 t) (fun _ =>
        iprop((dats m 0 c).Φ t.succ ∗ (dats m 0 c).owesAt () t.succ ∗ bigSep Finset.univ fun w : Fin cfg0.W => (dats m 0 c).leavesExact w t)) := by
  rw [bigSep_W0, bigSep_W0]
  exact sound_body m c t

theorem body_obligation (c : Dev nD) : BodyObligation (dats (F := F) m 0 c) (defs₀ (F := F)) Variants.none () Set.univ := fun t => by
  rw [defs₀_row]
  exact triple_restated (gathered m c t) rfl .rfl fun _ => .rfl

-- `θ_run_frame`'s implicit arguments are found by unifying its conclusion with this one, which takes unfolding plain
-- definitions in a metavariable's type
set_option backward.isDefEq.respectTransparency.types false in
/-- The run of the whole program from a memory with its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Proj

end
-- ==== Proof.ProjSame.lean ====
/-  The projections' call as printed and its idealization are one program (nothing was rewritten), so one frame
    serves both. -/
module

public import proofs.«01_k».proof.Proof.ProjRun
public import proofs.«01_k».proof.Proof.Gen.Kernel4
public import Idealize.ShloMosaic.PureOps.BitExact

@[expose] public section

set_option maxRecDepth 16384
set_option backward.isDefEq.respectTransparency false
set_option backward.isDefEq.respectTransparency.types false

noncomputable section

namespace Cert.Proj

open Idealize.ShloMosaic Idealize.ShloMosaic.TcCoe Idealize.ShloMosaic.Tactic

open Cert.Kernel4 in
/-- The call as printed ends, its arguments unchanged and its counters at zero. -/
def KeepsPrinted (m : (ℓ : Loc nD τ sig) → Buf (Elt Bits) ℓ) (g : Dev nD → PrngReg) : Prop :=
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

open Cert.Kernel4Ideal in
/-- The same of its idealization. -/
def KeepsIdeal (m : (ℓ : Loc nD τ sig) → Buf (Elt Bits) ℓ) (g : Dev nD → PrngReg) : Prop :=
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

theorem keeps_same (m : (ℓ : Loc Cert.Kernel4.nD Cert.Kernel4.τ Cert.Kernel4.sig) → Buf (Elt Bits) ℓ) (g : Dev Cert.Kernel4.nD → PrngReg) :
    KeepsPrinted m g = KeepsIdeal m g := by
  sl_kernel_rfl

/-- The frame of the call as printed. -/
theorem frame_printed (m : (ℓ : Loc Cert.Kernel4.nD Cert.Kernel4.τ Cert.Kernel4.sig) → Buf (Elt Bits) ℓ) (g : Dev Cert.Kernel4.nD → PrngReg) :
    KeepsPrinted m g :=
  (keeps_same m g).mpr (frame (F := Bits) m g)

end Cert.Proj
end
-- ==== Proof.ProjRow.lean ====
/-  One row of the projection: its normalised input, a head's normalised values, the forget gate's log sigmoid. -/
module

public import Idealize.ShloMosaic.Lib.Pointwise
public import Idealize.ShloMosaic.Lib.IdealHost

@[expose] public section

noncomputable section

namespace Cert.Proj

open Idealize.ShloMosaic

/-- The small constant under the square root. -/
def eps : EReal := Ideal.ofBits FTy.f32 897988541#32

/-- A row, normalised, with its gain, scale and shift. -/
def hidden (x g sc sh : Fin 1024 → EReal) (k : Fin 1024) : EReal :=
  x k * Ideal.rsqrt (Ideal.div (∑ j, x j * x j) (Ideal.ofBits FTy.f32 1149239296#32) + eps) * g k * (1 + sc k) + sh k

/-- A row times a column. -/
def prod (h w : Fin 1024 → EReal) : EReal := ∑ k, h k * w k

/-- A head's values, normalised, with their gain. -/
def normHead (p g : Fin 64 → EReal) (d : Fin 64) : EReal :=
  p d * Ideal.rsqrt (Ideal.div (∑ e, p e * p e) (Ideal.ofBits FTy.f32 1115684864#32) + eps) * g d

/-- The logarithm of a sigmoid, as the kernel computes it. -/
def logSig (z : EReal) : EReal := min z 0 - Ideal.log (1 + Ideal.exp (0 - max z (-z)))

theorem sq_nonneg' (x : EReal) : 0 ≤ x * x := by
  rcases le_total 0 x with h | h
  · exact EReal.mul_nonneg h h
  · rw [← neg_mul_neg]; exact EReal.mul_nonneg (EReal.neg_nonneg.2 h) (EReal.neg_nonneg.2 h)

/-- A sum of terms that are not negative, times a number, is the sum of the products. -/
theorem sum_mul_of_nonneg {n : ℕ} (f : Fin n → EReal) (h : ∀ i, 0 ≤ f i) (c : EReal) :
    ∑ i, f i * c = (∑ i, f i) * c := by
  induction n with
  | zero => simp
  | succ n ih =>
    rw [Fin.sum_univ_castSucc, Fin.sum_univ_castSucc, ih _ fun i => h i.castSucc,
      EReal.right_distrib_of_nonneg (Finset.sum_nonneg fun i _ => h i.castSucc) (h (Fin.last n))]

theorem ofBits_64 : Ideal.ofBits FTy.f32 1115684864#32 = ((64 : ℝ) : EReal) := by
  simp [Ideal.ofBits, Ideal.ieee, -EReal.coe_mul]; norm_num

theorem ofBits_64th : Ideal.ofBits FTy.f32 0x3C800000#32 = (((64 : ℝ)⁻¹ : ℝ) : EReal) := by
  simp [Ideal.ofBits, Ideal.ieee, -EReal.coe_mul]; norm_num

/-- The sum over all lanes of the squares at the weight of their head: the mean over the lane's own head. -/
theorem mean_head (p : Fin 512 → EReal) (a : Fin 8) :
    ∑ x : Fin 512, p x * p x * (if x.val / 64 = a.val then (((64 : ℝ)⁻¹ : ℝ) : EReal) else 0)
      = Ideal.div (∑ e : Fin 64, p ⟨64 * a.val + e.val, by omega⟩ * p ⟨64 * a.val + e.val, by omega⟩)
          (Ideal.ofBits FTy.f32 1115684864#32) := by
  rw [ofBits_64]
  unfold Ideal.div
  rw [if_neg (by exact_mod_cast (by norm_num : (64 : ℝ) ≠ 0)), ← EReal.coe_inv, ← sum_mul_of_nonneg _ fun e => sq_nonneg' _,
    ← (finProdFinEquiv (m := 8) (n := 64)).sum_comp, Fintype.sum_prod_type, Finset.sum_eq_single a]
  · refine Finset.sum_congr rfl fun e _ => ?_
    have hv : (finProdFinEquiv (m := 8) (n := 64) (a, e)) = ⟨64 * a.val + e.val, by omega⟩ :=
      Fin.ext (by simp [finProdFinEquiv]; omega)
    rw [hv, if_pos (by simp only; omega)]
  · intro b _ hb
    refine Finset.sum_eq_zero fun e _ => ?_
    have hv : (finProdFinEquiv (m := 8) (n := 64) (b, e)) = ⟨64 * b.val + e.val, by omega⟩ :=
      Fin.ext (by simp [finProdFinEquiv]; omega)
    have hne : b.val ≠ a.val := fun h => hb (Fin.ext h)
    rw [hv, if_neg (by simp only; omega), mul_zero]
  · exact fun h => absurd (Finset.mem_univ a) h

theorem log_ne_bot (x : EReal) : Ideal.log (1 + Ideal.exp x) ≠ ⊥ := by
  induction x with
  | bot =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | top =>
    show Ideal.log (1 + ⊤) ≠ ⊥
    rw [EReal.add_top_of_ne_bot (show (1 : EReal) ≠ ⊥ from EReal.coe_ne_bot 1)]
    show (⊤ : EReal) ≠ ⊥
    simp
  | coe r =>
    have h : ¬ (1 + Real.exp r ≤ 0) := by have := Real.exp_pos r; linarith
    show Ideal.log (((1 : ℝ) : EReal) + ((Real.exp r : ℝ) : EReal)) ≠ ⊥
    rw [← EReal.coe_add]
    show (if 1 + Real.exp r ≤ 0 then (⊥ : EReal) else ((Real.log (1 + Real.exp r) : ℝ) : EReal)) ≠ ⊥
    rw [if_neg h]
    exact EReal.coe_ne_bot _

/-- The negated softplus of the negated number, as the reference computes it. -/
theorem neg_softplus (z q : EReal) :
    (-if -z ≠ -z then q else max (-z) 0 + Ideal.log1p (Ideal.exp (-(max (-z) (-(-z)))))) = logSig z := by
  unfold logSig Ideal.log1p
  have h0 : max (-z) 0 ≠ ⊥ := fun h => by
    have h1 : (0 : EReal) ≤ ⊥ := h ▸ le_max_right (-z) 0
    exact absurd h1 (by simp)
  have h2 : -max (-z) 0 = min z 0 := by
    rcases le_total z 0 with h | h
    · rw [max_eq_left (EReal.neg_nonneg.2 h), neg_neg, min_eq_left h]
    · rw [max_eq_right (EReal.neg_le_zero.2 h), neg_zero, min_eq_right h]
  rw [if_neg (by simp), EReal.neg_add (Or.inl h0) (Or.inr (log_ne_bot _)), h2, neg_neg, zero_sub, max_comm]

end Cert.Proj
end
-- ==== Proof.ProjBlock.lean ====
/-  What one grid point of the projection computes, entry by entry. -/
module

public import proofs.«01_k».proof.Proof.ProjRow
public import proofs.«01_k».proof.Proof.Gen.Kernel4Ideal.Skeleton

@[expose] public section

set_option maxRecDepth 16384

noncomputable section

namespace Cert.Proj

open Cert.Kernel4Ideal Cert.Kernel4Ideal.Gen Idealize.ShloMosaic Idealize.ShloMosaic.TcCoe Idealize.SL.Sem

theorem hid_apply (x : Vec Ideal S1x512x1024 .f32) (g : Vec Ideal S1x1024 .f32) (sc sh : Vec Ideal S1x1x1024 .f32) (r : Fin 512) (k : Fin 1024) :
    k0_pay3 (F := Ideal) x g sc sh (ix2 r k)
      = hidden (fun j => x (ix3 0 r j)) (fun j => g (ix2 0 j)) (fun j => sc (ix3 0 0 j)) (fun j => sh (ix3 0 0 j)) k := by
  unfold k0_pay3 hidden eps
  pointwise

/-- Products with a block of columns, normalised per head. -/
theorem norm_rows (P : Fin 512 → EReal) (bd : Vec Ideal S512x512 .bf16) (g : Vec Ideal S1x512 .f32) (gain : Fin 64 → EReal)
    (hbd : ∀ x k : Fin 512, bd (ix2 x k) = if x.val / 64 = k.val / 64 then (((64 : ℝ)⁻¹ : ℝ) : EReal) else 0)
    (a : Fin 8) (hg : ∀ d : Fin 64, g (ix2 0 ⟨64 * a.val + d.val, by omega⟩) = gain d) (d : Fin 64) :
    P ⟨64 * a.val + d.val, by omega⟩ * Ideal.rsqrt (∑ x, P x * P x * bd (ix2 x ⟨64 * a.val + d.val, by omega⟩) + eps)
        * g (ix2 0 ⟨64 * a.val + d.val, by omega⟩)
      = normHead (fun e => P ⟨64 * a.val + e.val, by omega⟩) gain d := by
  unfold normHead
  rw [← mean_head, hg]
  simp only [hbd]
  have h : (64 * a.val + d.val) / 64 = a.val := by omega
  simp only [h]

theorem keyF_apply (h : FVec Ideal S512x1024 .bf16) (w : Vec Ideal S1024x512 .bf16) (bd : Vec Ideal S512x512 .bf16) (g : Vec Ideal S1x512 .f32) (gain : Fin 64 → EReal)
    (hbd : ∀ x k : Fin 512, bd (ix2 x k) = if x.val / 64 = k.val / 64 then (((64 : ℝ)⁻¹ : ℝ) : EReal) else 0)
    (r : Fin 512) (a : Fin 8) (hg : ∀ d : Fin 64, g (ix2 0 ⟨64 * a.val + d.val, by omega⟩) = gain d) (d : Fin 64) :
    k0_pay7 (F := Ideal) h w bd g (ix2 r ⟨64 * a.val + d.val, by omega⟩)
      = normHead (fun e => prod (fun k => h (ix2 r k)) (fun k => w (ix2 k ⟨64 * a.val + e.val, by omega⟩))) gain d := by
  refine Eq.trans ?_ (norm_rows (fun l => prod (fun k => h (ix2 r k)) (fun k => w (ix2 k l))) bd g gain hbd a hg d)
  unfold k0_pay7 prod eps
  pointwise

theorem keyB_apply (h : FVec Ideal S512x1024 .bf16) (w : Vec Ideal S1024x512 .bf16) (bd : Vec Ideal S512x512 .bf16) (g : Vec Ideal S1x512 .f32) (gain : Fin 64 → EReal)
    (hbd : ∀ x k : Fin 512, bd (ix2 x k) = if x.val / 64 = k.val / 64 then (((64 : ℝ)⁻¹ : ℝ) : EReal) else 0)
    (r : Fin 512) (a : Fin 8) (hg : ∀ d : Fin 64, g (ix2 0 ⟨64 * a.val + d.val, by omega⟩) = gain d) (d : Fin 64) :
    k0_pay33 (F := Ideal) h w bd g (ix2 r ⟨64 * a.val + d.val, by omega⟩)
      = normHead (fun e => prod (fun k => h (ix2 r k)) (fun k => w (ix2 k ⟨64 * a.val + e.val, by omega⟩))) gain d := by
  refine Eq.trans ?_ (norm_rows (fun l => prod (fun k => h (ix2 r k)) (fun k => w (ix2 k l))) bd g gain hbd a hg d)
  unfold k0_pay33 prod eps
  pointwise

theorem valF_apply (h : FVec Ideal S512x1024 .bf16) (w : Vec Ideal S1024x512 .bf16) (r l : Fin 512) :
    k0_pay9 (F := Ideal) h w (ix2 r l) = prod (fun k => h (ix2 r k)) (fun k => w (ix2 k l)) := by
  unfold k0_pay9 prod
  pointwise

theorem valB_apply (h : FVec Ideal S512x1024 .bf16) (w : Vec Ideal S1024x512 .bf16) (r l : Fin 512) :
    k0_pay35 (F := Ideal) h w (ix2 r l) = prod (fun k => h (ix2 r k)) (fun k => w (ix2 k l)) := by
  unfold k0_pay35 prod
  pointwise

theorem gate_apply (h : FVec Ideal S512x1024 .bf16) (w : Vec Ideal S1024x128 .bf16) (g : Vec Ideal S1x128 .f32) (r : Fin 512) (l : Fin 128) :
    k0_pay29 (F := Ideal) h w g (ix2 r l) = logSig (prod (fun k => h (ix2 r k)) (fun k => w (ix2 k l)) + g (ix2 0 l)) := by
  unfold k0_pay29 prod logSig
  pointwise
  rfl

end Cert.Proj
end
-- ==== Proof.ProjHost.lean ====
/-  What the host hands to the projection, read at an index: the joint weights in the kernel's order of columns, the per-head mean's
    weights, the gains repeated for every head and the padded bias. -/
module

public import proofs.«01_k».proof.Proof.ProjBlock
public import proofs.«01_k».proof.Proof.Gen.Kernel4Ideal.Frame.Runs
public import Idealize.ShloMosaic.Lib.StableHlo.ReadAt

@[expose] public section

set_option maxRecDepth 16384

noncomputable section

namespace Cert.Proj

open Cert.Kernel4Ideal Cert.Kernel4Ideal.Gen Idealize.ShloMosaic Idealize.ShloMosaic.TcCoe Idealize.SL.Sem

/-- Eight blocks of columns side by side. -/
def joinCols (a b c d e f : FVec Ideal S1024x512 .f32) (g : FVec Ideal S1024x8 .f32) (h : FVec Ideal S1024x120 .f32) : FVec Ideal S1024x3200 .f32 :=
  concatenate S1024x3200 1 [⟨S1024x512, a⟩, ⟨S1024x512, b⟩, ⟨S1024x512, c⟩, ⟨S1024x512, d⟩, ⟨S1024x512, e⟩, ⟨S1024x512, f⟩, ⟨S1024x8, g⟩, ⟨S1024x120, h⟩] concatenates_S1024x512_S1024x512_S1024x512_S1024x512_S1024x512_S1024x512_S1024x8_S1024x120_S1024x3200_d1

/-- The kernel's joint weights. -/
def joint (w : FVec Ideal S1024x3080 .f32) : FVec Ideal S1024x3200 .bf16 :=
  truncf .bf16 (joinCols
    (extractStridedSlice S1024x512 ![0, 0] w slices_S1024x3080_S1024x512_0_0)
    (extractStridedSlice S1024x512 ![0, 512] w slices_S1024x3080_S1024x512_0_512)
    (extractStridedSlice S1024x512 ![0, 1024] w slices_S1024x3080_S1024x512_0_1024)
    (extractStridedSlice S1024x512 ![0, 1544] w slices_S1024x3080_S1024x512_0_1544)
    (extractStridedSlice S1024x512 ![0, 2056] w slices_S1024x3080_S1024x512_0_2056)
    (extractStridedSlice S1024x512 ![0, 2568] w slices_S1024x3080_S1024x512_0_2568)
    (extractStridedSlice S1024x8 ![0, 1536] w slices_S1024x3080_S1024x8_0_1536)
    (broadcastInDim S1024x120 ![] bcast_S_S1024x120 (constant S_ .f32 0x00000000#32))) bitsLt_bf16_f32

/-- Each lane's head. -/
def laneHead : IVec S512 32 :=
  select
    (andi
      (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The weights of the per-head mean. -/
def meanWeights : FVec Ideal S512x512 .bf16 :=
  truncf .bf16 (select
    (cmpi .eq (broadcastInDim S512x512 ![0, 1] bcast_S512x1_S512x512_0_1 (broadcastInDim S512x1 ![0] bcast_S512_S512x1_0 laneHead))
      (broadcastInDim S512x512 ![0, 1] bcast_S1x512_S512x512_0_1 (broadcastInDim S1x512 ![1] bcast_S512_S1x512_1 laneHead)))
    (broadcastInDim S512x512 ![] bcast_S_S512x512 (constant S_ .f32 0x3C800000#32))
    (broadcastInDim S512x512 ![] bcast_S_S512x512 (constant S_ .f32 0x00000000#32))) bitsLt_bf16_f32

/-- A gain repeated for every head. -/
def tiled (g : FVec Ideal S64 .f32) : FVec Ideal S1x512 .f32 :=
  shapeCast S1x512 (mulf (shapeCast S512 (broadcastInDim S8x64 ![0, 1] bcast_S1x64_S8x64_0_1 (shapeCast S1x64 g shapeCasts_S64_S1x64)) shapeCasts_S8x64_S512)
    (broadcastInDim S512 ![] bcast_S_S512 (constant S_ .f32 0x3F800000#32))) shapeCasts_S512_S1x512

/-- The bias, padded to whole lanes. -/
def padded (b : FVec Ideal S8 .f32) : FVec Ideal S1x128 .f32 :=
  shapeCast S1x128 (concatenate S128 0 [⟨S8, b⟩, ⟨S120, broadcastInDim S120 ![] bcast_S_S120 (constant S_ .f32 0x00000000#32)⟩] concatenates_S8_S120_S128_d0) shapeCasts_S128_S1x128

section Read
variable (m : (ℓ : Loc nD τ sig) → Buf (Elt Ideal) ℓ) (c : Dev nD)

theorem V_joint : V m c main_v9 = joint (m ((c : Thread nD τ).loc main_arg4)) := by
  unfold V
  simp only [hostOps0, hostOps0_1, hostOps0_2, hostOps0_3, hostOps0_4,
    List.flatten_cons, List.flatten_nil, List.append_nil, List.cons_append, List.nil_append]
  after_reads_simp
  rfl

theorem V_mean : V m c main_v18 = meanWeights := by
  unfold V
  simp only [hostOps0, hostOps0_1, hostOps0_2, hostOps0_3, hostOps0_4,
    List.flatten_cons, List.flatten_nil, List.append_nil, List.cons_append, List.nil_append]
  after_reads_simp
  simp -implicitDefEqProofs only [StableHlo.TRef.toBuf, StableHlo.TRef.ofBuf, cast_cast, cast_eq]
  rfl

theorem V_gainF : V m c main_v30 = tiled (m ((c : Thread nD τ).loc main_arg7)) := by
  unfold V
  simp only [hostOps0, hostOps0_1, hostOps0_2, hostOps0_3, hostOps0_4,
    List.flatten_cons, List.flatten_nil, List.append_nil, List.cons_append, List.nil_append]
  after_reads_simp
  rfl

theorem V_gainB : V m c main_v42 = tiled (m ((c : Thread nD τ).loc main_arg9)) := by
  unfold V
  simp only [hostOps0, hostOps0_1, hostOps0_2, hostOps0_3, hostOps0_4,
    List.flatten_cons, List.flatten_nil, List.append_nil, List.cons_append, List.nil_append]
  after_reads_simp
  rfl

theorem V_bias : V m c main_v45 = padded (m ((c : Thread nD τ).loc main_arg5)) := by
  unfold V
  simp only [hostOps0, hostOps0_1, hostOps0_2, hostOps0_3, hostOps0_4,
    List.flatten_cons, List.flatten_nil, List.append_nil, List.cons_append, List.nil_append]
  after_reads_simp
  rfl

theorem V_gain1 : V m c main_v46 = shapeCast S1x1024 (m ((c : Thread nD τ).loc main_arg3)) shapeCasts_S1024_S1x1024 := by
  unfold V
  simp only [hostOps0, hostOps0_1, hostOps0_2, hostOps0_3, hostOps0_4,
    List.flatten_cons, List.flatten_nil, List.append_nil, List.cons_append, List.nil_append]
  after_reads_simp
  rfl

end Read

/-- The quotient by 64 of a lane, as the host's floor division computes it. -/
def laneWord (x : BitVec 32) : BitVec 32 :=
  Scalar.select
    (IntOp.andi
      (IntOp.cmpi CmpIPredicate.ne (if x = 0 then (0 : BitVec 32) else if x.msb = true then -1 else 1)
        (if (64#32 : BitVec 32) = 0 then (0 : BitVec 32) else if BitVec.msb (64#32 : BitVec 32) = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem laneWord_eq : ∀ x : Fin 512, laneWord (BitVec.ofNat 32 x.val) = BitVec.ofNat 32 (x.val / 64) := by
  decide +kernel

theorem laneHead_apply (x : Fin 512) : laneHead (ix1 x) = BitVec.ofNat 32 (x.val / 64) := by
  unfold laneHead
  pointwise
  exact laneWord_eq x

theorem eq_word : ∀ a b : Fin 8,
    IntOp.cmpi .eq (BitVec.ofNat 32 a.val) (BitVec.ofNat 32 b.val) = if a.val = b.val then 1#1 else 0#1 := by
  decide +kernel

/-- The weights of the per-head mean: one over 64 within a head, zero elsewhere. -/
theorem meanWeights_apply (x k : Fin 512) :
    meanWeights (ix2 x k) = if x.val / 64 = k.val / 64 then (((64 : ℝ)⁻¹ : ℝ) : EReal) else 0 := by
  unfold meanWeights
  pointwise
  rw [laneHead_apply, laneHead_apply, eq_word ⟨x.val / 64, by omega⟩ ⟨k.val / 64, by omega⟩]
  by_cases h : x.val / 64 = k.val / 64
  · rw [if_pos h, if_pos h]; exact ofBits_64th
  · rw [if_neg h, if_neg h]; rfl

theorem tiled_apply (g : FVec Ideal S64 .f32) (a : Fin 8) (d : Fin 64) :
    tiled g (ix2 0 ⟨64 * a.val + d.val, by omega⟩) = g (ix1 d) := by
  unfold tiled
  pointwise

theorem padded_head (b : FVec Ideal S8 .f32) (l : Fin 8) : padded b (ix2 0 ⟨l.val, by omega⟩) = b (ix1 l) := by
  unfold padded
  pointwise

theorem padded_pad (b : FVec Ideal S8 .f32) (l : Fin 120) : padded b (ix2 0 ⟨8 + l.val, by omega⟩) = 0 := by
  unfold padded
  pointwise

theorem joint_keyF (w : FVec Ideal S1024x3080 .f32) (k : Fin 1024) (l : Fin 512) :
    joint w (ix2 k ⟨512 + l.val, by omega⟩) = w (ix2 k ⟨512 + l.val, by omega⟩) := by
  unfold joint joinCols
  pointwise

theorem joint_valF (w : FVec Ideal S1024x3080 .f32) (k : Fin 1024) (l : Fin 512) :
    joint w (ix2 k ⟨1024 + l.val, by omega⟩) = w (ix2 k ⟨1024 + l.val, by omega⟩) := by
  unfold joint joinCols
  pointwise
  rw [dif_neg (by omega), dif_neg (by omega), dif_pos (by omega)]
  exact congrArg (fun n => w (ix2 k n)) (Fin.ext (by simp only; omega))

theorem joint_keyB (w : FVec Ideal S1024x3080 .f32) (k : Fin 1024) (l : Fin 512) :
    joint w (ix2 k ⟨2048 + l.val, by omega⟩) = w (ix2 k ⟨2056 + l.val, by omega⟩) := by
  unfold joint joinCols
  pointwise
  rw [dif_neg (by omega), dif_neg (by omega), dif_neg (by omega), dif_neg (by omega), dif_pos (by omega)]
  exact congrArg (fun n => w (ix2 k n)) (Fin.ext (by simp only; omega))

theorem joint_valB (w : FVec Ideal S1024x3080 .f32) (k : Fin 1024) (l : Fin 512) :
    joint w (ix2 k ⟨2560 + l.val, by omega⟩) = w (ix2 k ⟨2568 + l.val, by omega⟩) := by
  unfold joint joinCols
  pointwise
  rw [dif_neg (by omega), dif_neg (by omega), dif_neg (by omega), dif_neg (by omega), dif_neg (by omega), dif_pos (by omega)]
  exact congrArg (fun n => w (ix2 k n)) (Fin.ext (by simp only; omega))

theorem joint_gate (w : FVec Ideal S1024x3080 .f32) (k : Fin 1024) (l : Fin 8) :
    joint w (ix2 k ⟨3072 + l.val, by omega⟩) = w (ix2 k ⟨1536 + l.val, by omega⟩) := by
  unfold joint joinCols
  pointwise
  rw [dif_neg (by omega), dif_neg (by omega), dif_neg (by omega), dif_neg (by omega), dif_neg (by omega), dif_neg (by omega), dif_pos (by omega)]
  exact congrArg (fun n => w (ix2 k n)) (Fin.ext (by simp only; omega))

theorem joint_pad (w : FVec Ideal S1024x3080 .f32) (k : Fin 1024) (l : Fin 120) :
    joint w (ix2 k ⟨3080 + l.val, by omega⟩) = 0 := by
  unfold joint joinCols
  pointwise
  rw [dif_neg (by omega), dif_neg (by omega), dif_neg (by omega), dif_neg (by omega), dif_neg (by omega), dif_neg (by omega), dif_neg (by omega)]

end Cert.Proj
end
-- ==== Proof.ProjRead.lean ====
/-  The blocks the projections' body loads, read at an index of the arguments. -/
module

public import proofs.«01_k».proof.Proof.ProjHost
public import Idealize.ShloMosaic.Lib.VecWindow
public import Idealize.ShloMosaic.Lib.Pipeline.ValueKit

@[expose] public section

set_option maxRecDepth 16384

noncomputable section

namespace Cert.Proj

open Cert.Kernel4Ideal Cert.Kernel4Ideal.Gen Idealize.ShloMosaic Idealize.ShloMosaic.TcCoe Idealize.SL.Sem

theorem index0 : ∀ t : Fin cfg0.N, (cfg0.win (0 : Fin 22)).index t = ![t.val / 32, t.val % 32, 0] := by decide +kernel
theorem index1 : ∀ t : Fin cfg0.N, (cfg0.win (1 : Fin 22)).index t = ![t.val / 32, 0, 0] := by decide +kernel
theorem index2 : ∀ t : Fin cfg0.N, (cfg0.win (2 : Fin 22)).index t = ![t.val / 32, 0, 0] := by decide +kernel
theorem index3 : ∀ t : Fin cfg0.N, (cfg0.win (3 : Fin 22)).index t = ![0, 0] := by decide +kernel
theorem index4 : ∀ t : Fin cfg0.N, (cfg0.win (4 : Fin 22)).index t = ![0, 0] := by decide +kernel
theorem index5 : ∀ t : Fin cfg0.N, (cfg0.win (5 : Fin 22)).index t = ![0, 0] := by decide +kernel
theorem index7 : ∀ t : Fin cfg0.N, (cfg0.win (7 : Fin 22)).index t = ![0, 0] := by decide +kernel
theorem index9 : ∀ t : Fin cfg0.N, (cfg0.win (9 : Fin 22)).index t = ![0, 0] := by decide +kernel
theorem index10 : ∀ t : Fin cfg0.N, (cfg0.win (10 : Fin 22)).index t = ![0, 0] := by decide +kernel
theorem index14 : ∀ t : Fin cfg0.N, (cfg0.win (14 : Fin 22)).index t = ![t.val, 0, 0] := by decide +kernel
theorem index15 : ∀ t : Fin cfg0.N, (cfg0.win (15 : Fin 22)).index t = ![t.val, 0, 0] := by decide +kernel
theorem index16 : ∀ t : Fin cfg0.N, (cfg0.win (16 : Fin 22)).index t = ![t.val, 0] := by decide +kernel
theorem index20 : ∀ t : Fin cfg0.N, (cfg0.win (20 : Fin 22)).index t = ![t.val / 32, 0, 0] := by decide +kernel
theorem index21 : ∀ t : Fin cfg0.N, (cfg0.win (21 : Fin 22)).index t = ![t.val / 32, 0, 0] := by decide +kernel

variable (m : (ℓ : Loc nD τ sig) → Buf (Elt Ideal) ℓ) (c : Dev nD)

theorem readX (t : Fin cfg0.N) (b : Fin 2) (i : Fin 32) (ht : t.val = 32 * b.val + i.val) (r : Fin 512) (k : Fin 1024) :
    iblk m c 0 t (ix3 0 r k) = m ((c : Thread nD τ).loc main_arg0) (ix3 b ⟨512 * i.val + r.val, by omega⟩ k) := by
  have e := index0 t
  rw [show t.val / 32 = b.val by omega, show t.val % 32 = i.val by omega] at e
  rw [← V_main_arg0 m c]
  blk_ext [iblk, e]

theorem readShift (t : Fin cfg0.N) (b : Fin 2) (hb : t.val / 32 = b.val) (k : Fin 1024) :
    iblk m c 1 t (ix3 0 0 k) = m ((c : Thread nD τ).loc main_arg1) (ix3 b 0 k) := by
  have e := index1 t
  rw [hb] at e
  rw [← V_main_arg1 m c]
  blk_ext [iblk, e]

theorem readScale (t : Fin cfg0.N) (b : Fin 2) (hb : t.val / 32 = b.val) (k : Fin 1024) :
    iblk m c 2 t (ix3 0 0 k) = m ((c : Thread nD τ).loc main_arg2) (ix3 b 0 k) := by
  have e := index2 t
  rw [hb] at e
  rw [← V_main_arg2 m c]
  blk_ext [iblk, e]

theorem readGain (t : Fin cfg0.N) (k : Fin 1024) :
    iblk m c 3 t (ix2 0 k) = m ((c : Thread nD τ).loc main_arg3) (ix1 k) := by
  have h : iblk m c 3 t (ix2 0 k) = V m c main_v46 (ix2 0 k) := by blk_ext [iblk, index3 t]
  rw [h, V_gain1]
  pointwise

theorem readW (t : Fin cfg0.N) (k : Fin 1024) (l : Fin 3200) :
    iblk m c 4 t (ix2 k l) = joint (m ((c : Thread nD τ).loc main_arg4)) (ix2 k l) := by
  rw [← V_joint m c]
  blk_ext [iblk, index4 t]

theorem readMean (t : Fin cfg0.N) (x k : Fin 512) :
    iblk m c 5 t (ix2 x k) = if x.val / 64 = k.val / 64 then (((64 : ℝ)⁻¹ : ℝ) : EReal) else 0 := by
  rw [← meanWeights_apply x k, ← V_mean m c]
  blk_ext [iblk, index5 t]

theorem readGainF (t : Fin cfg0.N) (a : Fin 8) (d : Fin 64) :
    iblk m c 7 t (ix2 0 ⟨64 * a.val + d.val, by omega⟩) = m ((c : Thread nD τ).loc main_arg7) (ix1 d) := by
  rw [← tiled_apply (m ((c : Thread nD τ).loc main_arg7)) a d, ← V_gainF m c]
  blk_ext [iblk, index7 t]

theorem readGainB (t : Fin cfg0.N) (a : Fin 8) (d : Fin 64) :
    iblk m c 9 t (ix2 0 ⟨64 * a.val + d.val, by omega⟩) = m ((c : Thread nD τ).loc main_arg9) (ix1 d) := by
  rw [← tiled_apply (m ((c : Thread nD τ).loc main_arg9)) a d, ← V_gainB m c]
  blk_ext [iblk, index9 t]

theorem readBias (t : Fin cfg0.N) (l : Fin 128) :
    iblk m c 10 t (ix2 0 l) = padded (m ((c : Thread nD τ).loc main_arg5)) (ix2 0 l) := by
  rw [← V_bias m c]
  blk_ext [iblk, index10 t]

/-- The normalised, modulated row of the point's tile. -/
def hrow (b : Fin 2) (s : Fin 16384) : Fin 1024 → EReal :=
  hidden (fun j => m ((c : Thread nD τ).loc main_arg0) (ix3 b s j)) (fun j => m ((c : Thread nD τ).loc main_arg3) (ix1 j))
    (fun j => m ((c : Thread nD τ).loc main_arg2) (ix3 b 0 j)) (fun j => m ((c : Thread nD τ).loc main_arg1) (ix3 b 0 j))

/-- The rows of a point's tile. -/
abbrev hblk (t : Fin cfg0.N) : FVec Ideal S512x1024 .bf16 :=
  k0_pay3 (F := Ideal) (iblk m c 0 t) (iblk m c 3 t) (iblk m c 2 t) (iblk m c 1 t)

theorem hblk_apply (t : Fin cfg0.N) (b : Fin 2) (i : Fin 32) (ht : t.val = 32 * b.val + i.val) (r : Fin 512) (k : Fin 1024) :
    hblk m c t (ix2 r k) = hrow m c b ⟨512 * i.val + r.val, by omega⟩ k := by
  unfold hblk
  refine (hid_apply _ _ _ _ r k).trans ?_
  unfold hrow
  rw [funext fun j => readX m c t b i ht r j, funext fun j => readGain m c t j,
    funext fun j => readScale m c t b (by omega) j, funext fun j => readShift m c t b (by omega) j]

end Cert.Proj
end
-- ==== Proof.ProjPoint.lean ====
/-  What the projections' body leaves in each claimed window at a point, entry by entry, in the arguments. -/
module

public import proofs.«01_k».proof.Proof.ProjRead
public import proofs.«01_k».proof.Proof.ProjRun

@[expose] public section

set_option maxRecDepth 16384

noncomputable section

namespace Cert.Proj

open Cert.Kernel4Ideal Cert.Kernel4Ideal.Gen Idealize.ShloMosaic Idealize.ShloMosaic.TcCoe Idealize.SL.Sem

/-- One head's lanes, stored as a tile. -/
theorem head_piece (K : FVec Ideal S512x512 .f32) (o : ℕ) (x : S512x1x64.Idx) (r : Fin 512) (a : Fin 8) (d : Fin 64)
    (hr : r.val = (x 0).val) (ha : 64 * a.val = o) (hd : d.val = (x 2).val)
    (h1 : S512x512.Slices ![0, o] S512x64 := by decide) (h2 : S512x64.ShapeCasts S512x1x64 := by decide) :
    shapeCast S512x1x64 (extractStridedSlice S512x64 ![0, o] K h1) h2 x = K (ix2 r ⟨64 * a.val + d.val, by omega⟩) := by
  have hx : x = ix3 r 0 d := by
    have h1 : (x 1).val < 1 := (x 1).isLt
    funext b
    fin_cases b
    · exact Fin.ext hr.symm
    · exact Fin.ext (by show (x 1).val = 0; omega)
    · exact Fin.ext hd.symm
  have hb : o + d.val < 512 := by omega
  have key : shapeCast S512x1x64 (extractStridedSlice S512x64 ![0, o] K h1) h2 (ix3 r 0 d) = K (ix2 r ⟨o + d.val, hb⟩) := by
    pointwise
  refine (congrArg _ hx).trans (key.trans (congrArg (fun n => K (ix2 r n)) (Fin.ext ?_)))
  show o + d.val = 64 * a.val + d.val
  omega

theorem flatK_apply (K : FVec Ideal S512x512 .f32) (r l : Fin 512) : k0_pay1 (F := Ideal) K (ix3 0 r l) = K (ix2 r l) := by
  unfold k0_pay1
  pointwise

theorem flatV_apply (K : FVec Ideal S512x512 .f32) (r l : Fin 512) : k0_pay2 (F := Ideal) K (ix3 0 r l) = K (ix2 r l) := by
  unfold k0_pay2
  pointwise

variable (m : (ℓ : Loc nD τ sig) → Buf (Elt Ideal) ℓ) (c : Dev nD)

/-- A block of 512 columns of the joint weights. -/
theorem cols_apply (t : Fin cfg0.N) (o : ℕ) (inb : ∀ a, ![0, o] a + ![1024, 512] a ≤ S1024x3200.size a) (k : Fin 1024) (l : Fin 512) (ho : o + 512 ≤ 3200) :
    View.ld (iblk m c 4 t) (Rect.unit ![0, o] ![1024, 512] inb) (ix2 k l : S1024x512.Idx)
      = joint (m ((c : Thread nD τ).loc main_arg4)) (ix2 k ⟨o + l.val, by omega⟩) := by
  refine (View.ld_unit_apply_of (iblk m c 4 t) ![0, o] ![1024, 512] inb (ix2 k l : S1024x512.Idx) (ix2 k ⟨o + l.val, by omega⟩) ?_).trans
    (readW m c t k ⟨o + l.val, by omega⟩)
  intro a
  fin_cases a
  · show k.val = 0 + k.val; omega
  · rfl

/-- The gate's columns of the joint weights. -/
theorem gateCols_apply (t : Fin cfg0.N) (inb : ∀ a, ![0, 3072] a + ![1024, 128] a ≤ S1024x3200.size a) (k : Fin 1024) (l : Fin 128) :
    View.ld (iblk m c 4 t) (Rect.unit ![0, 3072] ![1024, 128] inb) (ix2 k l : S1024x128.Idx)
      = joint (m ((c : Thread nD τ).loc main_arg4)) (ix2 k ⟨3072 + l.val, by omega⟩) := by
  refine (View.ld_unit_apply_of (iblk m c 4 t) ![0, 3072] ![1024, 128] inb (ix2 k l : S1024x128.Idx) (ix2 k ⟨3072 + l.val, by omega⟩) ?_).trans
    (readW m c t k ⟨3072 + l.val, by omega⟩)
  intro a
  fin_cases a
  · show k.val = 0 + k.val; omega
  · rfl

/-- The projection of row `s` on column `l` of the weights. -/
def proj (b : Fin 2) (s : Fin 16384) (l : Fin 3080) : EReal :=
  prod (hrow m c b s) (fun k => m ((c : Thread nD τ).loc main_arg4) (ix2 k l))

/-- What the first kind of keys are made of, at a point. -/
abbrev keyF (t : Fin cfg0.N) : FVec Ideal S512x512 .f32 :=
  k0_pay7 (F := Ideal) (hblk m c t) (View.ld (iblk m c 4 t) (Rect.unit ![0, 512] ![1024, 512] inb_S1024x3200_S1024x512_0_512)) (iblk m c 5 t) (iblk m c 7 t)

abbrev valF (t : Fin cfg0.N) : FVec Ideal S512x512 .f32 :=
  k0_pay9 (F := Ideal) (hblk m c t) (View.ld (iblk m c 4 t) (Rect.unit ![0, 1024] ![1024, 512] inb_S1024x3200_S1024x512_0_1024))

set_option maxHeartbeats 1000000 in
theorem out14_eq (t : Fin cfg0.N) (r : Fin 512) (a : Fin 8) (d : Fin 64) :
    out14 m c t (ix3 r a d) = keyF m c t (ix2 r ⟨64 * a.val + d.val, by omega⟩) := by
  by_cases h : t.val % 32 = 31
  · rw [out14_B m c t h]
    unfold runB
    frame_out
    unfold keyF hblk k0_pay10
    generalize hK : k0_pay7 (F := Ideal) _ _ _ _ = K
    canon_tiles x h
    all_goals
      open_payloads
      have e0 : r.val = (x 0).val := h0
      have e2 : d.val = (x 2).val := h2
      have e1 : a.val = _ := h1
      exact head_piece K _ x r a d e0 (by omega) e2
  · rw [out14_A m c t h]
    unfold runA
    frame_out
    unfold keyF hblk k0_pay10
    generalize hK : k0_pay7 (F := Ideal) _ _ _ _ = K
    canon_tiles x h
    all_goals
      open_payloads
      have e0 : r.val = (x 0).val := h0
      have e2 : d.val = (x 2).val := h2
      have e1 : a.val = _ := h1
      exact head_piece K _ x r a d e0 (by omega) e2

set_option maxHeartbeats 1000000 in
theorem out15_eq (t : Fin cfg0.N) (r : Fin 512) (a : Fin 8) (d : Fin 64) :
    out15 m c t (ix3 r a d) = valF m c t (ix2 r ⟨64 * a.val + d.val, by omega⟩) := by
  by_cases h : t.val % 32 = 31
  · rw [out15_B m c t h]
    unfold runB
    frame_out
    unfold valF hblk k0_pay11
    generalize hK : k0_pay9 (F := Ideal) _ _ = K
    canon_tiles x h
    all_goals
      open_payloads
      have e0 : r.val = (x 0).val := h0
      have e2 : d.val = (x 2).val := h2
      have e1 : a.val = _ := h1
      exact head_piece K _ x r a d e0 (by omega) e2
  · rw [out15_A m c t h]
    unfold runA
    frame_out
    unfold valF hblk k0_pay11
    generalize hK : k0_pay9 (F := Ideal) _ _ = K
    canon_tiles x h
    all_goals
      open_payloads
      have e0 : r.val = (x 0).val := h0
      have e2 : d.val = (x 2).val := h2
      have e1 : a.val = _ := h1
      exact head_piece K _ x r a d e0 (by omega) e2

theorem out16_eq (t : Fin cfg0.N) :
    out16 m c t = k0_pay29 (F := Ideal) (hblk m c t) (View.ld (iblk m c 4 t) (Rect.unit ![0, 3072] ![1024, 128] inb_S1024x3200_S1024x128_0_3072)) (iblk m c 10 t) := by
  by_cases h : t.val % 32 = 31
  · rw [out16_B m c t h]
    unfold runB
    frame_out
    rfl
  · rw [out16_A m c t h]
    unfold runA
    frame_out
    rfl

theorem out20_eq (t : Fin cfg0.N) (h : t.val % 32 = 31) :
    out20 m c t = k0_pay1 (F := Ideal) (k0_pay33 (F := Ideal) (hblk m c t)
      (View.ld (iblk m c 4 t) (Rect.unit ![0, 2048] ![1024, 512] inb_S1024x3200_S1024x512_0_2048)) (iblk m c 5 t) (iblk m c 9 t)) := by
  rw [out20_B m c t h]
  unfold runB
  frame_out
  rfl

theorem out21_eq (t : Fin cfg0.N) (h : t.val % 32 = 31) :
    out21 m c t = k0_pay2 (F := Ideal) (k0_pay35 (F := Ideal) (hblk m c t)
      (View.ld (iblk m c 4 t) (Rect.unit ![0, 2560] ![1024, 512] inb_S1024x3200_S1024x512_0_2560))) := by
  rw [out21_B m c t h]
  unfold runB
  frame_out
  rfl

end Cert.Proj
end
-- ==== Proof.ProjArray.lean ====
/-  The arrays the projections' call writes, entry by entry, in the arguments. -/
module

public import proofs.«01_k».proof.Proof.ProjPoint

@[expose] public section

set_option maxRecDepth 16384

noncomputable section

namespace Cert.Proj

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- A tile's row times a column the body cut from the joint weights, where that column is column `j` of the weights given. -/
theorem prod_cols (t : Fin cfg0.N) (b : Fin 2) (i : Fin 32) (ht : t.val = 32 * b.val + i.val) (r : Fin 512) (o : ℕ)
    (inb : ∀ a, ![0, o] a + ![1024, 512] a ≤ S1024x3200.size a) (ho : o + 512 ≤ 3200) (l : Fin 512) (j : Fin 3080)
    (hw : ∀ k, joint (m ((c : Thread nD τ).loc main_arg4)) (ix2 k ⟨o + l.val, by omega⟩) = m ((c : Thread nD τ).loc main_arg4) (ix2 k j)) :
    prod (fun k => hblk m c t (ix2 r k)) (fun k => View.ld (iblk m c 4 t) (Rect.unit ![0, o] ![1024, 512] inb) (ix2 k l : S1024x512.Idx))
      = proj m c b ⟨512 * i.val + r.val, by omega⟩ j := by
  unfold proj
  rw [funext fun k => hblk_apply m c t b i ht r k, funext fun k => (cols_apply m c t o inb k l ho).trans (hw k)]

theorem val14 (t : Fin cfg0.N) (b : Fin 2) (i : Fin 32) (ht : t.val = 32 * b.val + i.val) (r : Fin 512) (a : Fin 8) (d : Fin 64) :
    out14 m c t (ix3 r a d)
      = normHead (fun e => proj m c b ⟨512 * i.val + r.val, by omega⟩ ⟨512 + (64 * a.val + e.val), by omega⟩)
          (fun e => m ((c : Thread nD τ).loc main_arg7) (ix1 e)) d := by
  refine (out14_eq m c t r a d).trans ((keyF_apply _ _ _ _ _ (readMean m c t) r a (readGainF m c t a) d).trans ?_)
  refine congrArg (fun p => normHead p _ d) (funext fun e => ?_)
  exact prod_cols m c t b i ht r 512 _ (by omega) ⟨64 * a.val + e.val, by omega⟩ _ fun k => joint_keyF _ k ⟨64 * a.val + e.val, by omega⟩

theorem val15 (t : Fin cfg0.N) (b : Fin 2) (i : Fin 32) (ht : t.val = 32 * b.val + i.val) (r : Fin 512) (a : Fin 8) (d : Fin 64) :
    out15 m c t (ix3 r a d) = proj m c b ⟨512 * i.val + r.val, by omega⟩ ⟨1024 + (64 * a.val + d.val), by omega⟩ := by
  refine (out15_eq m c t r a d).trans ((valF_apply _ _ r ⟨64 * a.val + d.val, by omega⟩).trans ?_)
  exact prod_cols m c t b i ht r 1024 _ (by omega) ⟨64 * a.val + d.val, by omega⟩ _ fun k => joint_valF _ k ⟨64 * a.val + d.val, by omega⟩

/-- The forget gate's lane, before the log sigmoid: a head's, or nothing. -/
def gateLane (b : Fin 2) (s : Fin 16384) (l : Fin 128) : EReal :=
  if h : l.val < 8 then proj m c b s ⟨1536 + l.val, by omega⟩ + m ((c : Thread nD τ).loc main_arg5) (ix1 ⟨l.val, h⟩) else 0

theorem val16 (t : Fin cfg0.N) (b : Fin 2) (i : Fin 32) (ht : t.val = 32 * b.val + i.val) (r : Fin 512) (l : Fin 128) :
    out16 m c t (ix2 r l) = logSig (gateLane m c b ⟨512 * i.val + r.val, by omega⟩ l) := by
  rw [out16_eq]
  refine (gate_apply _ _ _ r l).trans (congrArg logSig ?_)
  rw [funext fun k => hblk_apply m c t b i ht r k, funext fun k => gateCols_apply m c t _ k l, readBias]
  unfold gateLane
  by_cases h : l.val < 8
  · rw [dif_pos h]
    exact congrArg₂ (· + ·) (congrArg (prod _) (funext fun k => joint_gate _ k ⟨l.val, h⟩)) (padded_head _ ⟨l.val, h⟩)
  · rw [dif_neg h]
    obtain ⟨p, hp⟩ : ∃ p : Fin 120, l.val = 8 + p.val := ⟨⟨l.val - 8, by omega⟩, by simp only; omega⟩
    obtain rfl : l = ⟨8 + p.val, Nat.add_lt_add_left p.isLt 8⟩ := Fin.ext hp
    rw [padded_pad, add_zero]
    refine Finset.sum_eq_zero fun k _ => ?_
    refine Eq.trans (congrArg (hrow m c b _ k * ·) (?_ : _ = (0 : EReal))) (mul_zero _)
    exact (congrArg (fun n => joint _ (ix2 k n)) (Fin.ext (by simp only; omega))).trans (joint_pad _ k p)

theorem val20 (t : Fin cfg0.N) (b : Fin 2) (ht : t.val = 32 * b.val + 31) (r : Fin 512) (a : Fin 8) (d : Fin 64) :
    out20 m c t (ix3 0 r ⟨64 * a.val + d.val, by omega⟩)
      = normHead (fun e => proj m c b ⟨512 * 31 + r.val, by omega⟩ ⟨2056 + (64 * a.val + e.val), by omega⟩)
          (fun e => m ((c : Thread nD τ).loc main_arg9) (ix1 e)) d := by
  rw [out20_eq m c t (by omega)]
  refine (flatK_apply _ r _).trans ((keyB_apply _ _ _ _ _ (readMean m c t) r a (readGainB m c t a) d).trans ?_)
  refine congrArg (fun p => normHead p _ d) (funext fun e => ?_)
  exact prod_cols m c t b 31 ht r 2048 _ (by omega) ⟨64 * a.val + e.val, by omega⟩ _ fun k => joint_keyB _ k ⟨64 * a.val + e.val, by omega⟩

theorem val21 (t : Fin cfg0.N) (b : Fin 2) (ht : t.val = 32 * b.val + 31) (r l : Fin 512) :
    out21 m c t (ix3 0 r l) = proj m c b ⟨512 * 31 + r.val, by omega⟩ ⟨2568 + l.val, by omega⟩ := by
  rw [out21_eq m c t (by omega)]
  refine (flatV_apply _ r l).trans ((valB_apply _ _ r l).trans ?_)
  exact prod_cols m c t b 31 ht r 2560 _ (by omega) l _ fun k => joint_valB _ k l

/-- The point that works on tile `i` of batch `b`. -/
theorem point_of (b : Fin 2) (i : Fin 32) : ∃ t : Fin cfg0.N, t.val = 32 * b.val + i.val :=
  ⟨⟨32 * b.val + i.val, lt_of_lt_of_eq (by omega) N_0.symm⟩, rfl⟩

/-- Windows that move with every point write disjoint tiles. -/
theorem apart14 : ∀ t t' : Fin cfg0.N, (cfg0.win 14).flush t = true → (cfg0.win 14).flush t' = true → t ≠ t' →
    Disjoint ((cfg0.win 14).blk t).view.set ((cfg0.win 14).blk t').view.set := fun t t' _ _ hne =>
  (cfg0.win 14).disjoint_blk fun e => hne (Fin.ext (congrFun ((index14 t).symm.trans (e.trans (index14 t'))) 0))
theorem apart15 : ∀ t t' : Fin cfg0.N, (cfg0.win 15).flush t = true → (cfg0.win 15).flush t' = true → t ≠ t' →
    Disjoint ((cfg0.win 15).blk t).view.set ((cfg0.win 15).blk t').view.set := fun t t' _ _ hne =>
  (cfg0.win 15).disjoint_blk fun e => hne (Fin.ext (congrFun ((index15 t).symm.trans (e.trans (index15 t'))) 0))
theorem apart16 : ∀ t t' : Fin cfg0.N, (cfg0.win 16).flush t = true → (cfg0.win 16).flush t' = true → t ≠ t' →
    Disjoint ((cfg0.win 16).blk t).view.set ((cfg0.win 16).blk t').view.set := fun t t' _ _ hne =>
  (cfg0.win 16).disjoint_blk fun e => hne (Fin.ext (congrFun ((index16 t).symm.trans (e.trans (index16 t'))) 0))

/-- Windows that move with the batch are written back at its last point only. -/
theorem apart20 : ∀ t t' : Fin cfg0.N, (cfg0.win 20).flush t = true → (cfg0.win 20).flush t' = true → t ≠ t' →
    Disjoint ((cfg0.win 20).blk t).view.set ((cfg0.win 20).blk t').view.set := by
  intro t t' h h' hne
  refine (cfg0.win 20).disjoint_blk fun e => hne (Fin.ext ?_)
  have h1 := (flush0_20 t).1 h
  have h2 := (flush0_20 t').1 h'
  have h3 : t.val / 32 = t'.val / 32 := congrFun ((index20 t).symm.trans (e.trans (index20 t'))) 0
  omega
theorem apart21 : ∀ t t' : Fin cfg0.N, (cfg0.win 21).flush t = true → (cfg0.win 21).flush t' = true → t ≠ t' →
    Disjoint ((cfg0.win 21).blk t).view.set ((cfg0.win 21).blk t').view.set := by
  intro t t' h h' hne
  refine (cfg0.win 21).disjoint_blk fun e => hne (Fin.ext ?_)
  have h1 := (flush0_21 t).1 h
  have h2 := (flush0_21 t').1 h'
  have h3 : t.val / 32 = t'.val / 32 := congrFun ((index21 t).symm.trans (e.trans (index21 t'))) 0
  omega

/-- A tile written back is the buffer's, whole. -/
theorem cut14 (t : Fin cfg0.N) (P : S512x8x64.Idx → Elt Ideal .f32) (r : Fin 512) (a : Fin 8) (d : Fin 64) :
    (cfg0.win 14).cut (grid0.coords t) P (ix3 r a d) = P (ix3 r a d) := by
  refine congrArg P ?_; funext x; fin_cases x <;> rfl
theorem cut15 (t : Fin cfg0.N) (P : S512x8x64.Idx → Elt Ideal .f32) (r : Fin 512) (a : Fin 8) (d : Fin 64) :
    (cfg0.win 15).cut (grid0.coords t) P (ix3 r a d) = P (ix3 r a d) := by
  refine congrArg P ?_; funext x; fin_cases x <;> rfl
theorem cut16 (t : Fin cfg0.N) (P : S512x128.Idx → Elt Ideal .f32) (r : Fin 512) (l : Fin 128) :
    (cfg0.win 16).cut (grid0.coords t) P (ix2 r l) = P (ix2 r l) := by
  refine congrArg P ?_; funext x; fin_cases x <;> rfl
theorem cut20 (t : Fin cfg0.N) (P : S1x512x512.Idx → Elt Ideal .f32) (r l : Fin 512) :
    (cfg0.win 20).cut (grid0.coords t) P (ix3 0 r l) = P (ix3 0 r l) := by
  refine congrArg P ?_; funext x; fin_cases x <;> rfl
theorem cut21 (t : Fin cfg0.N) (P : S1x512x512.Idx → Elt Ideal .f32) (r l : Fin 512) :
    (cfg0.win 21).cut (grid0.coords t) P (ix3 0 r l) = P (ix3 0 r l) := by
  refine congrArg P ?_; funext x; fin_cases x <;> rfl

/-- The arrays read through a tile. -/
theorem read14 (t : Fin cfg0.N) (b : Fin 2) (i : Fin 32) (ht : t.val = 32 * b.val + i.val) (A : S32768x8x64.Idx → Elt Ideal .f32) (r : Fin 512) (a : Fin 8) (d : Fin 64) :
    ((cfg0.win 14).blk t).view.read (Elt Ideal) A (ix3 r a d) = A (ix3 ⟨16384 * b.val + (512 * i.val + r.val), by omega⟩ a d) := by
  blk_ext [index14 t]
theorem read15 (t : Fin cfg0.N) (b : Fin 2) (i : Fin 32) (ht : t.val = 32 * b.val + i.val) (A : S32768x8x64.Idx → Elt Ideal .f32) (r : Fin 512) (a : Fin 8) (d : Fin 64) :
    ((cfg0.win 15).blk t).view.read (Elt Ideal) A (ix3 r a d) = A (ix3 ⟨16384 * b.val + (512 * i.val + r.val), by omega⟩ a d) := by
  blk_ext [index15 t]
theorem read16 (t : Fin cfg0.N) (b : Fin 2) (i : Fin 32) (ht : t.val = 32 * b.val + i.val) (A : S32768x128.Idx → Elt Ideal .f32) (r : Fin 512) (l : Fin 128) :
    ((cfg0.win 16).blk t).view.read (Elt Ideal) A (ix2 r l) = A (ix2 ⟨16384 * b.val + (512 * i.val + r.val), by omega⟩ l) := by
  blk_ext [index16 t]
theorem read20 (t : Fin cfg0.N) (b : Fin 2) (ht : t.val = 32 * b.val + 31) (A : S2x512x512.Idx → Elt Ideal .f32) (r l : Fin 512) :
    ((cfg0.win 20).blk t).view.read (Elt Ideal) A (ix3 0 r l) = A (ix3 b r l) := by
  blk_ext [index20 t]
theorem read21 (t : Fin cfg0.N) (b : Fin 2) (ht : t.val = 32 * b.val + 31) (A : S2x512x512.Idx → Elt Ideal .f32) (r l : Fin 512) :
    ((cfg0.win 21).blk t).view.read (Elt Ideal) A (ix3 0 r l) = A (ix3 b r l) := by
  blk_ext [index21 t]

/-- A tile of an array, after the run, is what its point left. -/
theorem tile14 (t : Fin cfg0.N) : ((cfg0.win 14).blk t).view.read (Elt Ideal) ((dats m 0 c).arrAt 14 cfg0.N) = (cfg0.win 14).cut (grid0.coords t) (out14 m c t) := by
  refine ((dats m 0 c).read_blk_arrAt_eq_flushed 14 apart14 cfg0.N t t.isLt (flush0_14 t)).trans ?_
  show (cfg0.win 14).cut (grid0.coords t) ((dats m 0 c).after 14 t) = _
  rw [after_14]
theorem tile15 (t : Fin cfg0.N) : ((cfg0.win 15).blk t).view.read (Elt Ideal) ((dats m 0 c).arrAt 15 cfg0.N) = (cfg0.win 15).cut (grid0.coords t) (out15 m c t) := by
  refine ((dats m 0 c).read_blk_arrAt_eq_flushed 15 apart15 cfg0.N t t.isLt (flush0_15 t)).trans ?_
  show (cfg0.win 15).cut (grid0.coords t) ((dats m 0 c).after 15 t) = _
  rw [after_15]
theorem tile16 (t : Fin cfg0.N) : ((cfg0.win 16).blk t).view.read (Elt Ideal) ((dats m 0 c).arrAt 16 cfg0.N) = (cfg0.win 16).cut (grid0.coords t) (out16 m c t) := by
  refine ((dats m 0 c).read_blk_arrAt_eq_flushed 16 apart16 cfg0.N t t.isLt (flush0_16 t)).trans ?_
  show (cfg0.win 16).cut (grid0.coords t) ((dats m 0 c).after 16 t) = _
  rw [after_16]
theorem tile20 (t : Fin cfg0.N) (h : t.val % 32 = 31) : ((cfg0.win 20).blk t).view.read (Elt Ideal) ((dats m 0 c).arrAt 20 cfg0.N) = (cfg0.win 20).cut (grid0.coords t) (out20 m c t) := by
  refine ((dats m 0 c).read_blk_arrAt_eq_flushed 20 apart20 cfg0.N t t.isLt ((flush0_20 t).2 h)).trans ?_
  show (cfg0.win 20).cut (grid0.coords t) ((dats m 0 c).after 20 t) = _
  rw [after_20]
theorem tile21 (t : Fin cfg0.N) (h : t.val % 32 = 31) : ((cfg0.win 21).blk t).view.read (Elt Ideal) ((dats m 0 c).arrAt 21 cfg0.N) = (cfg0.win 21).cut (grid0.coords t) (out21 m c t) := by
  refine ((dats m 0 c).read_blk_arrAt_eq_flushed 21 apart21 cfg0.N t t.isLt ((flush0_21 t).2 h)).trans ?_
  show (cfg0.win 21).cut (grid0.coords t) ((dats m 0 c).after 21 t) = _
  rw [after_21]

/-- The first kind of keys: row `s` of batch `b`, head `a`, lane `d`. -/
theorem array14 (b : Fin 2) (s : Fin 16384) (a : Fin 8) (d : Fin 64) :
    (dats m 0 c).arrAt 14 cfg0.N (ix3 (⟨16384 * b.val + s.val, by omega⟩ : Fin 32768) a d)
      = normHead (fun e => proj m c b s ⟨512 + (64 * a.val + e.val), by omega⟩) (fun e => m ((c : Thread nD τ).loc main_arg7) (ix1 e)) d := by
  obtain ⟨i, r, hs⟩ : ∃ (i : Fin 32) (r : Fin 512), s = ⟨512 * i.val + r.val, by omega⟩ :=
    ⟨⟨s.val / 512, by omega⟩, ⟨s.val % 512, by omega⟩, Fin.ext (by simp only; omega)⟩
  obtain ⟨t, ht⟩ := point_of b i
  subst hs
  exact (read14 t b i ht _ r a d).symm.trans ((congrFun (tile14 m c t) (ix3 r a d)).trans ((cut14 t _ r a d).trans (val14 m c t b i ht r a d)))

/-- The first kind of values. -/
theorem array15 (b : Fin 2) (s : Fin 16384) (a : Fin 8) (d : Fin 64) :
    (dats m 0 c).arrAt 15 cfg0.N (ix3 (⟨16384 * b.val + s.val, by omega⟩ : Fin 32768) a d)
      = proj m c b s ⟨1024 + (64 * a.val + d.val), by omega⟩ := by
  obtain ⟨i, r, hs⟩ : ∃ (i : Fin 32) (r : Fin 512), s = ⟨512 * i.val + r.val, by omega⟩ :=
    ⟨⟨s.val / 512, by omega⟩, ⟨s.val % 512, by omega⟩, Fin.ext (by simp only; omega)⟩
  obtain ⟨t, ht⟩ := point_of b i
  subst hs
  exact (read15 t b i ht _ r a d).symm.trans ((congrFun (tile15 m c t) (ix3 r a d)).trans ((cut15 t _ r a d).trans (val15 m c t b i ht r a d)))

/-- The forget gate's logarithms. -/
theorem array16 (b : Fin 2) (s : Fin 16384) (l : Fin 128) :
    (dats m 0 c).arrAt 16 cfg0.N (ix2 (⟨16384 * b.val + s.val, by omega⟩ : Fin 32768) l) = logSig (gateLane m c b s l) := by
  obtain ⟨i, r, hs⟩ : ∃ (i : Fin 32) (r : Fin 512), s = ⟨512 * i.val + r.val, by omega⟩ :=
    ⟨⟨s.val / 512, by omega⟩, ⟨s.val % 512, by omega⟩, Fin.ext (by simp only; omega)⟩
  obtain ⟨t, ht⟩ := point_of b i
  subst hs
  exact (read16 t b i ht _ r l).symm.trans ((congrFun (tile16 m c t) (ix2 r l)).trans ((cut16 t _ r l).trans (val16 m c t b i ht r l)))

/-- The second kind of keys, of a batch's last tile. -/
theorem array20 (b : Fin 2) (r : Fin 512) (a : Fin 8) (d : Fin 64) :
    (dats m 0 c).arrAt 20 cfg0.N (ix3 b r (⟨64 * a.val + d.val, by omega⟩ : Fin 512))
      = normHead (fun e => proj m c b ⟨512 * 31 + r.val, by omega⟩ ⟨2056 + (64 * a.val + e.val), by omega⟩)
          (fun e => m ((c : Thread nD τ).loc main_arg9) (ix1 e)) d := by
  obtain ⟨t, ht⟩ := point_of b 31
  exact (read20 t b ht _ r _).symm.trans ((congrFun (tile20 m c t (by have := ht; simp at this; omega)) (ix3 0 r _)).trans ((cut20 t _ r _).trans (val20 m c t b ht r a d)))

/-- The second kind of values, of a batch's last tile. -/
theorem array21 (b : Fin 2) (r l : Fin 512) :
    (dats m 0 c).arrAt 21 cfg0.N (ix3 b r l) = proj m c b ⟨512 * 31 + r.val, by omega⟩ ⟨2568 + l.val, by omega⟩ := by
  obtain ⟨t, ht⟩ := point_of b 31
  exact (read21 t b ht _ r l).symm.trans ((congrFun (tile21 m c t (by have := ht; simp at this; omega)) (ix3 0 r l)).trans ((cut21 t _ r l).trans (val21 m c t b ht r l)))

end Cert.Proj
end
-- ==== Proof.ProjReference.lean ====
/-  The reference of the projection, entry by entry. -/
module

public import proofs.«01_k».proof.Proof.ProjRow
public import proofs.«01_k».proof.Proof.Gen.Reference4Ideal.Run

@[expose] public section

set_option maxRecDepth 16384

noncomputable section

namespace Cert.Proj.Ref

open Cert.Reference4Ideal Cert.Reference4Ideal.Gen Idealize.ShloMosaic Idealize.ShloMosaic.TcCoe Idealize.SL.Sem

/-- The normalised, scaled and shifted rows. -/
def refHid (x : FVec Ideal S2x16384x1024 .f32) (sh sc : FVec Ideal S2x1x1024 .f32) (g : FVec Ideal S1024 .f32) : FVec Ideal S2x16384x1024 .f32 :=
  addf (mulf (mulf (mulf x (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf x x) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))) (broadcastInDim S2x16384x1024 ![0, 1, 2] bcast_S2x1x1024_S2x16384x1024_0_1_2 (addf (broadcastInDim S2x1x1024 ![] bcast_S_S2x1x1024 (constant S_ .f32 0x3F800000#32)) sc))) (broadcastInDim S2x16384x1024 ![0, 1, 2] bcast_S2x1x1024_S2x16384x1024_0_1_2 sh)

/-- The rows times the joint projection. -/
def refP (h : FVec Ideal S2x16384x1024 .f32) (w : FVec Ideal S1024x3080 .f32) : FVec Ideal S2x16384x3080 .f32 :=
  Host.dotGeneral dot_S2x16384x1024_S1024x3080_S2x16384x3080_2_0_01_1_n_n none h w

/-- A head's normalised values. -/
def refNorm (t : FVec Ideal S2x16384x8x64 .f32) (g : FVec Ideal S64 .f32) : FVec Ideal S2x16384x8x64 .f32 :=
  mulf (mulf t (broadcastInDim S2x16384x8x64 ![0, 1, 2, 3] bcast_S2x16384x8x1_S2x16384x8x64_0_1_2_3 (Host.rsqrt (addf (Host.divf (broadcastInDim S2x16384x8x1 ![0, 1, 2] bcast_S2x16384x8_S2x16384x8x1_0_1_2 (Host.reduceAdd (mulf t t) (constant S_ .f32 0x00000000#32) reducesTo_S2x16384x8x64_S2x16384x8_d3 h_S_)) (broadcastInDim S2x16384x8x1 ![] bcast_S_S2x16384x8x1 (constant S_ .f32 0x42800000#32))) (broadcastInDim S2x16384x8x1 ![] bcast_S_S2x16384x8x1 (constant S_ .f32 0x358637BD#32)))))) (broadcastInDim S2x16384x8x64 ![0, 1, 2, 3] bcast_S1x1x1x64_S2x16384x8x64_0_1_2_3 (broadcastInDim S1x1x1x64 ![3] bcast_S64_S1x1x1x64_3 g))

/-- The forget gate's inputs, padded to whole lanes. -/
def refGate (p : FVec Ideal S2x16384x3080 .f32) (b : FVec Ideal S8 .f32) : FVec Ideal S2x16384x128 .f32 :=
  pad S2x16384x128 ![0, 0, 0] ![0, 0, 120] ![0, 0, 0] (addf (extractStridedSlice S2x16384x8 ![0, 0, 1536] p slices_S2x16384x3080_S2x16384x8_0_0_1536) (broadcastInDim S2x16384x8 ![0, 1, 2] bcast_S1x1x8_S2x16384x8_0_1_2 (broadcastInDim S1x1x8 ![2] bcast_S8_S1x1x8_2 b))) (sitofp .f32 (constantI S_ 32 0#32)) pads_S2x16384x8_S2x16384x128_000_000_01200 h_S_

/-- The logarithm of a sigmoid. -/
def refLog (f : FVec Ideal S2x16384x128 .f32) : FVec Ideal S2x16384x128 .f32 :=
  Host.negf (select (cmpf .une (subf (Host.negf f) (broadcastInDim S2x16384x128 ![] bcast_S_S2x16384x128 (constant S_ .f32 0x00000000#32))) (subf (Host.negf f) (broadcastInDim S2x16384x128 ![] bcast_S_S2x16384x128 (constant S_ .f32 0x00000000#32)))) (addf (Host.negf f) (broadcastInDim S2x16384x128 ![] bcast_S_S2x16384x128 (constant S_ .f32 0x00000000#32))) (addf (maximumf (Host.negf f) (broadcastInDim S2x16384x128 ![] bcast_S_S2x16384x128 (constant S_ .f32 0x00000000#32))) (Host.log1p (Host.exp (Host.negf (Host.absf (subf (Host.negf f) (broadcastInDim S2x16384x128 ![] bcast_S_S2x16384x128 (constant S_ .f32 0x00000000#32)))))))))

theorem refHid_apply (x : FVec Ideal S2x16384x1024 .f32) (sh sc : FVec Ideal S2x1x1024 .f32) (g : FVec Ideal S1024 .f32) (b : Fin 2) (s : Fin 16384) (k : Fin 1024) :
    refHid x sh sc g (ix3 b s k) = hidden (fun j => x (ix3 b s j)) (fun j => g (ix1 j)) (fun j => sc (ix3 b 0 j)) (fun j => sh (ix3 b 0 j)) k := by
  unfold refHid hidden eps
  pointwise

theorem refP_apply (h : FVec Ideal S2x16384x1024 .f32) (w : FVec Ideal S1024x3080 .f32) (b : Fin 2) (s : Fin 16384) (l : Fin 3080) :
    refP h w (ix3 b s l) = prod (fun k => h (ix3 b s k)) (fun k => w (ix2 k l)) := by
  unfold refP prod
  pointwise

theorem refNorm_apply (t : FVec Ideal S2x16384x8x64 .f32) (g : FVec Ideal S64 .f32) (b : Fin 2) (s : Fin 16384) (a : Fin 8) (d : Fin 64) :
    refNorm t g (ix4 b s a d) = normHead (fun e => t (ix4 b s a e)) (fun e => g (ix1 e)) d := by
  unfold refNorm normHead eps
  pointwise

/-- The forget gate's inputs of the eight heads. -/
theorem refGate_head (p : FVec Ideal S2x16384x3080 .f32) (v : FVec Ideal S8 .f32) (b : Fin 2) (s : Fin 16384) (l : Fin 8) :
    refGate p v (ix3 b s ⟨l.val, by omega⟩) = p (ix3 b s ⟨1536 + l.val, by omega⟩) + v (ix1 l) := by
  unfold refGate
  pointwise

/-- The lanes past the heads. -/
theorem refGate_pad (p : FVec Ideal S2x16384x3080 .f32) (v : FVec Ideal S8 .f32) (b : Fin 2) (s : Fin 16384) (l : Fin 128) (h : 8 ≤ l.val) :
    refGate p v (ix3 b s l) = 0 := by
  unfold refGate
  pointwise
  rw [dif_neg (by omega)]
  show (((0#32 : BitVec 32).toInt : ℝ) : EReal) = 0
  simp

theorem refLog_apply (f : FVec Ideal S2x16384x128 .f32) (b : Fin 2) (s : Fin 16384) (l : Fin 128) :
    refLog f (ix3 b s l) = logSig (f (ix3 b s l)) := by
  unfold refLog
  pointwise
  exact neg_softplus _ _

end Cert.Proj.Ref
end
-- ==== Proof.ProjOut.lean ====
/-  The five results of the projection's reference, entry by entry. -/
module

public import proofs.«01_k».proof.Proof.ProjReference

@[expose] public section

set_option maxRecDepth 16384

noncomputable section

namespace Cert.Proj.Ref

open Cert.Reference4Ideal Cert.Reference4Ideal.Gen Idealize.ShloMosaic Idealize.ShloMosaic.TcCoe Idealize.SL.Sem

/-- 512 columns from `o` on, as heads. -/
def heads (o : ℕ) (p : FVec Ideal S2x16384x3080 .f32) (h : S2x16384x3080.Slices ![0, 0, o] S2x16384x512) : FVec Ideal S2x16384x8x64 .f32 :=
  shapeCast S2x16384x8x64 (extractStridedSlice S2x16384x512 ![0, 0, o] p h) shapeCasts_S2x16384x512_S2x16384x8x64

theorem heads_apply (o : ℕ) (ho : o + 512 ≤ 3080) (p : FVec Ideal S2x16384x3080 .f32) (h : S2x16384x3080.Slices ![0, 0, o] S2x16384x512)
    (b : Fin 2) (s : Fin 16384) (a : Fin 8) (d : Fin 64) :
    heads o p h (ix4 b s a d) = p (ix3 b s ⟨o + (64 * a.val + d.val), by omega⟩) := by
  unfold heads
  pointwise
  exact congrArg (fun n => p (ix3 b s n)) (Fin.ext (by simp only; omega))

/-- All rows of both batches. -/
def flat (t : FVec Ideal S2x16384x8x64 .f32) : FVec Ideal S32768x8x64 .f32 := shapeCast S32768x8x64 t shapeCasts_S2x16384x8x64_S32768x8x64

theorem flat_apply (t : FVec Ideal S2x16384x8x64 .f32) (b : Fin 2) (s : Fin 16384) (a : Fin 8) (d : Fin 64) :
    flat t (ix3 ⟨16384 * b.val + s.val, by omega⟩ a d) = t (ix4 b s a d) := by
  unfold flat
  pointwise

def flatLog (t : FVec Ideal S2x16384x128 .f32) : FVec Ideal S32768x128 .f32 := shapeCast S32768x128 t shapeCasts_S2x16384x128_S32768x128

theorem flatLog_apply (t : FVec Ideal S2x16384x128 .f32) (b : Fin 2) (s : Fin 16384) (l : Fin 128) :
    flatLog t (ix2 ⟨16384 * b.val + s.val, by omega⟩ l) = t (ix3 b s l) := by
  unfold flatLog
  pointwise

/-- The last 512 rows of each batch, heads side by side. -/
def lastRows (t : FVec Ideal S2x16384x8x64 .f32) : FVec Ideal S2x512x512 .f32 :=
  shapeCast S2x512x512 (extractStridedSlice S2x512x8x64 ![0, 15872, 0, 0] t slices_S2x16384x8x64_S2x512x8x64_0_15872_0_0) shapeCasts_S2x512x8x64_S2x512x512

theorem lastRows_apply (t : FVec Ideal S2x16384x8x64 .f32) (b : Fin 2) (r : Fin 512) (a : Fin 8) (d : Fin 64) :
    lastRows t (ix3 b r ⟨64 * a.val + d.val, by omega⟩) = t (ix4 b ⟨512 * 31 + r.val, by omega⟩ a d) := by
  unfold lastRows
  pointwise

variable (m : (ℓ : Loc nD τ sig) → Buf (Elt Ideal) ℓ) (c : Dev nD)

/-- The rows times the joint projection, of the reference's arguments. -/
def proj : FVec Ideal S2x16384x3080 .f32 :=
  refP (refHid (m ((c.tc : Thread nD τ).loc main_arg0)) (m ((c.tc : Thread nD τ).loc main_arg1)) (m ((c.tc : Thread nD τ).loc main_arg2))
    (m ((c.tc : Thread nD τ).loc main_arg3))) (m ((c.tc : Thread nD τ).loc main_arg4))

theorem res60 : Value.res_main_v60 m c = flat (refNorm (heads 512 (proj m c) slices_S2x16384x3080_S2x16384x512_0_0_512) (m ((c.tc : Thread nD τ).loc main_arg7))) := rfl
theorem res62 : Value.res_main_v62 m c = flatLog (refLog (refGate (proj m c) (m ((c.tc : Thread nD τ).loc main_arg5)))) := rfl
theorem res64 : Value.res_main_v64 m c = lastRows (refNorm (heads 2056 (proj m c) slices_S2x16384x3080_S2x16384x512_0_0_2056) (m ((c.tc : Thread nD τ).loc main_arg9))) := rfl

end Cert.Proj.Ref
end
-- ==== Proof.ProjResult.lean ====
/-  The arrays the projections' call writes are the reference's results. -/
module

public import proofs.«01_k».proof.Proof.ProjSame
public import proofs.«01_k».proof.Proof.ProjArray
public import proofs.«01_k».proof.Proof.ProjOut

@[expose] public section

set_option maxRecDepth 16384

noncomputable section

namespace Cert.Proj

open Cert.Kernel4Ideal Cert.Kernel4Ideal.Gen Idealize.ShloMosaic Idealize.ShloMosaic.TcCoe Idealize.SL.Sem

/-- Two launches, of the kernel and of the reference, hold the same arguments. -/
structure Same (m : (ℓ : Loc nD τ sig) → Buf (Elt Ideal) ℓ)
    (m' : (ℓ : Loc Cert.Reference4Ideal.nD Cert.Reference4Ideal.τ Cert.Reference4Ideal.sig) → Buf (Elt Ideal) ℓ) (c : Dev nD) : Prop where
  h0 : m' ((c.tc : Thread Cert.Reference4Ideal.nD Cert.Reference4Ideal.τ).loc Cert.Reference4Ideal.main_arg0) = m ((c : Thread nD τ).loc main_arg0)
  h1 : m' ((c.tc : Thread Cert.Reference4Ideal.nD Cert.Reference4Ideal.τ).loc Cert.Reference4Ideal.main_arg1) = m ((c : Thread nD τ).loc main_arg1)
  h2 : m' ((c.tc : Thread Cert.Reference4Ideal.nD Cert.Reference4Ideal.τ).loc Cert.Reference4Ideal.main_arg2) = m ((c : Thread nD τ).loc main_arg2)
  h3 : m' ((c.tc : Thread Cert.Reference4Ideal.nD Cert.Reference4Ideal.τ).loc Cert.Reference4Ideal.main_arg3) = m ((c : Thread nD τ).loc main_arg3)
  h4 : m' ((c.tc : Thread Cert.Reference4Ideal.nD Cert.Reference4Ideal.τ).loc Cert.Reference4Ideal.main_arg4) = m ((c : Thread nD τ).loc main_arg4)
  h5 : m' ((c.tc : Thread Cert.Reference4Ideal.nD Cert.Reference4Ideal.τ).loc Cert.Reference4Ideal.main_arg5) = m ((c : Thread nD τ).loc main_arg5)
  h7 : m' ((c.tc : Thread Cert.Reference4Ideal.nD Cert.Reference4Ideal.τ).loc Cert.Reference4Ideal.main_arg7) = m ((c : Thread nD τ).loc main_arg7)
  h9 : m' ((c.tc : Thread Cert.Reference4Ideal.nD Cert.Reference4Ideal.τ).loc Cert.Reference4Ideal.main_arg9) = m ((c : Thread nD τ).loc main_arg9)

variable (m : (ℓ : Loc nD τ sig) → Buf (Elt Ideal) ℓ)
  (m' : (ℓ : Loc Cert.Reference4Ideal.nD Cert.Reference4Ideal.τ Cert.Reference4Ideal.sig) → Buf (Elt Ideal) ℓ) (c : Dev nD)

theorem proj_eq (e : Same m m' c) (b : Fin 2) (s : Fin 16384) (l : Fin 3080) : Ref.proj m' c (ix3 b s l) = proj m c b s l := by
  unfold Ref.proj
  rw [e.h0, e.h1, e.h2, e.h3, e.h4]
  refine (Ref.refP_apply _ _ b s l).trans ?_
  unfold proj
  refine congrArg (fun h => prod h _) (funext fun k => ?_)
  exact Ref.refHid_apply _ _ _ _ b s k

/-- Every row of both batches is a row of one of them. -/
theorem row_split (n : Fin 32768) : ∃ (b : Fin 2) (s : Fin 16384), n = ⟨16384 * b.val + s.val, by omega⟩ :=
  ⟨⟨n.val / 16384, by omega⟩, ⟨n.val % 16384, by omega⟩, Fin.ext (by simp only; omega)⟩

/-- Every lane belongs to a head. -/
theorem lane_split (n : Fin 512) : ∃ (a : Fin 8) (d : Fin 64), n = ⟨64 * a.val + d.val, by omega⟩ :=
  ⟨⟨n.val / 64, by omega⟩, ⟨n.val % 64, by omega⟩, Fin.ext (by simp only; omega)⟩

theorem keys_eq (e : Same m m' c) : Cert.Reference4Ideal.Value.res_main_v60 m' c = (dats m 0 c).arrAt 14 cfg0.N := by
  funext x
  obtain ⟨n, a, d, rfl⟩ : ∃ (n : Fin 32768) (a : Fin 8) (d : Fin 64), x = ix3 n a d := ⟨x 0, x 1, x 2, by funext i; fin_cases i <;> rfl⟩
  obtain ⟨b, s, rfl⟩ := row_split n
  refine Eq.trans ?_ (array14 m c b s a d).symm
  rw [Ref.res60, Ref.flat_apply, Ref.refNorm_apply, e.h7]
  refine congrArg (fun p => normHead p _ d) (funext fun i => ?_)
  exact (Ref.heads_apply 512 (by omega) _ _ b s a i).trans (proj_eq m m' c e b s _)

theorem values_eq (e : Same m m' c) : Ref.flat (Ref.heads 1024 (Ref.proj m' c) Cert.Reference4Ideal.Gen.slices_S2x16384x3080_S2x16384x512_0_0_1024)
    = (dats m 0 c).arrAt 15 cfg0.N := by
  funext x
  obtain ⟨n, a, d, rfl⟩ : ∃ (n : Fin 32768) (a : Fin 8) (d : Fin 64), x = ix3 n a d := ⟨x 0, x 1, x 2, by funext i; fin_cases i <;> rfl⟩
  obtain ⟨b, s, rfl⟩ := row_split n
  refine Eq.trans ?_ (array15 m c b s a d).symm
  exact (Ref.flat_apply _ b s a d).trans ((Ref.heads_apply 1024 (by omega) _ _ b s a d).trans (proj_eq m m' c e b s _))

theorem gates_eq (e : Same m m' c) : Cert.Reference4Ideal.Value.res_main_v62 m' c = (dats m 0 c).arrAt 16 cfg0.N := by
  funext x
  obtain ⟨n, l, rfl⟩ : ∃ (n : Fin 32768) (l : Fin 128), x = ix2 n l := ⟨x 0, x 1, by funext i; fin_cases i <;> rfl⟩
  obtain ⟨b, s, rfl⟩ := row_split n
  refine Eq.trans ?_ (array16 m c b s l).symm
  rw [Ref.res62, Ref.flatLog_apply, Ref.refLog_apply]
  refine congrArg logSig ?_
  unfold gateLane
  by_cases h : l.val < 8
  · rw [dif_pos h]
    refine (Ref.refGate_head _ _ b s ⟨l.val, h⟩).trans ?_
    rw [proj_eq m m' c e, e.h5]
  · rw [dif_neg h]
    exact Ref.refGate_pad _ _ b s l (by omega)

theorem lastKeys_eq (e : Same m m' c) : Cert.Reference4Ideal.Value.res_main_v64 m' c = (dats m 0 c).arrAt 20 cfg0.N := by
  funext x
  obtain ⟨b, r, l, rfl⟩ : ∃ (b : Fin 2) (r l : Fin 512), x = ix3 b r l := ⟨x 0, x 1, x 2, by funext i; fin_cases i <;> rfl⟩
  obtain ⟨a, d, rfl⟩ := lane_split l
  refine Eq.trans ?_ (array20 m c b r a d).symm
  rw [Ref.res64, Ref.lastRows_apply, Ref.refNorm_apply, e.h9]
  refine congrArg (fun p => normHead p _ d) (funext fun i => ?_)
  exact (Ref.heads_apply 2056 (by omega) _ _ b _ a i).trans (proj_eq m m' c e b _ _)

theorem lastValues_eq (e : Same m m' c) : Ref.lastRows (Ref.heads 2568 (Ref.proj m' c) Cert.Reference4Ideal.Gen.slices_S2x16384x3080_S2x16384x512_0_0_2568)
    = (dats m 0 c).arrAt 21 cfg0.N := by
  funext x
  obtain ⟨b, r, l, rfl⟩ : ∃ (b : Fin 2) (r l : Fin 512), x = ix3 b r l := ⟨x 0, x 1, x 2, by funext i; fin_cases i <;> rfl⟩
  obtain ⟨a, d, rfl⟩ := lane_split l
  refine Eq.trans ?_ (array21 m c b r ⟨64 * a.val + d.val, by omega⟩).symm
  exact (Ref.lastRows_apply _ b r a d).trans ((Ref.heads_apply 2568 (by omega) _ _ b _ a d).trans (proj_eq m m' c e b _ _))

/-- The call runs, leaves the five arrays as above and its arguments as they were. -/
theorem run (g : Dev nD → PrngReg) : θ_run defs (onTc (τ := τ) (main (F := Ideal))) ⟨m, fun _ => 0, g⟩ (fun r => ∀ c : Dev nD,
      r.2.mem ((c.tc : Thread nD τ).loc main_v47_3) = (dats m 0 c).arrAt 14 cfg0.N
      ∧ r.2.mem ((c.tc : Thread nD τ).loc main_v47_4) = (dats m 0 c).arrAt 15 cfg0.N
      ∧ r.2.mem ((c.tc : Thread nD τ).loc main_v47_5) = (dats m 0 c).arrAt 16 cfg0.N
      ∧ r.2.mem ((c.tc : Thread nD τ).loc main_v47_9) = (dats m 0 c).arrAt 20 cfg0.N
      ∧ r.2.mem ((c.tc : Thread nD τ).loc main_v47_10) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c).1 14, (h.1 c).1 15, (h.1 c).1 16, (h.1 c).1 20, (h.1 c).1 21, h.2 c⟩)
    (θ_run_and (run_main m g) (unchanged m g))

end Cert.Proj
end
-- ==== Proof.lean ====
/-  The proof of `Cert.Claim` (proofs.«01_k».proof.Defs): of each of the four calls, the frames of the kernel, of its
    idealization and of the reference, what idealizing changed, and the equality of the two idealized programs. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Reference2Ideal
public import proofs.«01_k».proof.Proof.Gen.Reference2Ideal.Run
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Pre_tables
public import proofs.«01_k».proof.Proof.Gen.On_active
public import proofs.«01_k».proof.Proof.Result
public import proofs.«01_k».proof.Proof.ExpertsResult
public import proofs.«01_k».proof.Proof.DenseResult
public import proofs.«01_k».proof.Proof.ProjResult
public import Idealize.ShloMosaic.Adequacy
public import Idealize.ShloMosaic.Init

@[expose] public section

noncomputable section

namespace Cert.Proof

open Idealize.ShloMosaic Idealize.SL.Sem

/-- The reference runs, leaves its arguments as they were, and ends with every semaphore counter at zero. -/
theorem ref_frame : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The idealized kernel and the reference, from equal finite arguments, both run and end with the same result. -/
theorem value : Cert.algebraic_KernelIdeal_ReferenceIdeal_pre_finite := by
  intro m g m' g' hpre hag
  refine ⟨fun c => (Cert.KernelIdeal.Gen.dats m 0 c).arrAt 8 Cert.KernelIdeal.cfg0.N, ?_, ?_⟩
  · exact (θ_run Cert.KernelIdeal.defs _ _).mono (fun r h c => h c) (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3⟩ := hag c
    rw [Cert.Band.Ref.res_eq, h0, h1, h2, h3]
    exact (Cert.Band.array_eq m c (hpre c)).symm

/-- The experts' reference runs, leaves its arguments as they were, and ends with every semaphore counter at zero. -/
theorem experts_ref_frame : Cert.quiescent_Reference2Ideal := by
  intro m g _
  exact (θ_run Cert.Reference2Ideal.defs _ _).mono
    (fun r h => ⟨fun c => (h c).2, Idealize.ShloMosaic.sem_eq_zero_of_no_sems (by decide) r.2⟩)
    (Cert.Reference2Ideal.Value.run (F := Ideal) m g)

/-- The experts' call as printed runs, from tables in range. -/
theorem experts_frame_printed : Cert.quiescent_Kernel2 := by
  intro m g hpre
  obtain ⟨T, hp⟩ := Cert.Experts.pinned_of_pre_printed m hpre
  exact Cert.Experts.frame_printed T m g hp

/-- The idealized experts' call runs, from tables in range. -/
theorem experts_frame : Cert.quiescent_Kernel2Ideal := by
  intro m g hpre
  obtain ⟨T, hp⟩ := Cert.Experts.pinned_of_pre m hpre
  exact Cert.Experts.frame (F := Ideal) T m g hp

/-- The idealized experts' call and its reference, from equal arguments with tables in range, both run and end with the
    same result in every row of a tile in use. -/
theorem experts_value : Cert.algebraic_Kernel2Ideal_Reference2Ideal_on_active := by
  intro m g m' g' hpre hag
  obtain ⟨T, hp⟩ := Cert.Experts.pinned_of_pre m hpre
  refine ⟨fun c => (Cert.Experts.dats (F := Ideal) T m g 0 c).arrAt (4 : Fin 5) (Cert.Experts.cfgA (F := Ideal) T).N, ?_, ?_⟩
  · exact (θ_run Cert.Kernel2Ideal.defs _ _).mono (fun r h c => ⟨fun i _ => congrFun ((h.1 c).1 (4 : Fin 5)) i, h.2 c⟩)
      (θ_run_and (Cert.Experts.run_main (F := Ideal) T m g hp) (Cert.Experts.unchanged (F := Ideal) T m g hp))
  · refine (θ_run Cert.Reference2Ideal.defs _ _).mono (fun r h c => ⟨fun i hi => ?_, (h c).2⟩)
      (Cert.Reference2Ideal.Value.run (F := Ideal) m' g')
    obtain ⟨h0, h1, h2, h3, h4, h5, h6⟩ := hag c
    have e : r.2.mem ((c.tc : Thread Cert.Reference2Ideal.nD Cert.Reference2Ideal.τ).loc Cert.Reference2Ideal.main_v36)
        = Cert.Experts.Ref.refOut (m' ((c.tc : Thread Cert.Reference2Ideal.nD Cert.Reference2Ideal.τ).loc Cert.Reference2Ideal.main_arg0))
            (m' ((c.tc : Thread Cert.Reference2Ideal.nD Cert.Reference2Ideal.τ).loc Cert.Reference2Ideal.main_arg2))
            (m' ((c.tc : Thread Cert.Reference2Ideal.nD Cert.Reference2Ideal.τ).loc Cert.Reference2Ideal.main_arg3))
            (m' ((c.tc : Thread Cert.Reference2Ideal.nD Cert.Reference2Ideal.τ).loc Cert.Reference2Ideal.main_arg4))
            (m' ((c.tc : Thread Cert.Reference2Ideal.nD Cert.Reference2Ideal.τ).loc Cert.Reference2Ideal.main_arg5))
            (m' ((c.tc : Thread Cert.Reference2Ideal.nD Cert.Reference2Ideal.τ).loc Cert.Reference2Ideal.main_arg6)) := (h c).1
    rw [h0, h2, h3, h4, h5, h6] at e
    exact (congrFun e i).trans (Cert.Experts.array_eq_active T m g c hp i hi)

/-- The dense reference runs, leaves its arguments as they were, and ends with every semaphore counter at zero. -/
theorem dense_ref_frame : Cert.quiescent_Reference3Ideal := by
  intro m g _
  exact (θ_run Cert.Reference3Ideal.defs _ _).mono
    (fun r h => ⟨fun c => (h c).2, Idealize.ShloMosaic.sem_eq_zero_of_no_sems (by decide) r.2⟩)
    (Cert.Reference3Ideal.Value.run (F := Ideal) m g)

/-- The idealized dense call and its reference, from equal arguments, both run and end with the same result. -/
theorem dense_value : Cert.algebraic_Kernel3Ideal_Reference3Ideal := by
  intro m g m' g' _ hag
  refine ⟨fun c => Cert.Kernel3Ideal.Value.G10 m c, ?_, ?_⟩
  · exact (θ_run Cert.Kernel3Ideal.defs _ _).mono (fun r h c => h c) (Cert.Kernel3Ideal.Value.run (F := Ideal) m g)
  · refine (θ_run Cert.Reference3Ideal.defs _ _).mono (fun r h c => ⟨?_, (h c).2⟩)
      (Cert.Reference3Ideal.Value.run (F := Ideal) m' g')
    obtain ⟨h0, h1, h2, h3, h4, h5, h6, h7, h8, h9⟩ := hag c
    have e : r.2.mem ((c.tc : Thread Cert.Reference3Ideal.nD Cert.Reference3Ideal.τ).loc Cert.Reference3Ideal.main_v25)
        = Cert.Dense.Ref.refOut (m' ((c.tc : Thread Cert.Reference3Ideal.nD Cert.Reference3Ideal.τ).loc Cert.Reference3Ideal.main_arg0))
            (m' ((c.tc : Thread Cert.Reference3Ideal.nD Cert.Reference3Ideal.τ).loc Cert.Reference3Ideal.main_arg1))
            (m' ((c.tc : Thread Cert.Reference3Ideal.nD Cert.Reference3Ideal.τ).loc Cert.Reference3Ideal.main_arg2))
            (m' ((c.tc : Thread Cert.Reference3Ideal.nD Cert.Reference3Ideal.τ).loc Cert.Reference3Ideal.main_arg3))
            (m' ((c.tc : Thread Cert.Reference3Ideal.nD Cert.Reference3Ideal.τ).loc Cert.Reference3Ideal.main_arg4))
            (m' ((c.tc : Thread Cert.Reference3Ideal.nD Cert.Reference3Ideal.τ).loc Cert.Reference3Ideal.main_arg5))
            (m' ((c.tc : Thread Cert.Reference3Ideal.nD Cert.Reference3Ideal.τ).loc Cert.Reference3Ideal.main_arg6))
            (m' ((c.tc : Thread Cert.Reference3Ideal.nD Cert.Reference3Ideal.τ).loc Cert.Reference3Ideal.main_arg7))
            (m' ((c.tc : Thread Cert.Reference3Ideal.nD Cert.Reference3Ideal.τ).loc Cert.Reference3Ideal.main_arg8))
            (m' ((c.tc : Thread Cert.Reference3Ideal.nD Cert.Reference3Ideal.τ).loc Cert.Reference3Ideal.main_arg9)) := (h c).1
    rw [h0, h1, h2, h3, h4, h5, h6, h7, h8, h9] at e
    exact e.trans (Cert.Dense.array_eq m c)

/-- The projections' reference runs, leaves its arguments as they were, and ends with every semaphore counter at zero. -/
theorem proj_ref_frame : Cert.quiescent_Reference4Ideal := by
  intro m g _
  exact (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m g)

/-- The idealized projections' call and its reference, from equal arguments, both run and end with the same five results. -/
theorem proj_value : Cert.algebraic_Kernel4Ideal_Reference4Ideal := by
  intro m g m' g' _ hag
  refine ⟨fun c => (Cert.Proj.dats m 0 c).arrAt 14 Cert.Kernel4Ideal.cfg0.N, fun c => (Cert.Proj.dats m 0 c).arrAt 15 Cert.Kernel4Ideal.cfg0.N,
    fun c => (Cert.Proj.dats m 0 c).arrAt 16 Cert.Kernel4Ideal.cfg0.N, fun c => (Cert.Proj.dats m 0 c).arrAt 20 Cert.Kernel4Ideal.cfg0.N,
    fun c => (Cert.Proj.dats m 0 c).arrAt 21 Cert.Kernel4Ideal.cfg0.N, Cert.Proj.run m g, ?_⟩
  refine (θ_run Cert.Reference4Ideal.defs _ _).mono (fun r h c => ?_) (Cert.Reference4Ideal.Value.run (F := Ideal) m' g')
  obtain ⟨h0, h1, h2, h3, h4, h5, h6, h7, h8, h9⟩ := hag c
  have e : Cert.Proj.Same m m' c := ⟨h0, h1, h2, h3, h4, h5, h7, h9⟩
  obtain ⟨r0, r1, r2, r3, r4, ha⟩ := h c
  exact ⟨r0.trans (Cert.Proj.keys_eq m m' c e), r1.trans (Cert.Proj.values_eq m m' c e), r2.trans (Cert.Proj.gates_eq m m' c e),
    r3.trans (Cert.Proj.lastKeys_eq m m' c e), r4.trans (Cert.Proj.lastValues_eq m m' c e), ha⟩

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_tables.Gen.facts,
    Cert.On_active.Gen.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    experts_frame_printed,
    experts_frame,
    experts_ref_frame,
    fun m ρ _ => experts_ref_frame m ρ trivial,
    fun m ρ _ => Cert.Kernel3.Gen.frame m ρ,
    fun m ρ _ => Cert.Kernel3Ideal.Gen.frame m ρ,
    dense_ref_frame,
    fun m ρ _ => Cert.Proj.frame_printed m ρ,
    fun m ρ _ => Cert.Proj.frame m ρ,
    proj_ref_frame,
    IdealRules.named_const.statement Cert.KernelIdeal.κ "mask" .f32 0xF149F2CA#32 ⊥ rfl,
    value,
    trivial,
    experts_value,
    trivial,
    dense_value,
    trivial,
    proj_value⟩

end Cert.Proof

end
